-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite_router [hPre_finite_router : Cert.Pre_finite_router.Facts] (m : (ℓ : Loc Cert.RouterIdeal.nD Cert.RouterIdeal.τ Cert.RouterIdeal.sig) → Buf (Elt Ideal) ℓ) : Prop :=
  ∀ c : Dev Cert.RouterIdeal.nD,
    (Cert.Pre_finite_router.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))).1 = (fun _ => 1#1)
    ∧ (Cert.Pre_finite_router.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))).2.1 = (fun _ => 1#1)
    ∧ (Cert.Pre_finite_router.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))).2.2 = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_finite_router [hPre_finite_router : Cert.Pre_finite_router.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_finite_router.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2))).1 = (fun _ => 1#1)
    ∧ (Cert.Pre_finite_router.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2))).2.1 = (fun _ => 1#1)
    ∧ (Cert.Pre_finite_router.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2))).2.2 = (fun _ => 1#1)

def Pre_SsdPre (m : (ℓ : Loc Cert.SsdPre.nD Cert.SsdPre.τ Cert.SsdPre.sig) → Buf (Elt Bits) ℓ) : Prop :=
  True

def Pre_SsdPreIdeal (m : (ℓ : Loc Cert.SsdPreIdeal.nD Cert.SsdPreIdeal.τ Cert.SsdPreIdeal.sig) → Buf (Elt Ideal) ℓ) : Prop :=
  True

def Pre_SsdPreRefIdeal (m : (ℓ : Loc Cert.SsdPreRefIdeal.nD Cert.SsdPreRefIdeal.τ Cert.SsdPreRefIdeal.sig) → Buf (Elt Ideal) ℓ) : Prop :=
  True

def Pre_HyenaPre (m : (ℓ : Loc Cert.HyenaPre.nD Cert.HyenaPre.τ Cert.HyenaPre.sig) → Buf (Elt Bits) ℓ) : Prop :=
  True

def Pre_HyenaPreIdeal (m : (ℓ : Loc Cert.HyenaPreIdeal.nD Cert.HyenaPreIdeal.τ Cert.HyenaPreIdeal.sig) → Buf (Elt Ideal) ℓ) : Prop :=
  True

def Pre_HyenaPreRefIdeal (m : (ℓ : Loc Cert.HyenaPreRefIdeal.nD Cert.HyenaPreRefIdeal.τ Cert.HyenaPreRefIdeal.sig) → Buf (Elt Ideal) ℓ) : Prop :=
  True

def Pre_Filter (m : (ℓ : Loc Cert.Filter.nD Cert.Filter.τ Cert.Filter.sig) → Buf (Elt Bits) ℓ) : Prop :=
  True

def Pre_FilterIdeal (m : (ℓ : Loc Cert.FilterIdeal.nD Cert.FilterIdeal.τ Cert.FilterIdeal.sig) → Buf (Elt Ideal) ℓ) : Prop :=
  True

def Pre_FilterRefIdeal (m : (ℓ : Loc Cert.FilterRefIdeal.nD Cert.FilterRefIdeal.τ Cert.FilterRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterIdeal_pre_finite_router [hRouterIdeal : Cert.RouterIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite_router m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2))
      ∧ r.2.sem = fun _ => 0)

def quiescent_RouterRefIdeal_pre_finite_router [hRouterRefIdeal : Cert.RouterRefIdeal.Facts] [hPre_finite_router : Cert.Pre_finite_router.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_finite_router m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2))
      ∧ r.2.sem = fun _ => 0)

def quiescent_SsdPre [hSsdPre : Cert.SsdPre.Facts] : Prop :=
  ∀ (m : (ℓ : Loc Cert.SsdPre.nD Cert.SsdPre.τ Cert.SsdPre.sig) → Buf (Elt Bits) ℓ) (g : Dev Cert.SsdPre.nD → PrngReg), Pre_SsdPre m →
    θ_run (Cert.SsdPre.defs (F := Bits)) (onTc (τ := Cert.SsdPre.τ) (Cert.SsdPre.main (F := Bits))) ⟨m, fun _ => 0, g⟩ (fun r => (∀ c : Dev Cert.SsdPre.nD,
      r.2.mem ((c.tc : Thread Cert.SsdPre.nD Cert.SsdPre.τ).loc Cert.SsdPre.main_arg0) = m ((c.tc : Thread Cert.SsdPre.nD Cert.SsdPre.τ).loc Cert.SsdPre.main_arg0)
      ∧ r.2.mem ((c.tc : Thread Cert.SsdPre.nD Cert.SsdPre.τ).loc Cert.SsdPre.main_arg1) = m ((c.tc : Thread Cert.SsdPre.nD Cert.SsdPre.τ).loc Cert.SsdPre.main_arg1)
      ∧ r.2.mem ((c.tc : Thread Cert.SsdPre.nD Cert.SsdPre.τ).loc Cert.SsdPre.main_arg2) = m ((c.tc : Thread Cert.SsdPre.nD Cert.SsdPre.τ).loc Cert.SsdPre.main_arg2))
      ∧ r.2.sem = fun _ => 0)

def quiescent_SsdPreIdeal [hSsdPreIdeal : Cert.SsdPreIdeal.Facts] : Prop :=
  ∀ (m : (ℓ : Loc Cert.SsdPreIdeal.nD Cert.SsdPreIdeal.τ Cert.SsdPreIdeal.sig) → Buf (Elt Ideal) ℓ) (g : Dev Cert.SsdPreIdeal.nD → PrngReg), Pre_SsdPreIdeal m →
    θ_run (Cert.SsdPreIdeal.defs (F := Ideal)) (onTc (τ := Cert.SsdPreIdeal.τ) (Cert.SsdPreIdeal.main (F := Ideal))) ⟨m, fun _ => 0, g⟩ (fun r => (∀ c : Dev Cert.SsdPreIdeal.nD,
      r.2.mem ((c.tc : Thread Cert.SsdPreIdeal.nD Cert.SsdPreIdeal.τ).loc Cert.SsdPreIdeal.main_arg0) = m ((c.tc : Thread Cert.SsdPreIdeal.nD Cert.SsdPreIdeal.τ).loc Cert.SsdPreIdeal.main_arg0)
      ∧ r.2.mem ((c.tc : Thread Cert.SsdPreIdeal.nD Cert.SsdPreIdeal.τ).loc Cert.SsdPreIdeal.main_arg1) = m ((c.tc : Thread Cert.SsdPreIdeal.nD Cert.SsdPreIdeal.τ).loc Cert.SsdPreIdeal.main_arg1)
      ∧ r.2.mem ((c.tc : Thread Cert.SsdPreIdeal.nD Cert.SsdPreIdeal.τ).loc Cert.SsdPreIdeal.main_arg2) = m ((c.tc : Thread Cert.SsdPreIdeal.nD Cert.SsdPreIdeal.τ).loc Cert.SsdPreIdeal.main_arg2))
      ∧ r.2.sem = fun _ => 0)

def quiescent_SsdPreRefIdeal [hSsdPreRefIdeal : Cert.SsdPreRefIdeal.Facts] : Prop :=
  ∀ (m : (ℓ : Loc Cert.SsdPreRefIdeal.nD Cert.SsdPreRefIdeal.τ Cert.SsdPreRefIdeal.sig) → Buf (Elt Ideal) ℓ) (g : Dev Cert.SsdPreRefIdeal.nD → PrngReg), Pre_SsdPreRefIdeal m →
    θ_run (Cert.SsdPreRefIdeal.defs (F := Ideal)) (onTc (τ := Cert.SsdPreRefIdeal.τ) (Cert.SsdPreRefIdeal.main (F := Ideal))) ⟨m, fun _ => 0, g⟩ (fun r => (∀ c : Dev Cert.SsdPreRefIdeal.nD,
      r.2.mem ((c.tc : Thread Cert.SsdPreRefIdeal.nD Cert.SsdPreRefIdeal.τ).loc Cert.SsdPreRefIdeal.main_arg0) = m ((c.tc : Thread Cert.SsdPreRefIdeal.nD Cert.SsdPreRefIdeal.τ).loc Cert.SsdPreRefIdeal.main_arg0)
      ∧ r.2.mem ((c.tc : Thread Cert.SsdPreRefIdeal.nD Cert.SsdPreRefIdeal.τ).loc Cert.SsdPreRefIdeal.main_arg1) = m ((c.tc : Thread Cert.SsdPreRefIdeal.nD Cert.SsdPreRefIdeal.τ).loc Cert.SsdPreRefIdeal.main_arg1)
      ∧ r.2.mem ((c.tc : Thread Cert.SsdPreRefIdeal.nD Cert.SsdPreRefIdeal.τ).loc Cert.SsdPreRefIdeal.main_arg2) = m ((c.tc : Thread Cert.SsdPreRefIdeal.nD Cert.SsdPreRefIdeal.τ).loc Cert.SsdPreRefIdeal.main_arg2))
      ∧ r.2.sem = fun _ => 0)

def quiescent_HyenaPre [hHyenaPre : Cert.HyenaPre.Facts] : Prop :=
  ∀ (m : (ℓ : Loc Cert.HyenaPre.nD Cert.HyenaPre.τ Cert.HyenaPre.sig) → Buf (Elt Bits) ℓ) (g : Dev Cert.HyenaPre.nD → PrngReg), Pre_HyenaPre m →
    θ_run (Cert.HyenaPre.defs (F := Bits)) (onTc (τ := Cert.HyenaPre.τ) (Cert.HyenaPre.main (F := Bits))) ⟨m, fun _ => 0, g⟩ (fun r => (∀ c : Dev Cert.HyenaPre.nD,
      r.2.mem ((c.tc : Thread Cert.HyenaPre.nD Cert.HyenaPre.τ).loc Cert.HyenaPre.main_arg0) = m ((c.tc : Thread Cert.HyenaPre.nD Cert.HyenaPre.τ).loc Cert.HyenaPre.main_arg0)
      ∧ r.2.mem ((c.tc : Thread Cert.HyenaPre.nD Cert.HyenaPre.τ).loc Cert.HyenaPre.main_arg1) = m ((c.tc : Thread Cert.HyenaPre.nD Cert.HyenaPre.τ).loc Cert.HyenaPre.main_arg1)
      ∧ r.2.mem ((c.tc : Thread Cert.HyenaPre.nD Cert.HyenaPre.τ).loc Cert.HyenaPre.main_arg2) = m ((c.tc : Thread Cert.HyenaPre.nD Cert.HyenaPre.τ).loc Cert.HyenaPre.main_arg2))
      ∧ r.2.sem = fun _ => 0)

def quiescent_HyenaPreIdeal [hHyenaPreIdeal : Cert.HyenaPreIdeal.Facts] : Prop :=
  ∀ (m : (ℓ : Loc Cert.HyenaPreIdeal.nD Cert.HyenaPreIdeal.τ Cert.HyenaPreIdeal.sig) → Buf (Elt Ideal) ℓ) (g : Dev Cert.HyenaPreIdeal.nD → PrngReg), Pre_HyenaPreIdeal m →
    θ_run (Cert.HyenaPreIdeal.defs (F := Ideal)) (onTc (τ := Cert.HyenaPreIdeal.τ) (Cert.HyenaPreIdeal.main (F := Ideal))) ⟨m, fun _ => 0, g⟩ (fun r => (∀ c : Dev Cert.HyenaPreIdeal.nD,
      r.2.mem ((c.tc : Thread Cert.HyenaPreIdeal.nD Cert.HyenaPreIdeal.τ).loc Cert.HyenaPreIdeal.main_arg0) = m ((c.tc : Thread Cert.HyenaPreIdeal.nD Cert.HyenaPreIdeal.τ).loc Cert.HyenaPreIdeal.main_arg0)
      ∧ r.2.mem ((c.tc : Thread Cert.HyenaPreIdeal.nD Cert.HyenaPreIdeal.τ).loc Cert.HyenaPreIdeal.main_arg1) = m ((c.tc : Thread Cert.HyenaPreIdeal.nD Cert.HyenaPreIdeal.τ).loc Cert.HyenaPreIdeal.main_arg1)
      ∧ r.2.mem ((c.tc : Thread Cert.HyenaPreIdeal.nD Cert.HyenaPreIdeal.τ).loc Cert.HyenaPreIdeal.main_arg2) = m ((c.tc : Thread Cert.HyenaPreIdeal.nD Cert.HyenaPreIdeal.τ).loc Cert.HyenaPreIdeal.main_arg2))
      ∧ r.2.sem = fun _ => 0)

def quiescent_HyenaPreRefIdeal [hHyenaPreRefIdeal : Cert.HyenaPreRefIdeal.Facts] : Prop :=
  ∀ (m : (ℓ : Loc Cert.HyenaPreRefIdeal.nD Cert.HyenaPreRefIdeal.τ Cert.HyenaPreRefIdeal.sig) → Buf (Elt Ideal) ℓ) (g : Dev Cert.HyenaPreRefIdeal.nD → PrngReg), Pre_HyenaPreRefIdeal m →
    θ_run (Cert.HyenaPreRefIdeal.defs (F := Ideal)) (onTc (τ := Cert.HyenaPreRefIdeal.τ) (Cert.HyenaPreRefIdeal.main (F := Ideal))) ⟨m, fun _ => 0, g⟩ (fun r => (∀ c : Dev Cert.HyenaPreRefIdeal.nD,
      r.2.mem ((c.tc : Thread Cert.HyenaPreRefIdeal.nD Cert.HyenaPreRefIdeal.τ).loc Cert.HyenaPreRefIdeal.main_arg0) = m ((c.tc : Thread Cert.HyenaPreRefIdeal.nD Cert.HyenaPreRefIdeal.τ).loc Cert.HyenaPreRefIdeal.main_arg0)
      ∧ r.2.mem ((c.tc : Thread Cert.HyenaPreRefIdeal.nD Cert.HyenaPreRefIdeal.τ).loc Cert.HyenaPreRefIdeal.main_arg1) = m ((c.tc : Thread Cert.HyenaPreRefIdeal.nD Cert.HyenaPreRefIdeal.τ).loc Cert.HyenaPreRefIdeal.main_arg1)
      ∧ r.2.mem ((c.tc : Thread Cert.HyenaPreRefIdeal.nD Cert.HyenaPreRefIdeal.τ).loc Cert.HyenaPreRefIdeal.main_arg2) = m ((c.tc : Thread Cert.HyenaPreRefIdeal.nD Cert.HyenaPreRefIdeal.τ).loc Cert.HyenaPreRefIdeal.main_arg2))
      ∧ r.2.sem = fun _ => 0)

def quiescent_Filter [hFilter : Cert.Filter.Facts] : Prop :=
  ∀ (m : (ℓ : Loc Cert.Filter.nD Cert.Filter.τ Cert.Filter.sig) → Buf (Elt Bits) ℓ) (g : Dev Cert.Filter.nD → PrngReg), Pre_Filter m →
    θ_run (Cert.Filter.defs (F := Bits)) (onTc (τ := Cert.Filter.τ) (Cert.Filter.main (F := Bits))) ⟨m, fun _ => 0, g⟩ (fun r => (∀ c : Dev Cert.Filter.nD,
      r.2.mem ((c.tc : Thread Cert.Filter.nD Cert.Filter.τ).loc Cert.Filter.main_arg0) = m ((c.tc : Thread Cert.Filter.nD Cert.Filter.τ).loc Cert.Filter.main_arg0)
      ∧ r.2.mem ((c.tc : Thread Cert.Filter.nD Cert.Filter.τ).loc Cert.Filter.main_arg1) = m ((c.tc : Thread Cert.Filter.nD Cert.Filter.τ).loc Cert.Filter.main_arg1)
      ∧ r.2.mem ((c.tc : Thread Cert.Filter.nD Cert.Filter.τ).loc Cert.Filter.main_arg2) = m ((c.tc : Thread Cert.Filter.nD Cert.Filter.τ).loc Cert.Filter.main_arg2)
      ∧ r.2.mem ((c.tc : Thread Cert.Filter.nD Cert.Filter.τ).loc Cert.Filter.main_arg3) = m ((c.tc : Thread Cert.Filter.nD Cert.Filter.τ).loc Cert.Filter.main_arg3)
      ∧ r.2.mem ((c.tc : Thread Cert.Filter.nD Cert.Filter.τ).loc Cert.Filter.main_arg4) = m ((c.tc : Thread Cert.Filter.nD Cert.Filter.τ).loc Cert.Filter.main_arg4)
      ∧ r.2.mem ((c.tc : Thread Cert.Filter.nD Cert.Filter.τ).loc Cert.Filter.main_arg5) = m ((c.tc : Thread Cert.Filter.nD Cert.Filter.τ).loc Cert.Filter.main_arg5)
      ∧ r.2.mem ((c.tc : Thread Cert.Filter.nD Cert.Filter.τ).loc Cert.Filter.main_arg6) = m ((c.tc : Thread Cert.Filter.nD Cert.Filter.τ).loc Cert.Filter.main_arg6)
      ∧ r.2.mem ((c.tc : Thread Cert.Filter.nD Cert.Filter.τ).loc Cert.Filter.main_arg7) = m ((c.tc : Thread Cert.Filter.nD Cert.Filter.τ).loc Cert.Filter.main_arg7))
      ∧ r.2.sem = fun _ => 0)

def quiescent_FilterIdeal [hFilterIdeal : Cert.FilterIdeal.Facts] : Prop :=
  ∀ (m : (ℓ : Loc Cert.FilterIdeal.nD Cert.FilterIdeal.τ Cert.FilterIdeal.sig) → Buf (Elt Ideal) ℓ) (g : Dev Cert.FilterIdeal.nD → PrngReg), Pre_FilterIdeal m →
    θ_run (Cert.FilterIdeal.defs (F := Ideal)) (onTc (τ := Cert.FilterIdeal.τ) (Cert.FilterIdeal.main (F := Ideal))) ⟨m, fun _ => 0, g⟩ (fun r => (∀ c : Dev Cert.FilterIdeal.nD,
      r.2.mem ((c.tc : Thread Cert.FilterIdeal.nD Cert.FilterIdeal.τ).loc Cert.FilterIdeal.main_arg0) = m ((c.tc : Thread Cert.FilterIdeal.nD Cert.FilterIdeal.τ).loc Cert.FilterIdeal.main_arg0)
      ∧ r.2.mem ((c.tc : Thread Cert.FilterIdeal.nD Cert.FilterIdeal.τ).loc Cert.FilterIdeal.main_arg1) = m ((c.tc : Thread Cert.FilterIdeal.nD Cert.FilterIdeal.τ).loc Cert.FilterIdeal.main_arg1)
      ∧ r.2.mem ((c.tc : Thread Cert.FilterIdeal.nD Cert.FilterIdeal.τ).loc Cert.FilterIdeal.main_arg2) = m ((c.tc : Thread Cert.FilterIdeal.nD Cert.FilterIdeal.τ).loc Cert.FilterIdeal.main_arg2)
      ∧ r.2.mem ((c.tc : Thread Cert.FilterIdeal.nD Cert.FilterIdeal.τ).loc Cert.FilterIdeal.main_arg3) = m ((c.tc : Thread Cert.FilterIdeal.nD Cert.FilterIdeal.τ).loc Cert.FilterIdeal.main_arg3)
      ∧ r.2.mem ((c.tc : Thread Cert.FilterIdeal.nD Cert.FilterIdeal.τ).loc Cert.FilterIdeal.main_arg4) = m ((c.tc : Thread Cert.FilterIdeal.nD Cert.FilterIdeal.τ).loc Cert.FilterIdeal.main_arg4)
      ∧ r.2.mem ((c.tc : Thread Cert.FilterIdeal.nD Cert.FilterIdeal.τ).loc Cert.FilterIdeal.main_arg5) = m ((c.tc : Thread Cert.FilterIdeal.nD Cert.FilterIdeal.τ).loc Cert.FilterIdeal.main_arg5)
      ∧ r.2.mem ((c.tc : Thread Cert.FilterIdeal.nD Cert.FilterIdeal.τ).loc Cert.FilterIdeal.main_arg6) = m ((c.tc : Thread Cert.FilterIdeal.nD Cert.FilterIdeal.τ).loc Cert.FilterIdeal.main_arg6)
      ∧ r.2.mem ((c.tc : Thread Cert.FilterIdeal.nD Cert.FilterIdeal.τ).loc Cert.FilterIdeal.main_arg7) = m ((c.tc : Thread Cert.FilterIdeal.nD Cert.FilterIdeal.τ).loc Cert.FilterIdeal.main_arg7))
      ∧ r.2.sem = fun _ => 0)

def quiescent_FilterRefIdeal [hFilterRefIdeal : Cert.FilterRefIdeal.Facts] : Prop :=
  ∀ (m : (ℓ : Loc Cert.FilterRefIdeal.nD Cert.FilterRefIdeal.τ Cert.FilterRefIdeal.sig) → Buf (Elt Ideal) ℓ) (g : Dev Cert.FilterRefIdeal.nD → PrngReg), Pre_FilterRefIdeal m →
    θ_run (Cert.FilterRefIdeal.defs (F := Ideal)) (onTc (τ := Cert.FilterRefIdeal.τ) (Cert.FilterRefIdeal.main (F := Ideal))) ⟨m, fun _ => 0, g⟩ (fun r => (∀ c : Dev Cert.FilterRefIdeal.nD,
      r.2.mem ((c.tc : Thread Cert.FilterRefIdeal.nD Cert.FilterRefIdeal.τ).loc Cert.FilterRefIdeal.main_arg0) = m ((c.tc : Thread Cert.FilterRefIdeal.nD Cert.FilterRefIdeal.τ).loc Cert.FilterRefIdeal.main_arg0)
      ∧ r.2.mem ((c.tc : Thread Cert.FilterRefIdeal.nD Cert.FilterRefIdeal.τ).loc Cert.FilterRefIdeal.main_arg1) = m ((c.tc : Thread Cert.FilterRefIdeal.nD Cert.FilterRefIdeal.τ).loc Cert.FilterRefIdeal.main_arg1)
      ∧ r.2.mem ((c.tc : Thread Cert.FilterRefIdeal.nD Cert.FilterRefIdeal.τ).loc Cert.FilterRefIdeal.main_arg2) = m ((c.tc : Thread Cert.FilterRefIdeal.nD Cert.FilterRefIdeal.τ).loc Cert.FilterRefIdeal.main_arg2)
      ∧ r.2.mem ((c.tc : Thread Cert.FilterRefIdeal.nD Cert.FilterRefIdeal.τ).loc Cert.FilterRefIdeal.main_arg3) = m ((c.tc : Thread Cert.FilterRefIdeal.nD Cert.FilterRefIdeal.τ).loc Cert.FilterRefIdeal.main_arg3)
      ∧ r.2.mem ((c.tc : Thread Cert.FilterRefIdeal.nD Cert.FilterRefIdeal.τ).loc Cert.FilterRefIdeal.main_arg4) = m ((c.tc : Thread Cert.FilterRefIdeal.nD Cert.FilterRefIdeal.τ).loc Cert.FilterRefIdeal.main_arg4)
      ∧ r.2.mem ((c.tc : Thread Cert.FilterRefIdeal.nD Cert.FilterRefIdeal.τ).loc Cert.FilterRefIdeal.main_arg5) = m ((c.tc : Thread Cert.FilterRefIdeal.nD Cert.FilterRefIdeal.τ).loc Cert.FilterRefIdeal.main_arg5)
      ∧ r.2.mem ((c.tc : Thread Cert.FilterRefIdeal.nD Cert.FilterRefIdeal.τ).loc Cert.FilterRefIdeal.main_arg6) = m ((c.tc : Thread Cert.FilterRefIdeal.nD Cert.FilterRefIdeal.τ).loc Cert.FilterRefIdeal.main_arg6)
      ∧ r.2.mem ((c.tc : Thread Cert.FilterRefIdeal.nD Cert.FilterRefIdeal.τ).loc Cert.FilterRefIdeal.main_arg7) = m ((c.tc : Thread Cert.FilterRefIdeal.nD Cert.FilterRefIdeal.τ).loc Cert.FilterRefIdeal.main_arg7))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v85) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)) →
    ∃ (v0 : (c : Dev Cert.RopeIdeal.nD) → Buf (Elt Ideal) ((c.tc : Thread Cert.RopeIdeal.nD Cert.RopeIdeal.τ).loc Cert.RopeIdeal.main_v8_0)) (v1 : (c : Dev Cert.RopeIdeal.nD) → Buf (Elt Ideal) ((c.tc : Thread Cert.RopeIdeal.nD Cert.RopeIdeal.τ).loc Cert.RopeIdeal.main_v8_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v8_0) = v0 c
          ∧ r.2.mem ((c.tc : Thread Cert.RopeIdeal.nD Cert.RopeIdeal.τ).loc Cert.RopeIdeal.main_v8_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v37) = v0 c
          ∧ r.2.mem ((c.tc : Thread Cert.RopeRefIdeal.nD Cert.RopeRefIdeal.τ).loc Cert.RopeRefIdeal.main_v39) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v29)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v29) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v28) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v61)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v61) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v21) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v12) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_Router_RouterIdeal : Prop :=
  True

def algebraic_RouterIdeal_RouterRefIdeal_pre_finite_router [hRouterIdeal : Cert.RouterIdeal.Facts] [hRouterRefIdeal : Cert.RouterRefIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_finite_router m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)) →
    ∃ (v0 : (c : Dev Cert.RouterIdeal.nD) → Buf (Elt Ideal) ((c.tc : Thread Cert.RouterIdeal.nD Cert.RouterIdeal.τ).loc Cert.RouterIdeal.main_v3_0)) (v1 : (c : Dev Cert.RouterIdeal.nD) → Buf (Elt Ideal) ((c.tc : Thread Cert.RouterIdeal.nD Cert.RouterIdeal.τ).loc Cert.RouterIdeal.main_v3_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v3_0) = v0 c
          ∧ r.2.mem ((c.tc : Thread Cert.RouterIdeal.nD Cert.RouterIdeal.τ).loc Cert.RouterIdeal.main_v3_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v27) = v0 c
          ∧ r.2.mem ((c.tc : Thread Cert.RouterRefIdeal.nD Cert.RouterRefIdeal.τ).loc Cert.RouterRefIdeal.main_v28) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2))

def preserves_SsdPre_SsdPreIdeal : Prop :=
  True

def algebraic_SsdPreIdeal_SsdPreRefIdeal [hSsdPreIdeal : Cert.SsdPreIdeal.Facts] [hSsdPreRefIdeal : Cert.SsdPreRefIdeal.Facts] : Prop :=
  ∀ (m : (ℓ : Loc Cert.SsdPreIdeal.nD Cert.SsdPreIdeal.τ Cert.SsdPreIdeal.sig) → Buf (Elt Ideal) ℓ) (g : Dev Cert.SsdPreIdeal.nD → PrngReg)
    (m' : (ℓ : Loc Cert.SsdPreRefIdeal.nD Cert.SsdPreRefIdeal.τ Cert.SsdPreRefIdeal.sig) → Buf (Elt Ideal) ℓ) (g' : Dev Cert.SsdPreRefIdeal.nD → PrngReg), Pre_SsdPreIdeal m →
    (∀ c : Dev Cert.SsdPreIdeal.nD,
      m' ((c.tc : Thread Cert.SsdPreRefIdeal.nD Cert.SsdPreRefIdeal.τ).loc Cert.SsdPreRefIdeal.main_arg0) = m ((c.tc : Thread Cert.SsdPreIdeal.nD Cert.SsdPreIdeal.τ).loc Cert.SsdPreIdeal.main_arg0)
      ∧ m' ((c.tc : Thread Cert.SsdPreRefIdeal.nD Cert.SsdPreRefIdeal.τ).loc Cert.SsdPreRefIdeal.main_arg1) = m ((c.tc : Thread Cert.SsdPreIdeal.nD Cert.SsdPreIdeal.τ).loc Cert.SsdPreIdeal.main_arg1)
      ∧ m' ((c.tc : Thread Cert.SsdPreRefIdeal.nD Cert.SsdPreRefIdeal.τ).loc Cert.SsdPreRefIdeal.main_arg2) = m ((c.tc : Thread Cert.SsdPreIdeal.nD Cert.SsdPreIdeal.τ).loc Cert.SsdPreIdeal.main_arg2)) →
    ∃ (v0 : (c : Dev Cert.SsdPreIdeal.nD) → Buf (Elt Ideal) ((c.tc : Thread Cert.SsdPreIdeal.nD Cert.SsdPreIdeal.τ).loc Cert.SsdPreIdeal.main_v1)),
      θ_run (Cert.SsdPreIdeal.defs (F := Ideal)) (onTc (τ := Cert.SsdPreIdeal.τ) (Cert.SsdPreIdeal.main (F := Ideal))) ⟨m, fun _ => 0, g⟩ (fun r => ∀ c : Dev Cert.SsdPreIdeal.nD,
          r.2.mem ((c.tc : Thread Cert.SsdPreIdeal.nD Cert.SsdPreIdeal.τ).loc Cert.SsdPreIdeal.main_v1) = v0 c
          ∧ r.2.mem ((c.tc : Thread Cert.SsdPreIdeal.nD Cert.SsdPreIdeal.τ).loc Cert.SsdPreIdeal.main_arg0) = m ((c.tc : Thread Cert.SsdPreIdeal.nD Cert.SsdPreIdeal.τ).loc Cert.SsdPreIdeal.main_arg0)
          ∧ r.2.mem ((c.tc : Thread Cert.SsdPreIdeal.nD Cert.SsdPreIdeal.τ).loc Cert.SsdPreIdeal.main_arg1) = m ((c.tc : Thread Cert.SsdPreIdeal.nD Cert.SsdPreIdeal.τ).loc Cert.SsdPreIdeal.main_arg1)
          ∧ r.2.mem ((c.tc : Thread Cert.SsdPreIdeal.nD Cert.SsdPreIdeal.τ).loc Cert.SsdPreIdeal.main_arg2) = m ((c.tc : Thread Cert.SsdPreIdeal.nD Cert.SsdPreIdeal.τ).loc Cert.SsdPreIdeal.main_arg2))
      ∧ θ_run (Cert.SsdPreRefIdeal.defs (F := Ideal)) (onTc (τ := Cert.SsdPreRefIdeal.τ) (Cert.SsdPreRefIdeal.main (F := Ideal))) ⟨m', fun _ => 0, g'⟩ (fun r => ∀ c : Dev Cert.SsdPreRefIdeal.nD,
          r.2.mem ((c.tc : Thread Cert.SsdPreRefIdeal.nD Cert.SsdPreRefIdeal.τ).loc Cert.SsdPreRefIdeal.main_v27) = v0 c
          ∧ r.2.mem ((c.tc : Thread Cert.SsdPreRefIdeal.nD Cert.SsdPreRefIdeal.τ).loc Cert.SsdPreRefIdeal.main_arg0) = m' ((c.tc : Thread Cert.SsdPreRefIdeal.nD Cert.SsdPreRefIdeal.τ).loc Cert.SsdPreRefIdeal.main_arg0)
          ∧ r.2.mem ((c.tc : Thread Cert.SsdPreRefIdeal.nD Cert.SsdPreRefIdeal.τ).loc Cert.SsdPreRefIdeal.main_arg1) = m' ((c.tc : Thread Cert.SsdPreRefIdeal.nD Cert.SsdPreRefIdeal.τ).loc Cert.SsdPreRefIdeal.main_arg1)
          ∧ r.2.mem ((c.tc : Thread Cert.SsdPreRefIdeal.nD Cert.SsdPreRefIdeal.τ).loc Cert.SsdPreRefIdeal.main_arg2) = m' ((c.tc : Thread Cert.SsdPreRefIdeal.nD Cert.SsdPreRefIdeal.τ).loc Cert.SsdPreRefIdeal.main_arg2))

def preserves_HyenaPre_HyenaPreIdeal : Prop :=
  True

def algebraic_HyenaPreIdeal_HyenaPreRefIdeal [hHyenaPreIdeal : Cert.HyenaPreIdeal.Facts] [hHyenaPreRefIdeal : Cert.HyenaPreRefIdeal.Facts] : Prop :=
  ∀ (m : (ℓ : Loc Cert.HyenaPreIdeal.nD Cert.HyenaPreIdeal.τ Cert.HyenaPreIdeal.sig) → Buf (Elt Ideal) ℓ) (g : Dev Cert.HyenaPreIdeal.nD → PrngReg)
    (m' : (ℓ : Loc Cert.HyenaPreRefIdeal.nD Cert.HyenaPreRefIdeal.τ Cert.HyenaPreRefIdeal.sig) → Buf (Elt Ideal) ℓ) (g' : Dev Cert.HyenaPreRefIdeal.nD → PrngReg), Pre_HyenaPreIdeal m →
    (∀ c : Dev Cert.HyenaPreIdeal.nD,
      m' ((c.tc : Thread Cert.HyenaPreRefIdeal.nD Cert.HyenaPreRefIdeal.τ).loc Cert.HyenaPreRefIdeal.main_arg0) = m ((c.tc : Thread Cert.HyenaPreIdeal.nD Cert.HyenaPreIdeal.τ).loc Cert.HyenaPreIdeal.main_arg0)
      ∧ m' ((c.tc : Thread Cert.HyenaPreRefIdeal.nD Cert.HyenaPreRefIdeal.τ).loc Cert.HyenaPreRefIdeal.main_arg1) = m ((c.tc : Thread Cert.HyenaPreIdeal.nD Cert.HyenaPreIdeal.τ).loc Cert.HyenaPreIdeal.main_arg1)
      ∧ m' ((c.tc : Thread Cert.HyenaPreRefIdeal.nD Cert.HyenaPreRefIdeal.τ).loc Cert.HyenaPreRefIdeal.main_arg2) = m ((c.tc : Thread Cert.HyenaPreIdeal.nD Cert.HyenaPreIdeal.τ).loc Cert.HyenaPreIdeal.main_arg2)) →
    ∃ (v0 : (c : Dev Cert.HyenaPreIdeal.nD) → Buf (Elt Ideal) ((c.tc : Thread Cert.HyenaPreIdeal.nD Cert.HyenaPreIdeal.τ).loc Cert.HyenaPreIdeal.main_v1_0)) (v1 : (c : Dev Cert.HyenaPreIdeal.nD) → Buf (Elt Ideal) ((c.tc : Thread Cert.HyenaPreIdeal.nD Cert.HyenaPreIdeal.τ).loc Cert.HyenaPreIdeal.main_v1_1)),
      θ_run (Cert.HyenaPreIdeal.defs (F := Ideal)) (onTc (τ := Cert.HyenaPreIdeal.τ) (Cert.HyenaPreIdeal.main (F := Ideal))) ⟨m, fun _ => 0, g⟩ (fun r => ∀ c : Dev Cert.HyenaPreIdeal.nD,
          r.2.mem ((c.tc : Thread Cert.HyenaPreIdeal.nD Cert.HyenaPreIdeal.τ).loc Cert.HyenaPreIdeal.main_v1_0) = v0 c
          ∧ r.2.mem ((c.tc : Thread Cert.HyenaPreIdeal.nD Cert.HyenaPreIdeal.τ).loc Cert.HyenaPreIdeal.main_v1_1) = v1 c
          ∧ r.2.mem ((c.tc : Thread Cert.HyenaPreIdeal.nD Cert.HyenaPreIdeal.τ).loc Cert.HyenaPreIdeal.main_arg0) = m ((c.tc : Thread Cert.HyenaPreIdeal.nD Cert.HyenaPreIdeal.τ).loc Cert.HyenaPreIdeal.main_arg0)
          ∧ r.2.mem ((c.tc : Thread Cert.HyenaPreIdeal.nD Cert.HyenaPreIdeal.τ).loc Cert.HyenaPreIdeal.main_arg1) = m ((c.tc : Thread Cert.HyenaPreIdeal.nD Cert.HyenaPreIdeal.τ).loc Cert.HyenaPreIdeal.main_arg1)
          ∧ r.2.mem ((c.tc : Thread Cert.HyenaPreIdeal.nD Cert.HyenaPreIdeal.τ).loc Cert.HyenaPreIdeal.main_arg2) = m ((c.tc : Thread Cert.HyenaPreIdeal.nD Cert.HyenaPreIdeal.τ).loc Cert.HyenaPreIdeal.main_arg2))
      ∧ θ_run (Cert.HyenaPreRefIdeal.defs (F := Ideal)) (onTc (τ := Cert.HyenaPreRefIdeal.τ) (Cert.HyenaPreRefIdeal.main (F := Ideal))) ⟨m', fun _ => 0, g'⟩ (fun r => ∀ c : Dev Cert.HyenaPreRefIdeal.nD,
          r.2.mem ((c.tc : Thread Cert.HyenaPreRefIdeal.nD Cert.HyenaPreRefIdeal.τ).loc Cert.HyenaPreRefIdeal.main_v27) = v0 c
          ∧ r.2.mem ((c.tc : Thread Cert.HyenaPreRefIdeal.nD Cert.HyenaPreRefIdeal.τ).loc Cert.HyenaPreRefIdeal.main_v30) = v1 c
          ∧ r.2.mem ((c.tc : Thread Cert.HyenaPreRefIdeal.nD Cert.HyenaPreRefIdeal.τ).loc Cert.HyenaPreRefIdeal.main_arg0) = m' ((c.tc : Thread Cert.HyenaPreRefIdeal.nD Cert.HyenaPreRefIdeal.τ).loc Cert.HyenaPreRefIdeal.main_arg0)
          ∧ r.2.mem ((c.tc : Thread Cert.HyenaPreRefIdeal.nD Cert.HyenaPreRefIdeal.τ).loc Cert.HyenaPreRefIdeal.main_arg1) = m' ((c.tc : Thread Cert.HyenaPreRefIdeal.nD Cert.HyenaPreRefIdeal.τ).loc Cert.HyenaPreRefIdeal.main_arg1)
          ∧ r.2.mem ((c.tc : Thread Cert.HyenaPreRefIdeal.nD Cert.HyenaPreRefIdeal.τ).loc Cert.HyenaPreRefIdeal.main_arg2) = m' ((c.tc : Thread Cert.HyenaPreRefIdeal.nD Cert.HyenaPreRefIdeal.τ).loc Cert.HyenaPreRefIdeal.main_arg2))

def preserves_Filter_FilterIdeal : Prop :=
  True

def algebraic_FilterIdeal_FilterRefIdeal [hFilterIdeal : Cert.FilterIdeal.Facts] [hFilterRefIdeal : Cert.FilterRefIdeal.Facts] : Prop :=
  ∀ (m : (ℓ : Loc Cert.FilterIdeal.nD Cert.FilterIdeal.τ Cert.FilterIdeal.sig) → Buf (Elt Ideal) ℓ) (g : Dev Cert.FilterIdeal.nD → PrngReg)
    (m' : (ℓ : Loc Cert.FilterRefIdeal.nD Cert.FilterRefIdeal.τ Cert.FilterRefIdeal.sig) → Buf (Elt Ideal) ℓ) (g' : Dev Cert.FilterRefIdeal.nD → PrngReg), Pre_FilterIdeal m →
    (∀ c : Dev Cert.FilterIdeal.nD,
      m' ((c.tc : Thread Cert.FilterRefIdeal.nD Cert.FilterRefIdeal.τ).loc Cert.FilterRefIdeal.main_arg0) = m ((c.tc : Thread Cert.FilterIdeal.nD Cert.FilterIdeal.τ).loc Cert.FilterIdeal.main_arg0)
      ∧ m' ((c.tc : Thread Cert.FilterRefIdeal.nD Cert.FilterRefIdeal.τ).loc Cert.FilterRefIdeal.main_arg1) = m ((c.tc : Thread Cert.FilterIdeal.nD Cert.FilterIdeal.τ).loc Cert.FilterIdeal.main_arg1)
      ∧ m' ((c.tc : Thread Cert.FilterRefIdeal.nD Cert.FilterRefIdeal.τ).loc Cert.FilterRefIdeal.main_arg2) = m ((c.tc : Thread Cert.FilterIdeal.nD Cert.FilterIdeal.τ).loc Cert.FilterIdeal.main_arg2)
      ∧ m' ((c.tc : Thread Cert.FilterRefIdeal.nD Cert.FilterRefIdeal.τ).loc Cert.FilterRefIdeal.main_arg3) = m ((c.tc : Thread Cert.FilterIdeal.nD Cert.FilterIdeal.τ).loc Cert.FilterIdeal.main_arg3)
      ∧ m' ((c.tc : Thread Cert.FilterRefIdeal.nD Cert.FilterRefIdeal.τ).loc Cert.FilterRefIdeal.main_arg4) = m ((c.tc : Thread Cert.FilterIdeal.nD Cert.FilterIdeal.τ).loc Cert.FilterIdeal.main_arg4)
      ∧ m' ((c.tc : Thread Cert.FilterRefIdeal.nD Cert.FilterRefIdeal.τ).loc Cert.FilterRefIdeal.main_arg5) = m ((c.tc : Thread Cert.FilterIdeal.nD Cert.FilterIdeal.τ).loc Cert.FilterIdeal.main_arg5)
      ∧ m' ((c.tc : Thread Cert.FilterRefIdeal.nD Cert.FilterRefIdeal.τ).loc Cert.FilterRefIdeal.main_arg6) = m ((c.tc : Thread Cert.FilterIdeal.nD Cert.FilterIdeal.τ).loc Cert.FilterIdeal.main_arg6)
      ∧ m' ((c.tc : Thread Cert.FilterRefIdeal.nD Cert.FilterRefIdeal.τ).loc Cert.FilterRefIdeal.main_arg7) = m ((c.tc : Thread Cert.FilterIdeal.nD Cert.FilterIdeal.τ).loc Cert.FilterIdeal.main_arg7)) →
    ∃ (v0 : (c : Dev Cert.FilterIdeal.nD) → Buf (Elt Ideal) ((c.tc : Thread Cert.FilterIdeal.nD Cert.FilterIdeal.τ).loc Cert.FilterIdeal.main_v12)),
      θ_run (Cert.FilterIdeal.defs (F := Ideal)) (onTc (τ := Cert.FilterIdeal.τ) (Cert.FilterIdeal.main (F := Ideal))) ⟨m, fun _ => 0, g⟩ (fun r => ∀ c : Dev Cert.FilterIdeal.nD,
          r.2.mem ((c.tc : Thread Cert.FilterIdeal.nD Cert.FilterIdeal.τ).loc Cert.FilterIdeal.main_v12) = v0 c
          ∧ r.2.mem ((c.tc : Thread Cert.FilterIdeal.nD Cert.FilterIdeal.τ).loc Cert.FilterIdeal.main_arg0) = m ((c.tc : Thread Cert.FilterIdeal.nD Cert.FilterIdeal.τ).loc Cert.FilterIdeal.main_arg0)
          ∧ r.2.mem ((c.tc : Thread Cert.FilterIdeal.nD Cert.FilterIdeal.τ).loc Cert.FilterIdeal.main_arg1) = m ((c.tc : Thread Cert.FilterIdeal.nD Cert.FilterIdeal.τ).loc Cert.FilterIdeal.main_arg1)
          ∧ r.2.mem ((c.tc : Thread Cert.FilterIdeal.nD Cert.FilterIdeal.τ).loc Cert.FilterIdeal.main_arg2) = m ((c.tc : Thread Cert.FilterIdeal.nD Cert.FilterIdeal.τ).loc Cert.FilterIdeal.main_arg2)
          ∧ r.2.mem ((c.tc : Thread Cert.FilterIdeal.nD Cert.FilterIdeal.τ).loc Cert.FilterIdeal.main_arg3) = m ((c.tc : Thread Cert.FilterIdeal.nD Cert.FilterIdeal.τ).loc Cert.FilterIdeal.main_arg3)
          ∧ r.2.mem ((c.tc : Thread Cert.FilterIdeal.nD Cert.FilterIdeal.τ).loc Cert.FilterIdeal.main_arg4) = m ((c.tc : Thread Cert.FilterIdeal.nD Cert.FilterIdeal.τ).loc Cert.FilterIdeal.main_arg4)
          ∧ r.2.mem ((c.tc : Thread Cert.FilterIdeal.nD Cert.FilterIdeal.τ).loc Cert.FilterIdeal.main_arg5) = m ((c.tc : Thread Cert.FilterIdeal.nD Cert.FilterIdeal.τ).loc Cert.FilterIdeal.main_arg5)
          ∧ r.2.mem ((c.tc : Thread Cert.FilterIdeal.nD Cert.FilterIdeal.τ).loc Cert.FilterIdeal.main_arg6) = m ((c.tc : Thread Cert.FilterIdeal.nD Cert.FilterIdeal.τ).loc Cert.FilterIdeal.main_arg6)
          ∧ r.2.mem ((c.tc : Thread Cert.FilterIdeal.nD Cert.FilterIdeal.τ).loc Cert.FilterIdeal.main_arg7) = m ((c.tc : Thread Cert.FilterIdeal.nD Cert.FilterIdeal.τ).loc Cert.FilterIdeal.main_arg7))
      ∧ θ_run (Cert.FilterRefIdeal.defs (F := Ideal)) (onTc (τ := Cert.FilterRefIdeal.τ) (Cert.FilterRefIdeal.main (F := Ideal))) ⟨m', fun _ => 0, g'⟩ (fun r => ∀ c : Dev Cert.FilterRefIdeal.nD,
          r.2.mem ((c.tc : Thread Cert.FilterRefIdeal.nD Cert.FilterRefIdeal.τ).loc Cert.FilterRefIdeal.main_v50) = v0 c
          ∧ r.2.mem ((c.tc : Thread Cert.FilterRefIdeal.nD Cert.FilterRefIdeal.τ).loc Cert.FilterRefIdeal.main_arg0) = m' ((c.tc : Thread Cert.FilterRefIdeal.nD Cert.FilterRefIdeal.τ).loc Cert.FilterRefIdeal.main_arg0)
          ∧ r.2.mem ((c.tc : Thread Cert.FilterRefIdeal.nD Cert.FilterRefIdeal.τ).loc Cert.FilterRefIdeal.main_arg1) = m' ((c.tc : Thread Cert.FilterRefIdeal.nD Cert.FilterRefIdeal.τ).loc Cert.FilterRefIdeal.main_arg1)
          ∧ r.2.mem ((c.tc : Thread Cert.FilterRefIdeal.nD Cert.FilterRefIdeal.τ).loc Cert.FilterRefIdeal.main_arg2) = m' ((c.tc : Thread Cert.FilterRefIdeal.nD Cert.FilterRefIdeal.τ).loc Cert.FilterRefIdeal.main_arg2)
          ∧ r.2.mem ((c.tc : Thread Cert.FilterRefIdeal.nD Cert.FilterRefIdeal.τ).loc Cert.FilterRefIdeal.main_arg3) = m' ((c.tc : Thread Cert.FilterRefIdeal.nD Cert.FilterRefIdeal.τ).loc Cert.FilterRefIdeal.main_arg3)
          ∧ r.2.mem ((c.tc : Thread Cert.FilterRefIdeal.nD Cert.FilterRefIdeal.τ).loc Cert.FilterRefIdeal.main_arg4) = m' ((c.tc : Thread Cert.FilterRefIdeal.nD Cert.FilterRefIdeal.τ).loc Cert.FilterRefIdeal.main_arg4)
          ∧ r.2.mem ((c.tc : Thread Cert.FilterRefIdeal.nD Cert.FilterRefIdeal.τ).loc Cert.FilterRefIdeal.main_arg5) = m' ((c.tc : Thread Cert.FilterRefIdeal.nD Cert.FilterRefIdeal.τ).loc Cert.FilterRefIdeal.main_arg5)
          ∧ r.2.mem ((c.tc : Thread Cert.FilterRefIdeal.nD Cert.FilterRefIdeal.τ).loc Cert.FilterRefIdeal.main_arg6) = m' ((c.tc : Thread Cert.FilterRefIdeal.nD Cert.FilterRefIdeal.τ).loc Cert.FilterRefIdeal.main_arg6)
          ∧ r.2.mem ((c.tc : Thread Cert.FilterRefIdeal.nD Cert.FilterRefIdeal.τ).loc Cert.FilterRefIdeal.main_arg7) = m' ((c.tc : Thread Cert.FilterRefIdeal.nD Cert.FilterRefIdeal.τ).loc Cert.FilterRefIdeal.main_arg7))

def Claim : Prop :=
  ∃ (hAttn : Cert.Attn.Facts) (hAttnIdeal : Cert.AttnIdeal.Facts) (hAttnRefIdeal : Cert.AttnRefIdeal.Facts) (hRope : Cert.Rope.Facts) (hRopeIdeal : Cert.RopeIdeal.Facts) (hRopeRefIdeal : Cert.RopeRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hFinal : Cert.Final.Facts) (hFinalIdeal : Cert.FinalIdeal.Facts) (hFinalRefIdeal : Cert.FinalRefIdeal.Facts) (hRouter : Cert.Router.Facts) (hRouterIdeal : Cert.RouterIdeal.Facts) (hRouterRefIdeal : Cert.RouterRefIdeal.Facts) (hSsdPre : Cert.SsdPre.Facts) (hSsdPreIdeal : Cert.SsdPreIdeal.Facts) (hSsdPreRefIdeal : Cert.SsdPreRefIdeal.Facts) (hHyenaPre : Cert.HyenaPre.Facts) (hHyenaPreIdeal : Cert.HyenaPreIdeal.Facts) (hHyenaPreRefIdeal : Cert.HyenaPreRefIdeal.Facts) (hFilter : Cert.Filter.Facts) (hFilterIdeal : Cert.FilterIdeal.Facts) (hFilterRefIdeal : Cert.FilterRefIdeal.Facts) (hPre_finite_scores : Cert.Pre_finite_scores.Facts) (hPre_finite_router : Cert.Pre_finite_router.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Rope (hRope := hRope)
    ∧ quiescent_RopeIdeal (hRopeIdeal := hRopeIdeal)
    ∧ quiescent_RopeRefIdeal (hRopeRefIdeal := hRopeRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Final (hFinal := hFinal)
    ∧ quiescent_FinalIdeal (hFinalIdeal := hFinalIdeal)
    ∧ quiescent_FinalRefIdeal (hFinalRefIdeal := hFinalRefIdeal)
    ∧ quiescent_Router (hRouter := hRouter)
    ∧ quiescent_RouterIdeal (hRouterIdeal := hRouterIdeal)
    ∧ quiescent_RouterIdeal_pre_finite_router (hRouterIdeal := hRouterIdeal) (hPre_finite_router := hPre_finite_router)
    ∧ quiescent_RouterRefIdeal (hRouterRefIdeal := hRouterRefIdeal)
    ∧ quiescent_RouterRefIdeal_pre_finite_router (hRouterRefIdeal := hRouterRefIdeal) (hPre_finite_router := hPre_finite_router)
    ∧ quiescent_SsdPre (hSsdPre := hSsdPre)
    ∧ quiescent_SsdPreIdeal (hSsdPreIdeal := hSsdPreIdeal)
    ∧ quiescent_SsdPreRefIdeal (hSsdPreRefIdeal := hSsdPreRefIdeal)
    ∧ quiescent_HyenaPre (hHyenaPre := hHyenaPre)
    ∧ quiescent_HyenaPreIdeal (hHyenaPreIdeal := hHyenaPreIdeal)
    ∧ quiescent_HyenaPreRefIdeal (hHyenaPreRefIdeal := hHyenaPreRefIdeal)
    ∧ quiescent_Filter (hFilter := hFilter)
    ∧ quiescent_FilterIdeal (hFilterIdeal := hFilterIdeal)
    ∧ quiescent_FilterRefIdeal (hFilterRefIdeal := hFilterRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Rope_RopeIdeal
    ∧ algebraic_RopeIdeal_RopeRefIdeal (hRopeIdeal := hRopeIdeal) (hRopeRefIdeal := hRopeRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Final_FinalIdeal
    ∧ algebraic_FinalIdeal_FinalRefIdeal (hFinalIdeal := hFinalIdeal) (hFinalRefIdeal := hFinalRefIdeal)
    ∧ preserves_Router_RouterIdeal
    ∧ algebraic_RouterIdeal_RouterRefIdeal_pre_finite_router (hRouterIdeal := hRouterIdeal) (hRouterRefIdeal := hRouterRefIdeal) (hPre_finite_router := hPre_finite_router)
    ∧ preserves_SsdPre_SsdPreIdeal
    ∧ algebraic_SsdPreIdeal_SsdPreRefIdeal (hSsdPreIdeal := hSsdPreIdeal) (hSsdPreRefIdeal := hSsdPreRefIdeal)
    ∧ preserves_HyenaPre_HyenaPreIdeal
    ∧ algebraic_HyenaPreIdeal_HyenaPreRefIdeal (hHyenaPreIdeal := hHyenaPreIdeal) (hHyenaPreRefIdeal := hHyenaPreRefIdeal)
    ∧ preserves_Filter_FilterIdeal
    ∧ algebraic_FilterIdeal_FilterRefIdeal (hFilterIdeal := hFilterIdeal) (hFilterRefIdeal := hFilterRefIdeal)
-- ==== Pre_finite_router.lean ====
abbrev S16384x2048 : Shape := ⟨2, ![16384, 2048]⟩
abbrev S2048 : Shape := ⟨1, ![2048]⟩
abbrev S2048x16 : Shape := ⟨2, ![2048, 16]⟩
abbrev S_ : Shape := ⟨0, ![]⟩

class Facts : Prop where
  bcast_S_S16384x2048 : S_.BroadcastsInDim S16384x2048 (![] : Fin 0 → Fin S16384x2048.rank)
  bcast_S_S2048 : S_.BroadcastsInDim S2048 (![] : Fin 0 → Fin S2048.rank)
  bcast_S_S2048x16 : S_.BroadcastsInDim S2048x16 (![] : Fin 0 → Fin S2048x16.rank)

variable [Facts]

def fn {F : FTy → Type} [FloatOps F] (main_arg0 : FVec F S16384x2048 .f32) (main_arg1 : FVec F S2048 .f32) (main_arg2 : FVec F S2048x16 .f32) : IVec S16384x2048 1 × IVec S2048 1 × IVec S2048x16 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048x16 .f32 := Host.absf main_arg2
  let main_cst_1 : FVec F S_ .f32 := constant S_ .f32 0x7F800000#32
  let main_v7 : FVec F S2048x16 .f32 := broadcastInDim S2048x16 ![] bcast_S_S2048x16 main_cst_1
  let main_v8 : IVec S2048x16 1 := cmpf .olt main_v6 main_v7
  (main_v2, main_v5, main_v8)
-- ==== Pre_finite_scores.lean ====
abbrev S8x2048x1024 : Shape := ⟨3, ![8, 2048, 1024]⟩
abbrev S8x2048x256 : Shape := ⟨3, ![8, 2048, 256]⟩
abbrev S8x2048x21504 : Shape := ⟨3, ![8, 2048, 21504]⟩
abbrev S16 : Shape := ⟨1, ![16]⟩
abbrev S_ : Shape := ⟨0, ![]⟩

class Facts : Prop where
  bitsLt_bf16_f32 : FTy.bits .bf16 < FTy.bits .f32
  bcast_S_S8x2048x1024 : S_.BroadcastsInDim S8x2048x1024 (![] : Fin 0 → Fin S8x2048x1024.rank)
  bcast_S_S8x2048x256 : S_.BroadcastsInDim S8x2048x256 (![] : Fin 0 → Fin S8x2048x256.rank)
  bcast_S_S16 : S_.BroadcastsInDim S16 (![] : Fin 0 → Fin S16.rank)

variable [Facts]

def fn {F : FTy → Type} [FloatOps F] (main_arg0 : FVec F S8x2048x1024 .bf16) (main_arg1 : FVec F S8x2048x256 .bf16) (main_arg2 : FVec F S8x2048x21504 .f32) (main_arg3 : FVec F S16 .f32) : IVec S8x2048x1024 1 × IVec S8x2048x256 1 × IVec S16 1 :=
  let main_v0 : FVec F S8x2048x1024 .f32 := (extf .f32 · bitsLt_bf16_f32) main_arg0
  let main_v1 : FVec F S8x2048x1024 .f32 := Host.absf main_v0
  let main_cst : FVec F S_ .f32 := constant S_ .f32 0x7F800000#32
  let main_v2 : FVec F S8x2048x1024 .f32 := broadcastInDim S8x2048x1024 ![] bcast_S_S8x2048x1024 main_cst
  let main_v3 : IVec S8x2048x1024 1 := cmpf .olt main_v1 main_v2
  let main_v4 : FVec F S8x2048x256 .f32 := (extf .f32 · bitsLt_bf16_f32) main_arg1
  let main_v5 : FVec F S8x2048x256 .f32 := Host.absf main_v4
  let main_cst_0 : FVec F S_ .f32 := constant S_ .f32 0x7F800000#32
  let main_v6 : FVec F S8x2048x256 .f32 := broadcastInDim S8x2048x256 ![] bcast_S_S8x2048x256 main_cst_0
  let main_v7 : IVec S8x2048x256 1 := cmpf .olt main_v5 main_v6
  let main_v8 : FVec F S16 .f32 := Host.absf main_arg3
  let main_cst_1 : FVec F S_ .f32 := constant S_ .f32 0x7F800000#32
  let main_v9 : FVec F S16 .f32 := broadcastInDim S16 ![] bcast_S_S16 main_cst_1
  let main_v10 : IVec S16 1 := cmpf .olt main_v8 main_v9
  (main_v3, main_v7, main_v10)
-- ==== Attn.lean ====
abbrev S8x2048x1024 : Shape := ⟨3, ![8, 2048, 1024]⟩
abbrev S8x2048x256 : Shape := ⟨3, ![8, 2048, 256]⟩
abbrev S8x2048x21504 : Shape := ⟨3, ![8, 2048, 21504]⟩
abbrev S16 : Shape := ⟨1, ![16]⟩
abbrev S1x128x1024 : Shape := ⟨3, ![1, 128, 1024]⟩
abbrev S1x128x256 : Shape := ⟨3, ![1, 128, 256]⟩
abbrev S128x384 : Shape := ⟨2, ![128, 384]⟩
abbrev S128x128 : Shape := ⟨2, ![128, 128]⟩
abbrev S1x128x128 : Shape := ⟨3, ![1, 128, 128]⟩
abbrev S384x128 : Shape := ⟨2, ![384, 128]⟩
abbrev S512x128 : Shape := ⟨2, ![512, 128]⟩
abbrev S512x384 : Shape := ⟨2, ![512, 384]⟩
abbrev S1 : Shape := ⟨1, ![1]⟩
abbrev S128 : Shape := ⟨1, ![128]⟩
abbrev S128x1 : Shape := ⟨2, ![128, 1]⟩

abbrev nBuf : Space → Nat
  | .hbm => 5
  | .vmem => 16
  | .smem => 1
  | _ => 0

abbrev bufTy : (tb : Table) → Fin (tcTables nBuf tb) → BufTy
  | .hbm, ⟨0, _⟩ => ⟨S8x2048x1024, .bf16⟩
  | .hbm, ⟨1, _⟩ => ⟨S8x2048x256, .bf16⟩
  | .hbm, ⟨2, _⟩ => ⟨S8x2048x21504, .f32⟩
  | .hbm, ⟨3, _⟩ => ⟨S16, .f32⟩
  | .hbm, ⟨4, _⟩ => ⟨S8x2048x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x1024, .bf16⟩
  | .local _ .vmem, ⟨15, _⟩ => ⟨S1x128x1024, .bf16⟩
  | .local _ .smem, ⟨0, _⟩ => ⟨S16, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c79_i32 : BitVec 32 := 79#32
  let c0_i32_0 : BitVec 32 := 0#32
  ![arg0.toNat, v1.toNat, c79_i32.toNat]

def cc0_transform_6 (i : grid0.Coords) : Fin 3 → Nat :=
  let arg0 : BitVec 32 := BitVec.ofNat 32 (i 0).val
  let arg1 : BitVec 32 := BitVec.ofNat 32 (i 1).val
  let c79_i32 : BitVec 32 := 79#32
  let c0_i32 : BitVec 32 := 0#32
  ![arg0.toNat, arg1.toNat, c79_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c79_i32 : BitVec 32 := 79#32
  let c0_i32 : BitVec 32 := 0#32
  ![arg0.toNat, v1.toNat, c79_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnRefIdeal.lean ====
abbrev S8x2048x1024 : Shape := ⟨3, ![8, 2048, 1024]⟩
abbrev S8x2048x256 : Shape := ⟨3, ![8, 2048, 256]⟩
abbrev S8x2048x21504 : Shape := ⟨3, ![8, 2048, 21504]⟩
abbrev S16 : Shape := ⟨1, ![16]⟩
abbrev S8x2048x2x4x2x64 : Shape := ⟨6, ![8, 2048, 2, 4, 2, 64]⟩
abbrev S8x2048x2x2x4x64 : Shape := ⟨6, ![8, 2048, 2, 2, 4, 64]⟩
abbrev S8x2048x4x64 : Shape := ⟨4, ![8, 2048, 4, 64]⟩
abbrev S8x16x128x4x4x64 : Shape := ⟨6, ![8, 16, 128, 4, 4, 64]⟩
abbrev S_ : Shape := ⟨0, ![]⟩
abbrev S8x2304x4x64 : Shape := ⟨4, ![8, 2304, 4, 64]⟩
abbrev S8x18x128x4x64 : Shape := ⟨5, ![8, 18, 128, 4, 64]⟩
abbrev S8x16x128x4x64 : Shape := ⟨5, ![8, 16, 128, 4, 64]⟩
abbrev S8x16x384x4x64 : Shape := ⟨5, ![8, 16, 384, 4, 64]⟩
abbrev S8x16x4x384x128x4 : Shape := ⟨6, ![8, 16, 4, 384, 128, 4]⟩
abbrev S8x16x4x4x128x384 : Shape := ⟨6, ![8, 16, 4, 4, 128, 384]⟩
abbrev S16x1 : Shape := ⟨2, ![16, 1]⟩
abbrev S128 : Shape := ⟨1, ![128]⟩
abbrev S1x128 : Shape := ⟨2, ![1, 128]⟩
abbrev S16x128 : Shape := ⟨2, ![16, 128]⟩
abbrev S384 : Shape := ⟨1, ![384]⟩
abbrev S1x384 : Shape := ⟨2, ![1, 384]⟩
abbrev S16x384 : Shape := ⟨2, ![16, 384]⟩
abbrev S16x128x1 : Shape := ⟨3, ![16, 128, 1]⟩
abbrev S16x1x384 : Shape := ⟨3, ![16, 1, 384]⟩
abbrev S16x128x384 : Shape := ⟨3, ![16, 128, 384]⟩
abbrev S1x16x1x1x128x384 : Shape := ⟨6, ![1, 16, 1, 1, 128, 384]⟩
abbrev S4x4 : Shape := ⟨2, ![4, 4]⟩
abbrev S1x1x4x4x1x1 : Shape := ⟨6, ![1, 1, 4, 4, 1, 1]⟩
abbrev S8x16x4x4x128 : Shape := ⟨5, ![8, 16, 4, 4, 128]⟩
abbrev S8x16x4x4x128x1 : Shape := ⟨6, ![8, 16, 4, 4, 128, 1]⟩
abbrev S8x16x4x64x4x128 : Shape := ⟨6, ![8, 16, 4, 64, 4, 128]⟩

abbrev nBuf : Space → Nat
  | .hbm => 110
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x256, .bf16⟩
  | .hbm, ⟨2, _⟩ => ⟨S8x2048x21504, .f32⟩
  | .hbm, ⟨3, _⟩ => ⟨S16, .f32⟩
  | .hbm, ⟨4, _⟩ => ⟨S8x2048x1024, .f32⟩
  | .hbm, ⟨5, _⟩ => ⟨S8x2048x2x4x2x64, .f32⟩
  | .hbm, ⟨6, _⟩ => ⟨S8x2048x2x2x4x64, .f32⟩
  | .hbm, ⟨7, _⟩ => ⟨S8x2048x256, .f32⟩
  | .hbm, ⟨8, _⟩ => ⟨S8x2048x4x64, .f32⟩
  | .hbm, ⟨9, _⟩ => ⟨S8x2048x256, .f32⟩
  | .hbm, ⟨10, _⟩ => ⟨S8x2048x4x64, .f32⟩
  | .hbm, ⟨11, _⟩ => ⟨S8x16x128x4x4x64, .f32⟩
  | .hbm, ⟨12, _⟩ => ⟨S_, .i32⟩
  | .hbm, ⟨13, _⟩ => ⟨S_, .f32⟩
  | .hbm, ⟨14, _⟩ => ⟨S8x2304x4x64, .f32⟩
  | .hbm, ⟨15, _⟩ => ⟨S8x18x128x4x64, .f32⟩
  | .hbm, ⟨16, _⟩ => ⟨S8x16x128x4x64, .f32⟩
  | .hbm, ⟨17, _⟩ => ⟨S8x16x128x4x64, .f32⟩
  | .hbm, ⟨18, _⟩ => ⟨S8x16x128x4x64, .f32⟩
  | .hbm, ⟨19, _⟩ => ⟨S8x16x384x4x64, .f32⟩
  | .hbm, ⟨20, _⟩ => ⟨S_, .i32⟩
  | .hbm, ⟨21, _⟩ => ⟨S_, .f32⟩
  | .hbm, ⟨22, _⟩ => ⟨S8x2304x4x64, .f32⟩
  | .hbm, ⟨23, _⟩ => ⟨S8x18x128x4x64, .f32⟩
  | .hbm, ⟨24, _⟩ => ⟨S8x16x128x4x64, .f32⟩
  | .hbm, ⟨25, _⟩ => ⟨S8x16x128x4x64, .f32⟩
  | .hbm, ⟨26, _⟩ => ⟨S8x16x128x4x64, .f32⟩
  | .hbm, ⟨27, _⟩ => ⟨S8x16x384x4x64, .f32⟩
  | .hbm, ⟨28, _⟩ => ⟨S8x16x4x384x128x4, .f32⟩
  | .hbm, ⟨29, _⟩ => ⟨S8x16x4x4x128x384, .f32⟩
  | .hbm, ⟨30, _⟩ => ⟨S16, .i32⟩
  | .hbm, ⟨31, _⟩ => ⟨S16x1, .i32⟩
  | .hbm, ⟨32, _⟩ => ⟨S_, .i32⟩
  | .hbm, ⟨33, _⟩ => ⟨S16x1, .i32⟩
  | .hbm, ⟨34, _⟩ => ⟨S16x1, .i32⟩
  | .hbm, ⟨35, _⟩ => ⟨S128, .i32⟩
  | .hbm, ⟨36, _⟩ => ⟨S1x128, .i32⟩
  | .hbm, ⟨37, _⟩ => ⟨S16x128, .i32⟩
  | .hbm, ⟨38, _⟩ => ⟨S16x128, .i32⟩
  | .hbm, ⟨39, _⟩ => ⟨S16x128, .i32⟩
  | .hbm, ⟨40, _⟩ => ⟨S16, .i32⟩
  | .hbm, ⟨41, _⟩ => ⟨S16x1, .i32⟩
  | .hbm, ⟨42, _⟩ => ⟨S_, .i32⟩
  | .hbm, ⟨43, _⟩ => ⟨S16x1, .i32⟩
  | .hbm, ⟨44, _⟩ => ⟨S16x1, .i32⟩
  | .hbm, ⟨45, _⟩ => ⟨S_, .i32⟩
  | .hbm, ⟨46, _⟩ => ⟨S16x1, .i32⟩
  | .hbm, ⟨47, _⟩ => ⟨S16x1, .i32⟩
  | .hbm, ⟨48, _⟩ => ⟨S384, .i32⟩
  | .hbm, ⟨49, _⟩ => ⟨S1x384, .i32⟩
  | .hbm, ⟨50, _⟩ => ⟨S16x384, .i32⟩
  | .hbm, ⟨51, _⟩ => ⟨S16x384, .i32⟩
  | .hbm, ⟨52, _⟩ => ⟨S16x384, .i32⟩
  | .hbm, ⟨53, _⟩ => ⟨S16x128x1, .i32⟩
  | .hbm, ⟨54, _⟩ => ⟨S16x1x384, .i32⟩
  | .hbm, ⟨55, _⟩ => ⟨S16x128x384, .i32⟩
  | .hbm, ⟨56, _⟩ => ⟨S16x128x384, .i32⟩
  | .hbm, ⟨57, _⟩ => ⟨S16x128x384, .i32⟩
  | .hbm, ⟨58, _⟩ => ⟨S16x128x384, .i32⟩
  | .hbm, ⟨59, _⟩ => ⟨S_, .i32⟩
  | .hbm, ⟨60, _⟩ => ⟨S16x128x384, .i32⟩
  | .hbm, ⟨61, _⟩ => ⟨S16x128x384, .i1⟩
  | .hbm, ⟨62, _⟩ => ⟨S_, .i32⟩
  | .hbm, ⟨63, _⟩ => ⟨S16x384, .i32⟩
  | .hbm, ⟨64, _⟩ => ⟨S16x384, .i1⟩
  | .hbm, ⟨65, _⟩ => ⟨S16x1x384, .i1⟩
  | .hbm, ⟨66, _⟩ => ⟨S16x128x384, .i1⟩
  | .hbm, ⟨67, _⟩ => ⟨S16x128x384, .i1⟩
  | .hbm, ⟨68, _⟩ => ⟨S_, .i32⟩
  | .hbm, ⟨69, _⟩ => ⟨S16x384, .i32⟩
  | .hbm, ⟨70, _⟩ => ⟨S16x384, .i1⟩
  | .hbm, ⟨71, _⟩ => ⟨S16x1x384, .i1⟩
  | .hbm, ⟨72, _⟩ => ⟨S16x128x384, .i1⟩
  | .hbm, ⟨73, _⟩ => ⟨S16x128x384, .i1⟩
  | .hbm, ⟨74, _⟩ => ⟨S1x16x1x1x128x384, .i1⟩
  | .hbm, ⟨75, _⟩ => ⟨S_, .f32⟩
  | .hbm, ⟨76, _⟩ => ⟨S_, .f32⟩
  | .hbm, ⟨77, _⟩ => ⟨S8x16x4x4x128x384, .i1⟩
  | .hbm, ⟨78, _⟩ => ⟨S8x16x4x4x128x384, .f32⟩
  | .hbm, ⟨79, _⟩ => ⟨S8x16x4x4x128x384, .f32⟩
  | .hbm, ⟨80, _⟩ => ⟨S4x4, .f32⟩
  | .hbm, ⟨81, _⟩ => ⟨S1x1x4x4x1x1, .f32⟩
  | .hbm, ⟨82, _⟩ => ⟨S_, .f32⟩
  | .hbm, ⟨83, _⟩ => ⟨S8x16x4x4x128, .f32⟩
  | .hbm, ⟨84, _⟩ => ⟨S8x16x4x4x128x1, .f32⟩
  | .hbm, ⟨85, _⟩ => ⟨S8x16x4x4x128x1, .f32⟩
  | .hbm, ⟨86, _⟩ => ⟨S8x16x4x4x128x1, .f32⟩
  | .hbm, ⟨87, _⟩ => ⟨S8x16x4x4x128x384, .f32⟩
  | .hbm, ⟨88, _⟩ => ⟨S8x16x4x4x128x384, .f32⟩
  | .hbm, ⟨89, _⟩ => ⟨S8x16x4x4x128x384, .f32⟩
  | .hbm, ⟨90, _⟩ => ⟨S_, .f32⟩
  | .hbm, ⟨91, _⟩ => ⟨S_, .f32⟩
  | .hbm, ⟨92, _⟩ => ⟨S8x16x4x4x128x384, .i1⟩
  | .hbm, ⟨93, _⟩ => ⟨S8x16x4x4x128x384, .f32⟩
  | .hbm, ⟨94, _⟩ => ⟨S8x16x4x4x128x384, .f32⟩
  | .hbm, ⟨95, _⟩ => ⟨S_, .f32⟩
  | .hbm, ⟨96, _⟩ => ⟨S8x16x4x4x128, .f32⟩
  | .hbm, ⟨97, _⟩ => ⟨S8x16x4x4x128x1, .f32⟩
  | .hbm, ⟨98, _⟩ => ⟨S8x16x4x4x128x1, .f32⟩
  | .hbm, ⟨99, _⟩ => ⟨S8x16x4x4x128x1, .f32⟩
  | .hbm, ⟨100, _⟩ => ⟨S8x16x4x4x128x1, .f32⟩
  | .hbm, ⟨101, _⟩ => ⟨S8x16x4x4x128x1, .f32⟩
  | .hbm, ⟨102, _⟩ => ⟨S8x16x4x4x128x384, .f32⟩
  | .hbm, ⟨103, _⟩ => ⟨S8x16x4x4x128x384, .f32⟩
  | .hbm, ⟨104, _⟩ => ⟨S8x16x4x64x4x128, .f32⟩
  | .hbm, ⟨105, _⟩ => ⟨S8x16x128x4x4x64, .f32⟩
  | .hbm, ⟨106, _⟩ => ⟨S8x2048x2x2x4x64, .f32⟩
  | .hbm, ⟨107, _⟩ => ⟨S8x2048x2x4x2x64, .f32⟩
  | .hbm, ⟨108, _⟩ => ⟨S8x2048x1024, .f32⟩
  | .hbm, ⟨109, _⟩ => ⟨S8x2048x1024, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_call1_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_2 : Ref sig .tc := ⟨.hbm, 42, rfl⟩
abbrev main_v33 : Ref sig .tc := ⟨.hbm, 43, rfl⟩
abbrev main_v34 : Ref sig .tc := ⟨.hbm, 44, rfl⟩
abbrev main_c_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c_4 : Ref sig .tc := ⟨.hbm, 59, rfl⟩
abbrev main_v48 : Ref sig .tc := ⟨.hbm, 60, rfl⟩
abbrev main_v49 : Ref sig .tc := ⟨.hbm, 61, rfl⟩
abbrev main_c_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_c_6 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_7 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_8 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v71 : Ref sig .tc := ⟨.hbm, 94, rfl⟩
abbrev main_cst_9 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩

abbrev nD : Nat := 1
abbrev τ : Topo := Topo.v7x

variable {F : FTy → Type} [FloatOps F]
-- ==== Rope.lean ====
abbrev S8x2048x21504 : Shape := ⟨3, ![8, 2048, 21504]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S8x2048x1024 : Shape := ⟨3, ![8, 2048, 1024]⟩
abbrev S8x2048x256 : Shape := ⟨3, ![8, 2048, 256]⟩
abbrev S1x512x1024 : Shape := ⟨3, ![1, 512, 1024]⟩
abbrev S1x512x256 : Shape := ⟨3, ![1, 512, 256]⟩
abbrev S512x128 : Shape := ⟨2, ![512, 128]⟩
abbrev S1x512x128 : Shape := ⟨3, ![1, 512, 128]⟩

abbrev nBuf : Space → Nat
  | .hbm => 13
  | .vmem => 12
  | .smem => 0
  | _ => 0

abbrev bufTy : (tb : Table) → Fin (tcTables nBuf tb) → BufTy
  | .hbm, ⟨0, _⟩ => ⟨S8x2048x21504, .f32⟩
  | .hbm, ⟨1, _⟩ => ⟨S2048x32, .f32⟩
  | .hbm, ⟨2, _⟩ => ⟨S2048x32, .f32⟩
  | .hbm, ⟨3, _⟩ => ⟨S1x2048x1x32, .f32⟩
  | .hbm, ⟨4, _⟩ => ⟨S1x2048x4x32, .f32⟩
  | .hbm, ⟨5, _⟩ => ⟨S2048x128, .f32⟩
  | .hbm, ⟨6, _⟩ => ⟨S2048x32, .f32⟩
  | .hbm, ⟨7, _⟩ => ⟨S2048x64, .f32⟩
  | .hbm, ⟨8, _⟩ => ⟨S1x2048x1x64, .f32⟩
  | .hbm, ⟨9, _⟩ => ⟨S1x2048x2x64, .f32⟩
  | .hbm, ⟨10, _⟩ => ⟨S2048x128, .f32⟩
  | .hbm, ⟨11, _⟩ => ⟨S8x2048x1024, .bf16⟩
  | .hbm, ⟨12, _⟩ => ⟨S8x2048x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x256, .f32⟩
  | .local _ .vmem, ⟨3, _⟩ => ⟨S1x512x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x256, .bf16⟩
  | .local _ .vmem, ⟨11, _⟩ => ⟨S1x512x256, .bf16⟩
  | _, _ => ⟨S8x2048x21504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c17_i32 : BitVec 32 := 17#32
  let c0_i32 : BitVec 32 := 0#32
  ![arg0.toNat, arg1.toNat, c17_i32.toNat]

def cc0_transform_1 (i : grid0.Coords) : Fin 3 → Nat :=
  let arg0 : BitVec 32 := BitVec.ofNat 32 (i 0).val
  let arg1 : BitVec 32 := BitVec.ofNat 32 (i 1).val
  let c78_i32 : BitVec 32 := 78#32
  let c0_i32 : BitVec 32 := 0#32
  ![arg0.toNat, arg1.toNat, c78_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RopeRefIdeal.lean ====
abbrev S8x2048x21504 : Shape := ⟨3, ![8, 2048, 21504]⟩
abbrev S2048x32 : Shape := ⟨2, ![2048, 32]⟩
abbrev S8x2048x1024 : Shape := ⟨3, ![8, 2048, 1024]⟩
abbrev S8x2048x16x64 : Shape := ⟨4, ![8, 2048, 16, 64]⟩
abbrev S1x2048x1x32 : Shape := ⟨4, ![1, 2048, 1, 32]⟩
abbrev S8x2048x16x32 : Shape := ⟨4, ![8, 2048, 16, 32]⟩
abbrev S_ : Shape := ⟨0, ![]⟩
abbrev S8x2048x256 : Shape := ⟨3, ![8, 2048, 256]⟩
abbrev S8x2048x4x64 : Shape := ⟨4, ![8, 2048, 4, 64]⟩
abbrev S8x2048x4x32 : Shape := ⟨4, ![8, 2048, 4, 32]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x21504, .f32⟩
  | .hbm, ⟨1, _⟩ => ⟨S2048x32, .f32⟩
  | .hbm, ⟨2, _⟩ => ⟨S2048x32, .f32⟩
  | .hbm, ⟨3, _⟩ => ⟨S8x2048x1024, .f32⟩
  | .hbm, ⟨4, _⟩ => ⟨S8x2048x16x64, .f32⟩
  | .hbm, ⟨5, _⟩ => ⟨S1x2048x1x32, .f32⟩
  | .hbm, ⟨6, _⟩ => ⟨S1x2048x1x32, .f32⟩
  | .hbm, ⟨7, _⟩ => ⟨S8x2048x16x32, .f32⟩
  | .hbm, ⟨8, _⟩ => ⟨S8x2048x16x32, .f32⟩
  | .hbm, ⟨9, _⟩ => ⟨S8x2048x16x32, .f32⟩
  | .hbm, ⟨10, _⟩ => ⟨S8x2048x16x32, .f32⟩
  | .hbm, ⟨11, _⟩ => ⟨S8x2048x16x32, .f32⟩
  | .hbm, ⟨12, _⟩ => ⟨S8x2048x16x32, .f32⟩
  | .hbm, ⟨13, _⟩ => ⟨S8x2048x16x32, .f32⟩
  | .hbm, ⟨14, _⟩ => ⟨S8x2048x16x32, .f32⟩
  | .hbm, ⟨15, _⟩ => ⟨S8x2048x16x32, .f32⟩
  | .hbm, ⟨16, _⟩ => ⟨S8x2048x16x32, .f32⟩
  | .hbm, ⟨17, _⟩ => ⟨S8x2048x16x32, .f32⟩
  | .hbm, ⟨18, _⟩ => ⟨S8x2048x16x32, .f32⟩
  | .hbm, ⟨19, _⟩ => ⟨S8x2048x16x64, .f32⟩
  | .hbm, ⟨20, _⟩ => ⟨S_, .f32⟩
  | .hbm, ⟨21, _⟩ => ⟨S8x2048x16x64, .f32⟩
  | .hbm, ⟨22, _⟩ => ⟨S8x2048x16x64, .f32⟩
  | .hbm, ⟨23, _⟩ => ⟨S8x2048x256, .f32⟩
  | .hbm, ⟨24, _⟩ => ⟨S8x2048x4x64, .f32⟩
  | .hbm, ⟨25, _⟩ => ⟨S1x2048x1x32, .f32⟩
  | .hbm, ⟨26, _⟩ => ⟨S1x2048x1x32, .f32⟩
  | .hbm, ⟨27, _⟩ => ⟨S8x2048x4x32, .f32⟩
  | .hbm, ⟨28, _⟩ => ⟨S8x2048x4x32, .f32⟩
  | .hbm, ⟨29, _⟩ => ⟨S8x2048x4x32, .f32⟩
  | .hbm, ⟨30, _⟩ => ⟨S8x2048x4x32, .f32⟩
  | .hbm, ⟨31, _⟩ => ⟨S8x2048x4x32, .f32⟩
  | .hbm, ⟨32, _⟩ => ⟨S8x2048x4x32, .f32⟩
  | .hbm, ⟨33, _⟩ => ⟨S8x2048x4x32, .f32⟩
  | .hbm, ⟨34, _⟩ => ⟨S8x2048x4x32, .f32⟩
  | .hbm, ⟨35, _⟩ => ⟨S8x2048x4x32, .f32⟩
  | .hbm, ⟨36, _⟩ => ⟨S8x2048x4x32, .f32⟩
  | .hbm, ⟨37, _⟩ => ⟨S8x2048x4x32, .f32⟩
  | .hbm, ⟨38, _⟩ => ⟨S8x2048x4x32, .f32⟩
  | .hbm, ⟨39, _⟩ => ⟨S8x2048x4x64, .f32⟩
  | .hbm, ⟨40, _⟩ => ⟨S8x2048x1024, .f32⟩
  | .hbm, ⟨41, _⟩ => ⟨S8x2048x1024, .bf16⟩
  | .hbm, ⟨42, _⟩ => ⟨S8x2048x256, .f32⟩
  | .hbm, ⟨43, _⟩ => ⟨S8x2048x256, .bf16⟩
  | _, _ => ⟨S8x2048x21504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩

abbrev nD : Nat := 1
abbrev τ : Topo := Topo.v7x

variable {F : FTy → Type} [FloatOps F]
-- ==== Proj.lean ====
abbrev S16384x2048 : Shape := ⟨2, ![16384, 2048]⟩
abbrev S2048 : Shape := ⟨1, ![2048]⟩
abbrev S2048x20512 : Shape := ⟨2, ![2048, 20512]⟩
abbrev S2048x8192 : Shape := ⟨2, ![2048, 8192]⟩
abbrev S2048x5120 : Shape := ⟨2, ![2048, 5120]⟩
abbrev S2048x3072 : Shape := ⟨2, ![2048, 3072]⟩
abbrev S2048x1024 : Shape := ⟨2, ![2048, 1024]⟩
abbrev S2048x64 : Shape := ⟨2, ![2048, 64]⟩
abbrev S2048x1536 : Shape := ⟨2, ![2048, 1536]⟩
abbrev S2048x512 : Shape := ⟨2, ![2048, 512]⟩
abbrev S2048x32 : Shape := ⟨2, ![2048, 32]⟩
abbrev S_ : Shape := ⟨0, ![]⟩
abbrev S2048x992 : Shape := ⟨2, ![2048, 992]⟩
abbrev S2048x18176 : Shape := ⟨2, ![2048, 18176]⟩
abbrev S2048x3328 : Shape := ⟨2, ![2048, 3328]⟩
abbrev S2048x21504 : Shape := ⟨2, ![2048, 21504]⟩
abbrev S1x2048 : Shape := ⟨2, ![1, 2048]⟩
abbrev S16384x21504 : Shape := ⟨2, ![16384, 21504]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 34
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x20512, .f32⟩
  | .hbm, ⟨3, _⟩ => ⟨S2048x8192, .f32⟩
  | .hbm, ⟨4, _⟩ => ⟨S2048x5120, .f32⟩
  | .hbm, ⟨5, _⟩ => ⟨S2048x3072, .f32⟩
  | .hbm, ⟨6, _⟩ => ⟨S2048x1024, .f32⟩
  | .hbm, ⟨7, _⟩ => ⟨S2048x64, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S2048x64, .f32⟩
  | .hbm, ⟨12, _⟩ => ⟨S2048x64, .f32⟩
  | .hbm, ⟨13, _⟩ => ⟨S2048x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S2048x1536, .f32⟩
  | .hbm, ⟨24, _⟩ => ⟨S2048x512, .f32⟩
  | .hbm, ⟨25, _⟩ => ⟨S2048x32, .f32⟩
  | .hbm, ⟨26, _⟩ => ⟨S_, .f32⟩
  | .hbm, ⟨27, _⟩ => ⟨S2048x992, .f32⟩
  | .hbm, ⟨28, _⟩ => ⟨S2048x18176, .f32⟩
  | .hbm, ⟨29, _⟩ => ⟨S2048x3328, .f32⟩
  | .hbm, ⟨30, _⟩ => ⟨S2048x21504, .f32⟩
  | .hbm, ⟨31, _⟩ => ⟨S2048x21504, .bf16⟩
  | .hbm, ⟨32, _⟩ => ⟨S1x2048, .f32⟩
  | .hbm, ⟨33, _⟩ => ⟨S16384x21504, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 21], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S16384x2048 : Shape := ⟨2, ![16384, 2048]⟩
abbrev S2048 : Shape := ⟨1, ![2048]⟩
abbrev S2048x20512 : Shape := ⟨2, ![2048, 20512]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x20512 : Shape := ⟨2, ![16384, 20512]⟩
abbrev S16384x8192 : Shape := ⟨2, ![16384, 8192]⟩
abbrev S16384x2592 : Shape := ⟨2, ![16384, 2592]⟩
abbrev S16384x1536 : Shape := ⟨2, ![16384, 1536]⟩
abbrev S16384x5120 : Shape := ⟨2, ![16384, 5120]⟩
abbrev S16384x3072 : Shape := ⟨2, ![16384, 3072]⟩
abbrev S16384x1024 : Shape := ⟨2, ![16384, 1024]⟩
abbrev S16384x32 : Shape := ⟨2, ![16384, 32]⟩
abbrev S16384x512 : Shape := ⟨2, ![16384, 512]⟩
abbrev S16384x2x2x4x64 : Shape := ⟨5, ![16384, 2, 2, 4, 64]⟩
abbrev S16384x2x4x2x64 : Shape := ⟨5, ![16384, 2, 4, 2, 64]⟩
abbrev S16384x992 : Shape := ⟨2, ![16384, 992]⟩
abbrev S16384x21504 : Shape := ⟨2, ![16384, 21504]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x20512, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x20512, .f32⟩
  | .hbm, ⟨20, _⟩ => ⟨S16384x8192, .f32⟩
  | .hbm, ⟨21, _⟩ => ⟨S16384x2592, .f32⟩
  | .hbm, ⟨22, _⟩ => ⟨S16384x1536, .f32⟩
  | .hbm, ⟨23, _⟩ => ⟨S16384x5120, .f32⟩
  | .hbm, ⟨24, _⟩ => ⟨S16384x3072, .f32⟩
  | .hbm, ⟨25, _⟩ => ⟨S16384x1024, .f32⟩
  | .hbm, ⟨26, _⟩ => ⟨S16384x1536, .f32⟩
  | .hbm, ⟨27, _⟩ => ⟨S16384x32, .f32⟩
  | .hbm, ⟨28, _⟩ => ⟨S16384x1024, .f32⟩
  | .hbm, ⟨29, _⟩ => ⟨S16384x512, .f32⟩
  | .hbm, ⟨30, _⟩ => ⟨S16384x2x2x4x64, .f32⟩
  | .hbm, ⟨31, _⟩ => ⟨S16384x2x4x2x64, .f32⟩
  | .hbm, ⟨32, _⟩ => ⟨S16384x1024, .f32⟩
  | .hbm, ⟨33, _⟩ => ⟨S_, .f32⟩
  | .hbm, ⟨34, _⟩ => ⟨S16384x992, .f32⟩
  | .hbm, ⟨35, _⟩ => ⟨S16384x21504, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Merge.lean ====
abbrev S16384x1024 : Shape := ⟨2, ![16384, 1024]⟩
abbrev S4x1024x2048 : Shape := ⟨3, ![4, 1024, 2048]⟩
abbrev S16384x21504 : Shape := ⟨2, ![16384, 21504]⟩
abbrev S1x1024x2048 : Shape := ⟨3, ![1, 1024, 2048]⟩
abbrev S1024x2048 : Shape := ⟨2, ![1024, 2048]⟩
abbrev S64x2048 : Shape := ⟨2, ![64, 2048]⟩
abbrev S16384x2048 : Shape := ⟨2, ![16384, 2048]⟩
abbrev S1024x1024 : Shape := ⟨2, ![1024, 1024]⟩
abbrev S4x1024x512 : Shape := ⟨3, ![4, 1024, 512]⟩
abbrev S1024x512 : Shape := ⟨2, ![1024, 512]⟩
abbrev S1x1024x512 : Shape := ⟨3, ![1, 1024, 512]⟩

abbrev nBuf : Space → Nat
  | .hbm => 68
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .f32⟩
  | .hbm, ⟨4, _⟩ => ⟨S4x1024x2048, .f32⟩
  | .hbm, ⟨5, _⟩ => ⟨S16384x21504, .f32⟩
  | .hbm, ⟨6, _⟩ => ⟨S1x1024x2048, .f32⟩
  | .hbm, ⟨7, _⟩ => ⟨S1024x2048, .f32⟩
  | .hbm, ⟨8, _⟩ => ⟨S64x2048, .f32⟩
  | .hbm, ⟨9, _⟩ => ⟨S1x1024x2048, .f32⟩
  | .hbm, ⟨10, _⟩ => ⟨S1024x2048, .f32⟩
  | .hbm, ⟨11, _⟩ => ⟨S64x2048, .f32⟩
  | .hbm, ⟨12, _⟩ => ⟨S1x1024x2048, .f32⟩
  | .hbm, ⟨13, _⟩ => ⟨S1024x2048, .f32⟩
  | .hbm, ⟨14, _⟩ => ⟨S64x2048, .f32⟩
  | .hbm, ⟨15, _⟩ => ⟨S1x1024x2048, .f32⟩
  | .hbm, ⟨16, _⟩ => ⟨S1024x2048, .f32⟩
  | .hbm, ⟨17, _⟩ => ⟨S64x2048, .f32⟩
  | .hbm, ⟨18, _⟩ => ⟨S1x1024x2048, .f32⟩
  | .hbm, ⟨19, _⟩ => ⟨S1024x2048, .f32⟩
  | .hbm, ⟨20, _⟩ => ⟨S64x2048, .f32⟩
  | .hbm, ⟨21, _⟩ => ⟨S1x1024x2048, .f32⟩
  | .hbm, ⟨22, _⟩ => ⟨S1024x2048, .f32⟩
  | .hbm, ⟨23, _⟩ => ⟨S64x2048, .f32⟩
  | .hbm, ⟨24, _⟩ => ⟨S1x1024x2048, .f32⟩
  | .hbm, ⟨25, _⟩ => ⟨S1024x2048, .f32⟩
  | .hbm, ⟨26, _⟩ => ⟨S64x2048, .f32⟩
  | .hbm, ⟨27, _⟩ => ⟨S1x1024x2048, .f32⟩
  | .hbm, ⟨28, _⟩ => ⟨S1024x2048, .f32⟩
  | .hbm, ⟨29, _⟩ => ⟨S64x2048, .f32⟩
  | .hbm, ⟨30, _⟩ => ⟨S1x1024x2048, .f32⟩
  | .hbm, ⟨31, _⟩ => ⟨S1024x2048, .f32⟩
  | .hbm, ⟨32, _⟩ => ⟨S64x2048, .f32⟩
  | .hbm, ⟨33, _⟩ => ⟨S1x1024x2048, .f32⟩
  | .hbm, ⟨34, _⟩ => ⟨S1024x2048, .f32⟩
  | .hbm, ⟨35, _⟩ => ⟨S64x2048, .f32⟩
  | .hbm, ⟨36, _⟩ => ⟨S1x1024x2048, .f32⟩
  | .hbm, ⟨37, _⟩ => ⟨S1024x2048, .f32⟩
  | .hbm, ⟨38, _⟩ => ⟨S64x2048, .f32⟩
  | .hbm, ⟨39, _⟩ => ⟨S1x1024x2048, .f32⟩
  | .hbm, ⟨40, _⟩ => ⟨S1024x2048, .f32⟩
  | .hbm, ⟨41, _⟩ => ⟨S64x2048, .f32⟩
  | .hbm, ⟨42, _⟩ => ⟨S1x1024x2048, .f32⟩
  | .hbm, ⟨43, _⟩ => ⟨S1024x2048, .f32⟩
  | .hbm, ⟨44, _⟩ => ⟨S64x2048, .f32⟩
  | .hbm, ⟨45, _⟩ => ⟨S1x1024x2048, .f32⟩
  | .hbm, ⟨46, _⟩ => ⟨S1024x2048, .f32⟩
  | .hbm, ⟨47, _⟩ => ⟨S64x2048, .f32⟩
  | .hbm, ⟨48, _⟩ => ⟨S1x1024x2048, .f32⟩
  | .hbm, ⟨49, _⟩ => ⟨S1024x2048, .f32⟩
  | .hbm, ⟨50, _⟩ => ⟨S64x2048, .f32⟩
  | .hbm, ⟨51, _⟩ => ⟨S1x1024x2048, .f32⟩
  | .hbm, ⟨52, _⟩ => ⟨S1024x2048, .f32⟩
  | .hbm, ⟨53, _⟩ => ⟨S64x2048, .f32⟩
  | .hbm, ⟨54, _⟩ => ⟨S1024x2048, .f32⟩
  | .hbm, ⟨55, _⟩ => ⟨S1x1024x2048, .f32⟩
  | .hbm, ⟨56, _⟩ => ⟨S1024x2048, .f32⟩
  | .hbm, ⟨57, _⟩ => ⟨S1x1024x2048, .f32⟩
  | .hbm, ⟨58, _⟩ => ⟨S1024x2048, .f32⟩
  | .hbm, ⟨59, _⟩ => ⟨S1x1024x2048, .f32⟩
  | .hbm, ⟨60, _⟩ => ⟨S1024x2048, .f32⟩
  | .hbm, ⟨61, _⟩ => ⟨S1x1024x2048, .f32⟩
  | .hbm, ⟨62, _⟩ => ⟨S1x1024x2048, .f32⟩
  | .hbm, ⟨63, _⟩ => ⟨S1x1024x2048, .f32⟩
  | .hbm, ⟨64, _⟩ => ⟨S1x1024x2048, .f32⟩
  | .hbm, ⟨65, _⟩ => ⟨S4x1024x2048, .f32⟩
  | .hbm, ⟨66, _⟩ => ⟨S4x1024x2048, .bf16⟩
  | .hbm, ⟨67, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S4x1024x512, .bf16⟩
  | .local _ .vmem, ⟨9, _⟩ => ⟨S4x1024x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .bf16⟩
  | .local _ .vmem, ⟨19, _⟩ => ⟨S1024x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S16384x1024 : Shape := ⟨2, ![16384, 1024]⟩
abbrev S4x1024x2048 : Shape := ⟨3, ![4, 1024, 2048]⟩
abbrev S16384x21504 : Shape := ⟨2, ![16384, 21504]⟩
abbrev S16384x2x4x2x64 : Shape := ⟨5, ![16384, 2, 4, 2, 64]⟩
abbrev S16384x2x2x4x64 : Shape := ⟨5, ![16384, 2, 2, 4, 64]⟩
abbrev S1x16384x1024 : Shape := ⟨3, ![1, 16384, 1024]⟩
abbrev S4x16384x1024 : Shape := ⟨3, ![4, 16384, 1024]⟩
abbrev S4x16384x2048 : Shape := ⟨3, ![4, 16384, 2048]⟩
abbrev S16384x8192 : Shape := ⟨2, ![16384, 8192]⟩
abbrev S16384x4x2048 : Shape := ⟨3, ![16384, 4, 2048]⟩
abbrev S_ : Shape := ⟨0, ![]⟩
abbrev S16384x2048 : Shape := ⟨2, ![16384, 2048]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .f32⟩
  | .hbm, ⟨4, _⟩ => ⟨S4x1024x2048, .f32⟩
  | .hbm, ⟨5, _⟩ => ⟨S16384x21504, .f32⟩
  | .hbm, ⟨6, _⟩ => ⟨S16384x1024, .f32⟩
  | .hbm, ⟨7, _⟩ => ⟨S16384x2x4x2x64, .f32⟩
  | .hbm, ⟨8, _⟩ => ⟨S16384x2x2x4x64, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S1x16384x1024, .f32⟩
  | .hbm, ⟨13, _⟩ => ⟨S1x16384x1024, .f32⟩
  | .hbm, ⟨14, _⟩ => ⟨S1x16384x1024, .f32⟩
  | .hbm, ⟨15, _⟩ => ⟨S1x16384x1024, .f32⟩
  | .hbm, ⟨16, _⟩ => ⟨S4x16384x1024, .f32⟩
  | .hbm, ⟨17, _⟩ => ⟨S4x16384x2048, .f32⟩
  | .hbm, ⟨18, _⟩ => ⟨S16384x8192, .f32⟩
  | .hbm, ⟨19, _⟩ => ⟨S16384x4x2048, .f32⟩
  | .hbm, ⟨20, _⟩ => ⟨S16384x4x2048, .f32⟩
  | .hbm, ⟨21, _⟩ => ⟨S16384x4x2048, .f32⟩
  | .hbm, ⟨22, _⟩ => ⟨S_, .f32⟩
  | .hbm, ⟨23, _⟩ => ⟨S16384x4x2048, .f32⟩
  | .hbm, ⟨24, _⟩ => ⟨S16384x4x2048, .f32⟩
  | .hbm, ⟨25, _⟩ => ⟨S_, .f32⟩
  | .hbm, ⟨26, _⟩ => ⟨S16384x4x2048, .f32⟩
  | .hbm, ⟨27, _⟩ => ⟨S16384x4x2048, .f32⟩
  | .hbm, ⟨28, _⟩ => ⟨S16384x2048, .f32⟩
  | .hbm, ⟨29, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Out.lean ====
abbrev S16384x2048 : Shape := ⟨2, ![16384, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048x2048, .bf16⟩
  | .hbm, ⟨4, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Final.lean ====
abbrev S16384x2048 : Shape := ⟨2, ![16384, 2048]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Router.lean ====
abbrev S16384x2048 : Shape := ⟨2, ![16384, 2048]⟩
abbrev S2048 : Shape := ⟨1, ![2048]⟩
abbrev S2048x16 : Shape := ⟨2, ![2048, 16]⟩
abbrev S_ : Shape := ⟨0, ![]⟩
abbrev S2048x128 : Shape := ⟨2, ![2048, 128]⟩
abbrev S1x2048 : Shape := ⟨2, ![1, 2048]⟩
abbrev S16384x2176 : Shape := ⟨2, ![16384, 2176]⟩
abbrev S128x16384 : Shape := ⟨2, ![128, 16384]⟩
abbrev S512x2048 : Shape := ⟨2, ![512, 2048]⟩
abbrev S512x2176 : Shape := ⟨2, ![512, 2176]⟩
abbrev S128x512 : Shape := ⟨2, ![128, 512]⟩
abbrev S512 : Shape := ⟨1, ![512]⟩
abbrev S512x1 : Shape := ⟨2, ![512, 1]⟩
abbrev S512x128 : Shape := ⟨2, ![512, 128]⟩

abbrev nBuf : Space → Nat
  | .hbm => 10
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x16, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S2048x128, .bf16⟩
  | .hbm, ⟨7, _⟩ => ⟨S1x2048, .f32⟩
  | .hbm, ⟨8, _⟩ => ⟨S16384x2176, .f32⟩
  | .hbm, ⟨9, _⟩ => ⟨S128x16384, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .bf16⟩
  | .local _ .vmem, ⟨4, _⟩ => ⟨S512x2176, .f32⟩
  | .local _ .vmem, ⟨5, _⟩ => ⟨S512x2176, .f32⟩
  | .local _ .vmem, ⟨6, _⟩ => ⟨S128x512, .f32⟩
  | .local _ .vmem, ⟨7, _⟩ => ⟨S128x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RouterRefIdeal.lean ====
abbrev S16384x2048 : Shape := ⟨2, ![16384, 2048]⟩
abbrev S2048 : Shape := ⟨1, ![2048]⟩
abbrev S2048x16 : Shape := ⟨2, ![2048, 16]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x16 : Shape := ⟨2, ![16384, 16]⟩
abbrev S16384x112 : Shape := ⟨2, ![16384, 112]⟩
abbrev S16384x128 : Shape := ⟨2, ![16384, 128]⟩
abbrev S16384x2176 : Shape := ⟨2, ![16384, 2176]⟩
abbrev S128x16384 : Shape := ⟨2, ![128, 16384]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x16, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x16, .f32⟩
  | .hbm, ⟨20, _⟩ => ⟨S_, .f32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S16384x1, .f32⟩
  | .hbm, ⟨26, _⟩ => ⟨S16384x16, .f32⟩
  | .hbm, ⟨27, _⟩ => ⟨S16384x16, .f32⟩
  | .hbm, ⟨28, _⟩ => ⟨S16384x16, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S16384x16, .f32⟩
  | .hbm, ⟨33, _⟩ => ⟨S16384x16, .f32⟩
  | .hbm, ⟨34, _⟩ => ⟨S_, .f32⟩
  | .hbm, ⟨35, _⟩ => ⟨S16384x112, .f32⟩
  | .hbm, ⟨36, _⟩ => ⟨S16384x128, .f32⟩
  | .hbm, ⟨37, _⟩ => ⟨S16384x2176, .f32⟩
  | .hbm, ⟨38, _⟩ => ⟨S128x16384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== SsdPre.lean ====
abbrev S8x2048x21504 : Shape := ⟨3, ![8, 2048, 21504]⟩
abbrev S3x1536 : Shape := ⟨2, ![3, 1536]⟩
abbrev S1536 : Shape := ⟨1, ![1536]⟩
abbrev S1x1536 : Shape := ⟨2, ![1, 1536]⟩
abbrev S8x2048x1536 : Shape := ⟨3, ![8, 2048, 1536]⟩
abbrev S1x2048x128 : Shape := ⟨3, ![1, 2048, 128]⟩
abbrev S3x128 : Shape := ⟨2, ![3, 128]⟩
abbrev S1x128 : Shape := ⟨2, ![1, 128]⟩
abbrev S2048x128 : Shape := ⟨2, ![2048, 128]⟩

abbrev nBuf : Space → Nat
  | .hbm => 5
  | .vmem => 8
  | .smem => 0
  | _ => 0

abbrev bufTy : (tb : Table) → Fin (tcTables nBuf tb) → BufTy
  | .hbm, ⟨0, _⟩ => ⟨S8x2048x21504, .f32⟩
  | .hbm, ⟨1, _⟩ => ⟨S3x1536, .f32⟩
  | .hbm, ⟨2, _⟩ => ⟨S1536, .f32⟩
  | .hbm, ⟨3, _⟩ => ⟨S1x1536, .f32⟩
  | .hbm, ⟨4, _⟩ => ⟨S8x2048x1536, .f32⟩
  | .local _ .vmem, ⟨0, _⟩ => ⟨S1x2048x128, .f32⟩
  | .local _ .vmem, ⟨1, _⟩ => ⟨S1x2048x128, .f32⟩
  | .local _ .vmem, ⟨2, _⟩ => ⟨S3x128, .f32⟩
  | .local _ .vmem, ⟨3, _⟩ => ⟨S3x128, .f32⟩
  | .local _ .vmem, ⟨4, _⟩ => ⟨S1x128, .f32⟩
  | .local _ .vmem, ⟨5, _⟩ => ⟨S1x128, .f32⟩
  | .local _ .vmem, ⟨6, _⟩ => ⟨S1x2048x128, .f32⟩
  | .local _ .vmem, ⟨7, _⟩ => ⟨S1x2048x128, .f32⟩
  | _, _ => ⟨S8x2048x21504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 12], ![false, false]⟩

def cc0_transform_0 (i : grid0.Coords) : Fin 3 → Nat :=
  let arg0 : BitVec 32 := BitVec.ofNat 32 (i 0).val
  let arg1 : BitVec 32 := BitVec.ofNat 32 (i 1).val
  let c144_i32 : BitVec 32 := 144#32
  let v0 : BitVec 32 := Scalar.addi c144_i32 arg1
  let c0_i32 : BitVec 32 := 0#32
  let c0_i32_0 : BitVec 32 := 0#32
  ![arg0.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsdPreRefIdeal.lean ====
abbrev S8x2048x21504 : Shape := ⟨3, ![8, 2048, 21504]⟩
abbrev S3x1536 : Shape := ⟨2, ![3, 1536]⟩
abbrev S1536 : Shape := ⟨1, ![1536]⟩
abbrev S8x2048x1536 : Shape := ⟨3, ![8, 2048, 1536]⟩
abbrev S_ : Shape := ⟨0, ![]⟩
abbrev S8x2050x1536 : Shape := ⟨3, ![8, 2050, 1536]⟩
abbrev S1x1536 : Shape := ⟨2, ![1, 1536]⟩
abbrev S1x1x1536 : Shape := ⟨3, ![1, 1, 1536]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x21504, .f32⟩
  | .hbm, ⟨1, _⟩ => ⟨S3x1536, .f32⟩
  | .hbm, ⟨2, _⟩ => ⟨S1536, .f32⟩
  | .hbm, ⟨3, _⟩ => ⟨S8x2048x1536, .f32⟩
  | .hbm, ⟨4, _⟩ => ⟨S_, .i32⟩
  | .hbm, ⟨5, _⟩ => ⟨S_, .f32⟩
  | .hbm, ⟨6, _⟩ => ⟨S8x2050x1536, .f32⟩
  | .hbm, ⟨7, _⟩ => ⟨S8x2048x1536, .f32⟩
  | .hbm, ⟨8, _⟩ => ⟨S1x1536, .f32⟩
  | .hbm, ⟨9, _⟩ => ⟨S1536, .f32⟩
  | .hbm, ⟨10, _⟩ => ⟨S1x1x1536, .f32⟩
  | .hbm, ⟨11, _⟩ => ⟨S8x2048x1536, .f32⟩
  | .hbm, ⟨12, _⟩ => ⟨S8x2048x1536, .f32⟩
  | .hbm, ⟨13, _⟩ => ⟨S_, .f32⟩
  | .hbm, ⟨14, _⟩ => ⟨S8x2048x1536, .f32⟩
  | .hbm, ⟨15, _⟩ => ⟨S8x2048x1536, .f32⟩
  | .hbm, ⟨16, _⟩ => ⟨S8x2048x1536, .f32⟩
  | .hbm, ⟨17, _⟩ => ⟨S1x1536, .f32⟩
  | .hbm, ⟨18, _⟩ => ⟨S1536, .f32⟩
  | .hbm, ⟨19, _⟩ => ⟨S1x1x1536, .f32⟩
  | .hbm, ⟨20, _⟩ => ⟨S8x2048x1536, .f32⟩
  | .hbm, ⟨21, _⟩ => ⟨S8x2048x1536, .f32⟩
  | .hbm, ⟨22, _⟩ => ⟨S8x2048x1536, .f32⟩
  | .hbm, ⟨23, _⟩ => ⟨S8x2048x1536, .f32⟩
  | .hbm, ⟨24, _⟩ => ⟨S1x1536, .f32⟩
  | .hbm, ⟨25, _⟩ => ⟨S1536, .f32⟩
  | .hbm, ⟨26, _⟩ => ⟨S1x1x1536, .f32⟩
  | .hbm, ⟨27, _⟩ => ⟨S8x2048x1536, .f32⟩
  | .hbm, ⟨28, _⟩ => ⟨S8x2048x1536, .f32⟩
  | .hbm, ⟨29, _⟩ => ⟨S8x2048x1536, .f32⟩
  | .hbm, ⟨30, _⟩ => ⟨S1x1x1536, .f32⟩
  | .hbm, ⟨31, _⟩ => ⟨S8x2048x1536, .f32⟩
  | .hbm, ⟨32, _⟩ => ⟨S8x2048x1536, .f32⟩
  | .hbm, ⟨33, _⟩ => ⟨S8x2048x1536, .f32⟩
  | .hbm, ⟨34, _⟩ => ⟨S8x2048x1536, .f32⟩
  | .hbm, ⟨35, _⟩ => ⟨S_, .f32⟩
  | .hbm, ⟨36, _⟩ => ⟨S8x2048x1536, .f32⟩
  | .hbm, ⟨37, _⟩ => ⟨S8x2048x1536, .f32⟩
  | .hbm, ⟨38, _⟩ => ⟨S_, .f32⟩
  | .hbm, ⟨39, _⟩ => ⟨S8x2048x1536, .f32⟩
  | .hbm, ⟨40, _⟩ => ⟨S8x2048x1536, .f32⟩
  | .hbm, ⟨41, _⟩ => ⟨S8x2048x1536, .f32⟩
  | _, _ => ⟨S8x2048x21504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== HyenaPre.lean ====
abbrev S8x2048x21504 : Shape := ⟨3, ![8, 2048, 21504]⟩
abbrev S3x3072 : Shape := ⟨2, ![3, 3072]⟩
abbrev S3072 : Shape := ⟨1, ![3072]⟩
abbrev S1x3072 : Shape := ⟨2, ![1, 3072]⟩
abbrev S8x2048x1024 : Shape := ⟨3, ![8, 2048, 1024]⟩
abbrev S1x2048x128 : Shape := ⟨3, ![1, 2048, 128]⟩
abbrev S3x128 : Shape := ⟨2, ![3, 128]⟩
abbrev S1x128 : Shape := ⟨2, ![1, 128]⟩
abbrev S2048x128 : Shape := ⟨2, ![2048, 128]⟩

abbrev nBuf : Space → Nat
  | .hbm => 6
  | .vmem => 22
  | .smem => 0
  | _ => 0

abbrev bufTy : (tb : Table) → Fin (tcTables nBuf tb) → BufTy
  | .hbm, ⟨0, _⟩ => ⟨S8x2048x21504, .f32⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S8x2048x1024, .f32⟩
  | .hbm, ⟨5, _⟩ => ⟨S8x2048x1024, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S3x128, .f32⟩
  | .local _ .vmem, ⟨7, _⟩ => ⟨S3x128, .f32⟩
  | .local _ .vmem, ⟨8, _⟩ => ⟨S3x128, .f32⟩
  | .local _ .vmem, ⟨9, _⟩ => ⟨S3x128, .f32⟩
  | .local _ .vmem, ⟨10, _⟩ => ⟨S3x128, .f32⟩
  | .local _ .vmem, ⟨11, _⟩ => ⟨S3x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x2048x128, .f32⟩
  | .local _ .vmem, ⟨19, _⟩ => ⟨S1x2048x128, .f32⟩
  | .local _ .vmem, ⟨20, _⟩ => ⟨S1x2048x128, .f32⟩
  | .local _ .vmem, ⟨21, _⟩ => ⟨S1x2048x128, .f32⟩
  | _, _ => ⟨S8x2048x21504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c104_i32 : BitVec 32 := 104#32
  let v0 : BitVec 32 := Scalar.addi c104_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c112_i32 : BitVec 32 := 112#32
  let v0 : BitVec 32 := Scalar.addi c112_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c120_i32 : BitVec 32 := 120#32
  let v0 : BitVec 32 := Scalar.addi c120_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== HyenaPreRefIdeal.lean ====
abbrev S8x2048x21504 : Shape := ⟨3, ![8, 2048, 21504]⟩
abbrev S3x3072 : Shape := ⟨2, ![3, 3072]⟩
abbrev S3072 : Shape := ⟨1, ![3072]⟩
abbrev S8x2048x3072 : Shape := ⟨3, ![8, 2048, 3072]⟩
abbrev S_ : Shape := ⟨0, ![]⟩
abbrev S8x2050x3072 : Shape := ⟨3, ![8, 2050, 3072]⟩
abbrev S1x3072 : Shape := ⟨2, ![1, 3072]⟩
abbrev S1x1x3072 : Shape := ⟨3, ![1, 1, 3072]⟩
abbrev S8x2048x1024 : Shape := ⟨3, ![8, 2048, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x21504, .f32⟩
  | .hbm, ⟨1, _⟩ => ⟨S3x3072, .f32⟩
  | .hbm, ⟨2, _⟩ => ⟨S3072, .f32⟩
  | .hbm, ⟨3, _⟩ => ⟨S8x2048x3072, .f32⟩
  | .hbm, ⟨4, _⟩ => ⟨S_, .i32⟩
  | .hbm, ⟨5, _⟩ => ⟨S_, .f32⟩
  | .hbm, ⟨6, _⟩ => ⟨S8x2050x3072, .f32⟩
  | .hbm, ⟨7, _⟩ => ⟨S8x2048x3072, .f32⟩
  | .hbm, ⟨8, _⟩ => ⟨S1x3072, .f32⟩
  | .hbm, ⟨9, _⟩ => ⟨S3072, .f32⟩
  | .hbm, ⟨10, _⟩ => ⟨S1x1x3072, .f32⟩
  | .hbm, ⟨11, _⟩ => ⟨S8x2048x3072, .f32⟩
  | .hbm, ⟨12, _⟩ => ⟨S8x2048x3072, .f32⟩
  | .hbm, ⟨13, _⟩ => ⟨S_, .f32⟩
  | .hbm, ⟨14, _⟩ => ⟨S8x2048x3072, .f32⟩
  | .hbm, ⟨15, _⟩ => ⟨S8x2048x3072, .f32⟩
  | .hbm, ⟨16, _⟩ => ⟨S8x2048x3072, .f32⟩
  | .hbm, ⟨17, _⟩ => ⟨S1x3072, .f32⟩
  | .hbm, ⟨18, _⟩ => ⟨S3072, .f32⟩
  | .hbm, ⟨19, _⟩ => ⟨S1x1x3072, .f32⟩
  | .hbm, ⟨20, _⟩ => ⟨S8x2048x3072, .f32⟩
  | .hbm, ⟨21, _⟩ => ⟨S8x2048x3072, .f32⟩
  | .hbm, ⟨22, _⟩ => ⟨S8x2048x3072, .f32⟩
  | .hbm, ⟨23, _⟩ => ⟨S8x2048x3072, .f32⟩
  | .hbm, ⟨24, _⟩ => ⟨S1x3072, .f32⟩
  | .hbm, ⟨25, _⟩ => ⟨S3072, .f32⟩
  | .hbm, ⟨26, _⟩ => ⟨S1x1x3072, .f32⟩
  | .hbm, ⟨27, _⟩ => ⟨S8x2048x3072, .f32⟩
  | .hbm, ⟨28, _⟩ => ⟨S8x2048x3072, .f32⟩
  | .hbm, ⟨29, _⟩ => ⟨S8x2048x3072, .f32⟩
  | .hbm, ⟨30, _⟩ => ⟨S1x1x3072, .f32⟩
  | .hbm, ⟨31, _⟩ => ⟨S8x2048x3072, .f32⟩
  | .hbm, ⟨32, _⟩ => ⟨S8x2048x3072, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | _, _ => ⟨S8x2048x21504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== Filter.lean ====
abbrev S2048x33 : Shape := ⟨2, ![2048, 33]⟩
abbrev S1024 : Shape := ⟨1, ![1024]⟩
abbrev S33x64 : Shape := ⟨2, ![33, 64]⟩
abbrev S64 : Shape := ⟨1, ![64]⟩
abbrev S2x64x64 : Shape := ⟨3, ![2, 64, 64]⟩
abbrev S2x64 : Shape := ⟨2, ![2, 64]⟩
abbrev S3x64 : Shape := ⟨2, ![3, 64]⟩
abbrev S64x2048 : Shape := ⟨2, ![64, 2048]⟩
abbrev S_ : Shape := ⟨0, ![]⟩
abbrev S2048x128 : Shape := ⟨2, ![2048, 128]⟩
abbrev S1x1024 : Shape := ⟨2, ![1, 1024]⟩
abbrev S2x1024 : Shape := ⟨2, ![2, 1024]⟩
abbrev S2048 : Shape := ⟨1, ![2048]⟩
abbrev S1x2048 : Shape := ⟨2, ![1, 2048]⟩
abbrev S128x128 : Shape := ⟨2, ![128, 128]⟩
abbrev S1x64 : Shape := ⟨2, ![1, 64]⟩
abbrev S1x128 : Shape := ⟨2, ![1, 128]⟩
abbrev S2x128x128 : Shape := ⟨3, ![2, 128, 128]⟩
abbrev S2x128 : Shape := ⟨2, ![2, 128]⟩
abbrev S3x128 : Shape := ⟨2, ![3, 128]⟩
abbrev S128x2048 : Shape := ⟨2, ![128, 2048]⟩
abbrev S1x2048x2048 : Shape := ⟨3, ![1, 2048, 2048]⟩
abbrev S512x128 : Shape := ⟨2, ![512, 128]⟩
abbrev S1x512x2048 : Shape := ⟨3, ![1, 512, 2048]⟩
abbrev S1x128x128 : Shape := ⟨3, ![1, 128, 128]⟩
abbrev S512x2048 : Shape := ⟨2, ![512, 2048]⟩
abbrev S512x1 : Shape := ⟨2, ![512, 1]⟩

abbrev nBuf : Space → Nat
  | .hbm => 35
  | .vmem => 11
  | .smem => 0
  | _ => 0

abbrev bufTy : (tb : Table) → Fin (tcTables nBuf tb) → BufTy
  | .hbm, ⟨0, _⟩ => ⟨S2048x33, .f32⟩
  | .hbm, ⟨1, _⟩ => ⟨S1024, .f32⟩
  | .hbm, ⟨2, _⟩ => ⟨S33x64, .f32⟩
  | .hbm, ⟨3, _⟩ => ⟨S64, .f32⟩
  | .hbm, ⟨4, _⟩ => ⟨S2x64x64, .f32⟩
  | .hbm, ⟨5, _⟩ => ⟨S2x64, .f32⟩
  | .hbm, ⟨6, _⟩ => ⟨S3x64, .f32⟩
  | .hbm, ⟨7, _⟩ => ⟨S64x2048, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S1x1024, .f32⟩
  | .hbm, ⟨12, _⟩ => ⟨S2x1024, .f32⟩
  | .hbm, ⟨13, _⟩ => ⟨S2048, .f32⟩
  | .hbm, ⟨14, _⟩ => ⟨S1x2048, .f32⟩
  | .hbm, ⟨15, _⟩ => ⟨S_, .i32⟩
  | .hbm, ⟨16, _⟩ => ⟨S_, .f32⟩
  | .hbm, ⟨17, _⟩ => ⟨S128x128, .f32⟩
  | .hbm, ⟨18, _⟩ => ⟨S1x64, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S_, .i32⟩
  | .hbm, ⟨23, _⟩ => ⟨S_, .f32⟩
  | .hbm, ⟨24, _⟩ => ⟨S2x128x128, .f32⟩
  | .hbm, ⟨25, _⟩ => ⟨S_, .i32⟩
  | .hbm, ⟨26, _⟩ => ⟨S_, .f32⟩
  | .hbm, ⟨27, _⟩ => ⟨S2x128, .f32⟩
  | .hbm, ⟨28, _⟩ => ⟨S_, .i32⟩
  | .hbm, ⟨29, _⟩ => ⟨S_, .f32⟩
  | .hbm, ⟨30, _⟩ => ⟨S3x128, .f32⟩
  | .hbm, ⟨31, _⟩ => ⟨S_, .i32⟩
  | .hbm, ⟨32, _⟩ => ⟨S_, .f32⟩
  | .hbm, ⟨33, _⟩ => ⟨S128x2048, .f32⟩
  | .hbm, ⟨34, _⟩ => ⟨S1x2048x2048, .f32⟩
  | .local _ .vmem, ⟨0, _⟩ => ⟨S512x128, .f32⟩
  | .local _ .vmem, ⟨1, _⟩ => ⟨S512x128, .f32⟩
  | .local _ .vmem, ⟨2, _⟩ => ⟨S128x128, .f32⟩
  | .local _ .vmem, ⟨3, _⟩ => ⟨S1x128, .f32⟩
  | .local _ .vmem, ⟨4, _⟩ => ⟨S2x128x128, .f32⟩
  | .local _ .vmem, ⟨5, _⟩ => ⟨S2x128, .f32⟩
  | .local _ .vmem, ⟨6, _⟩ => ⟨S3x128, .f32⟩
  | .local _ .vmem, ⟨7, _⟩ => ⟨S128x2048, .f32⟩
  | .local _ .vmem, ⟨8, _⟩ => ⟨S1x2048, .f32⟩
  | .local _ .vmem, ⟨9, _⟩ => ⟨S1x512x2048, .f32⟩
  | .local _ .vmem, ⟨10, _⟩ => ⟨S1x512x2048, .f32⟩
  | _, _ => ⟨S2048x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_call2_v0 : Ref sig .tc := ⟨.hbm, 20, rfl⟩
abbrev main_v7 : Ref sig .tc := ⟨.hbm, 21, rfl⟩
abbrev main_c_2 : Ref sig .tc := ⟨.hbm, 22, rfl⟩
abbrev main_call3_v0 : Ref sig .tc := ⟨.hbm, 23, rfl⟩
abbrev main_v8 : Ref sig .tc := ⟨.hbm, 24, rfl⟩
abbrev main_c_3 : Ref sig .tc := ⟨.hbm, 25, rfl⟩
abbrev main_call4_v0 : Ref sig .tc := ⟨.hbm, 26, rfl⟩
abbrev main_v9 : Ref sig .tc := ⟨.hbm, 27, rfl⟩
abbrev main_c_4 : Ref sig .tc := ⟨.hbm, 28, rfl⟩
abbrev main_call5_v0 : Ref sig .tc := ⟨.hbm, 29, rfl⟩
abbrev main_v10 : Ref sig .tc := ⟨.hbm, 30, rfl⟩
abbrev main_c_5 : Ref sig .tc := ⟨.hbm, 31, rfl⟩
abbrev main_call6_v0 : Ref sig .tc := ⟨.hbm, 32, rfl⟩
abbrev main_v11 : Ref sig .tc := ⟨.hbm, 33, rfl⟩
abbrev main_v12 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FilterRefIdeal.lean ====
abbrev S2048x33 : Shape := ⟨2, ![2048, 33]⟩
abbrev S1024 : Shape := ⟨1, ![1024]⟩
abbrev S33x64 : Shape := ⟨2, ![33, 64]⟩
abbrev S64 : Shape := ⟨1, ![64]⟩
abbrev S2x64x64 : Shape := ⟨3, ![2, 64, 64]⟩
abbrev S2x64 : Shape := ⟨2, ![2, 64]⟩
abbrev S3x64 : Shape := ⟨2, ![3, 64]⟩
abbrev S64x2048 : Shape := ⟨2, ![64, 2048]⟩
abbrev S2048x1 : Shape := ⟨2, ![2048, 1]⟩
abbrev S1x64 : Shape := ⟨2, ![1, 64]⟩
abbrev S2048x64 : Shape := ⟨2, ![2048, 64]⟩
abbrev S1x64x64 : Shape := ⟨3, ![1, 64, 64]⟩
abbrev S64x64 : Shape := ⟨2, ![64, 64]⟩
abbrev S2048x2048 : Shape := ⟨2, ![2048, 2048]⟩
abbrev S1x1024 : Shape := ⟨2, ![1, 1024]⟩
abbrev S2x1024 : Shape := ⟨2, ![2, 1024]⟩
abbrev S2048 : Shape := ⟨1, ![2048]⟩
abbrev S1x2048 : Shape := ⟨2, ![1, 2048]⟩
abbrev S1x2048x2048 : Shape := ⟨3, ![1, 2048, 2048]⟩

abbrev nBuf : Space → Nat
  | .hbm => 59
  | .vmem => 0
  | .smem => 0
  | _ => 0

abbrev bufTy : (tb : Table) → Fin (tcTables nBuf tb) → BufTy
  | .hbm, ⟨0, _⟩ => ⟨S2048x33, .f32⟩
  | .hbm, ⟨1, _⟩ => ⟨S1024, .f32⟩
  | .hbm, ⟨2, _⟩ => ⟨S33x64, .f32⟩
  | .hbm, ⟨3, _⟩ => ⟨S64, .f32⟩
  | .hbm, ⟨4, _⟩ => ⟨S2x64x64, .f32⟩
  | .hbm, ⟨5, _⟩ => ⟨S2x64, .f32⟩
  | .hbm, ⟨6, _⟩ => ⟨S3x64, .f32⟩
  | .hbm, ⟨7, _⟩ => ⟨S64x2048, .f32⟩
  | .hbm, ⟨8, _⟩ => ⟨S2048x1, .f32⟩
  | .hbm, ⟨9, _⟩ => ⟨S1x64, .f32⟩
  | .hbm, ⟨10, _⟩ => ⟨S64, .f32⟩
  | .hbm, ⟨11, _⟩ => ⟨S2048x64, .f32⟩
  | .hbm, ⟨12, _⟩ => ⟨S1x64, .f32⟩
  | .hbm, ⟨13, _⟩ => ⟨S2048x64, .f32⟩
  | .hbm, ⟨14, _⟩ => ⟨S2048x64, .f32⟩
  | .hbm, ⟨15, _⟩ => ⟨S1x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S1x64, .f32⟩
  | .hbm, ⟨20, _⟩ => ⟨S64, .f32⟩
  | .hbm, ⟨21, _⟩ => ⟨S1x64x64, .f32⟩
  | .hbm, ⟨22, _⟩ => ⟨S64x64, .f32⟩
  | .hbm, ⟨23, _⟩ => ⟨S2048x64, .f32⟩
  | .hbm, ⟨24, _⟩ => ⟨S1x64, .f32⟩
  | .hbm, ⟨25, _⟩ => ⟨S64, .f32⟩
  | .hbm, ⟨26, _⟩ => ⟨S1x64, .f32⟩
  | .hbm, ⟨27, _⟩ => ⟨S2048x64, .f32⟩
  | .hbm, ⟨28, _⟩ => ⟨S2048x64, .f32⟩
  | .hbm, ⟨29, _⟩ => ⟨S1x64, .f32⟩
  | .hbm, ⟨30, _⟩ => ⟨S2048x64, .f32⟩
  | .hbm, ⟨31, _⟩ => ⟨S2048x64, .f32⟩
  | .hbm, ⟨32, _⟩ => ⟨S2048x64, .f32⟩
  | .hbm, ⟨33, _⟩ => ⟨S1x64, .f32⟩
  | .hbm, ⟨34, _⟩ => ⟨S64, .f32⟩
  | .hbm, ⟨35, _⟩ => ⟨S1x64x64, .f32⟩
  | .hbm, ⟨36, _⟩ => ⟨S64x64, .f32⟩
  | .hbm, ⟨37, _⟩ => ⟨S2048x64, .f32⟩
  | .hbm, ⟨38, _⟩ => ⟨S1x64, .f32⟩
  | .hbm, ⟨39, _⟩ => ⟨S64, .f32⟩
  | .hbm, ⟨40, _⟩ => ⟨S1x64, .f32⟩
  | .hbm, ⟨41, _⟩ => ⟨S2048x64, .f32⟩
  | .hbm, ⟨42, _⟩ => ⟨S2048x64, .f32⟩
  | .hbm, ⟨43, _⟩ => ⟨S1x64, .f32⟩
  | .hbm, ⟨44, _⟩ => ⟨S2048x64, .f32⟩
  | .hbm, ⟨45, _⟩ => ⟨S2048x64, .f32⟩
  | .hbm, ⟨46, _⟩ => ⟨S2048x64, .f32⟩
  | .hbm, ⟨47, _⟩ => ⟨S2048x2048, .f32⟩
  | .hbm, ⟨48, _⟩ => ⟨S2048x1, .f32⟩
  | .hbm, ⟨49, _⟩ => ⟨S1x1024, .f32⟩
  | .hbm, ⟨50, _⟩ => ⟨S2x1024, .f32⟩
  | .hbm, ⟨51, _⟩ => ⟨S2048, .f32⟩
  | .hbm, ⟨52, _⟩ => ⟨S1x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S1x2048x2048, .f32⟩
  | _, _ => ⟨S2048x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩

abbrev nD : Nat := 1
abbrev τ : Topo := Topo.v7x

variable {F : FTy → Type} [FloatOps F]
-- ==== Proof.AttnMath.lean ====
module

public import Idealize.ShloMosaic.Lib.Pipeline.ValueKit
public import Idealize.ShloMosaic.Lib.Pointwise

@[expose] public section

noncomputable section

open Idealize.ShloMosaic

namespace Cert.Heads

/-- The value a masked logit takes. -/
def neg : EReal := Ideal.ofBits .f32 4048155338#32

/-- The value the maximum starts from. -/
def start : EReal := Ideal.ofBits .f32 4286578688#32

/-- The greatest of the masked logits and the sink's. -/
def top (v : Fin 384 → BitVec 1) (s : Fin 384 → EReal) (sk : EReal) : EReal :=
  max (Finset.fold max start (fun x => Scalar.select (v x) (s x) neg) Finset.univ) sk

/-- The weight of a key before the division. -/
def wt (v : Fin 384 → BitVec 1) (s : Fin 384 → EReal) (sk : EReal) (k : Fin 384) : EReal :=
  Scalar.select (v k) (Ideal.exp (Scalar.select (v k) (s k) neg - top v s sk)) 0

/-- The denominator. -/
def den (v : Fin 384 → BitVec 1) (s : Fin 384 → EReal) (sk : EReal) : EReal :=
  ∑ k, wt v s sk k + Ideal.exp (sk - top v s sk)

/-- Values summed by their weights, divided after the sum. -/
def after (v : Fin 384 → BitVec 1) (s : Fin 384 → EReal) (sk : EReal) (w : Fin 384 → EReal) : EReal :=
  (∑ k, wt v s sk k * w k) * Ideal.div 1 (den v s sk)

/-- Values summed by their weights, divided before the sum. -/
def before (v : Fin 384 → BitVec 1) (s : Fin 384 → EReal) (sk : EReal) (w : Fin 384 → EReal) : EReal :=
  ∑ k, w k * Ideal.div (wt v s sk k) (den v s sk)

/-- A number that is neither infinity. -/
def Fin' (x : EReal) : Prop := x ≠ ⊥ ∧ x ≠ ⊤

theorem Fin'.real {x : EReal} (h : Fin' x) : ∃ y : ℝ, x = (y : EReal) :=
  ⟨x.toReal, (EReal.coe_toReal h.2 h.1).symm⟩

theorem Fin'.of_real (y : ℝ) : Fin' (y : EReal) := ⟨EReal.coe_ne_bot y, EReal.coe_ne_top y⟩

theorem Fin'.mul {x y : EReal} (hx : Fin' x) (hy : Fin' y) : Fin' (x * y) := by
  obtain ⟨a, rfl⟩ := hx.real
  obtain ⟨b, rfl⟩ := hy.real
  rw [← EReal.coe_mul]
  exact Fin'.of_real _

theorem Fin'.add {x y : EReal} (hx : Fin' x) (hy : Fin' y) : Fin' (x + y) := by
  obtain ⟨a, rfl⟩ := hx.real
  obtain ⟨b, rfl⟩ := hy.real
  rw [← EReal.coe_add]
  exact Fin'.of_real _

theorem Fin'.sum {ι : Type} (t : Finset ι) (f : ι → EReal) (h : ∀ i, Fin' (f i)) : Fin' (∑ i ∈ t, f i) := by
  classical
  induction t using Finset.induction_on with
  | empty => simpa using Fin'.of_real 0
  | insert a t ha ih => rw [Finset.sum_insert ha]; exact (h a).add ih

theorem sum_coe {ι : Type} (t : Finset ι) (f : ι → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- A factor that is finite and not negative goes into a sum. -/
theorem sum_mul_coe {ι : Type} (t : Finset ι) (f : ι → EReal) {c : ℝ} (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha,
      EReal.right_distrib_of_nonneg_of_ne_top (EReal.coe_nonneg.mpr hc) (EReal.coe_ne_top c), ih]

theorem neg_fin : Fin' neg := by
  unfold neg
  simp only [Ideal.ofBits, Ideal.ieee]
  norm_num
  rw [if_neg (by decide), if_neg (by decide)]
  exact Fin'.of_real _

theorem start_ne_top : start ≠ ⊤ := by
  unfold start
  simp only [Ideal.ofBits, Ideal.ieee]
  norm_num
  rw [if_pos (by decide), if_pos (by decide)]
  exact bot_ne_top

theorem sel_one (a b : EReal) : Scalar.select 1#1 a b = a := rfl
theorem sel_zero (a b : EReal) : Scalar.select 0#1 a b = b := rfl

theorem bit (b : BitVec 1) : b = 1#1 ∨ b = 0#1 := by
  revert b; decide

theorem masked_fin {v : Fin 384 → BitVec 1} {s : Fin 384 → EReal} (hs : ∀ k, Fin' (s k)) (k : Fin 384) :
    Fin' (Scalar.select (v k) (s k) neg) := by
  rcases bit (v k) with h | h <;> rw [h]
  · exact hs k
  · exact neg_fin

theorem top_fin {v : Fin 384 → BitVec 1} {s : Fin 384 → EReal} {sk : EReal} (hs : ∀ k, Fin' (s k)) (hk : Fin' sk) :
    Fin' (top v s sk) := by
  constructor
  · exact ne_bot_of_le_ne_bot hk.1 (le_max_right _ _)
  · refine ne_of_lt (max_lt ?_ (lt_top_iff_ne_top.mpr hk.2))
    exact (Finset.fold_max_lt _).mpr ⟨lt_top_iff_ne_top.mpr start_ne_top,
      fun k _ => lt_top_iff_ne_top.mpr (masked_fin hs k).2⟩

theorem wt_real {v : Fin 384 → BitVec 1} {s : Fin 384 → EReal} {sk : EReal} (hs : ∀ k, Fin' (s k)) (hk : Fin' sk)
    (k : Fin 384) : ∃ p : ℝ, 0 ≤ p ∧ wt v s sk k = (p : EReal) := by
  obtain ⟨M, hM⟩ := (top_fin (v := v) hs hk).real
  obtain ⟨a, ha⟩ := (masked_fin (v := v) hs k).real
  unfold wt
  rw [hM, ha]
  rcases bit (v k) with h | h <;> rw [h]
  · exact ⟨Real.exp (a - M), (Real.exp_pos _).le, by rw [sel_one, ← EReal.coe_sub]; rfl⟩
  · exact ⟨0, le_rfl, by rw [sel_zero, EReal.coe_zero]⟩

theorem den_real {v : Fin 384 → BitVec 1} {s : Fin 384 → EReal} {sk : EReal} (hs : ∀ k, Fin' (s k)) (hk : Fin' sk) :
    ∃ d : ℝ, 0 < d ∧ den v s sk = (d : EReal) := by
  obtain ⟨M, hM⟩ := (top_fin (v := v) hs hk).real
  obtain ⟨a, ha⟩ := hk.real
  choose p hp he using wt_real (v := v) hs hk
  refine ⟨∑ k, p k + Real.exp (a - M), add_pos_of_nonneg_of_pos (Finset.sum_nonneg fun k _ => hp k) (Real.exp_pos _), ?_⟩
  unfold den
  rw [Finset.sum_congr rfl fun k _ => he k, sum_coe, hM]
  conv_lhs => rw [ha]
  rw [← EReal.coe_sub, EReal.coe_add]
  rfl

/-- Dividing after the sum is dividing before it. -/
theorem after_eq_before {v : Fin 384 → BitVec 1} {s : Fin 384 → EReal} {sk : EReal} (hs : ∀ k, Fin' (s k))
    (hk : Fin' sk) (w : Fin 384 → EReal) : after v s sk w = before v s sk w := by
  obtain ⟨d, hd, hden⟩ := den_real (v := v) hs hk
  unfold after before
  rw [hden, Ideal.div_coe hd.ne', one_mul, sum_mul_coe _ _ (by positivity)]
  refine Finset.sum_congr rfl fun k _ => ?_
  rw [Ideal.div_coe hd.ne', mul_comm (wt v s sk k) (w k), mul_assoc]

/-- What is not attended to does not matter. -/
theorem before_congr {v : Fin 384 → BitVec 1} {s s' : Fin 384 → EReal} {sk : EReal} {w w' : Fin 384 → EReal}
    (hs : ∀ k, Fin' (s k)) (hk : Fin' sk)
    (es : ∀ k, v k = 1#1 → s k = s' k) (ew : ∀ k, v k = 1#1 → w k = w' k) : before v s sk w = before v s' sk w' := by
  have hm : (fun x => Scalar.select (v x) (s x) neg) = fun x => Scalar.select (v x) (s' x) neg := by
    funext x
    rcases bit (v x) with h | h
    · rw [es x h]
    · rw [h, sel_zero, sel_zero]
  have ht : top v s sk = top v s' sk := by unfold top; rw [hm]
  have hw : wt v s sk = wt v s' sk := by
    funext k
    unfold wt
    rw [ht, congrFun hm k]
  have hd : den v s sk = den v s' sk := by unfold den; rw [hw, ht]
  obtain ⟨d, hd0, hden⟩ := den_real (v := v) hs hk
  unfold before
  refine Finset.sum_congr rfl fun k _ => ?_
  rw [← hd, ← hw]
  rcases bit (v k) with h | h
  · rw [ew k h]
  · have : wt v s sk k = 0 := by unfold wt; rw [h, sel_zero]
    rw [this, hden, Ideal.div_coe hd0.ne', zero_mul, mul_zero, mul_zero]

end Cert.Heads

end
-- ==== Proof.Cat.lean ====
module

public import Idealize.ShloMosaic.Lib.Pipeline.ValueKit
public import Idealize.ShloMosaic.Lib.Pointwise

@[expose] public section

noncomputable section

open Idealize.ShloMosaic

/-! Matrices glued together from slices, read at one entry. -/

namespace Cert.Glue

variable {α : Type}

theorem ix2_ext {a b : ℕ} {i : (⟨2, ![a, b]⟩ : Shape).Idx} {r : Fin a} {c : Fin b} (h0 : (i 0).val = r.val)
    (h1 : (i 1).val = c.val) : i = ix2 r c :=
  funext fun d => Fin.ext (match d with
    | ⟨0, _⟩ => h0
    | ⟨1, _⟩ => h1)

/-- Matrices side by side: an entry is the entry of the piece that holds its column. -/
theorem col {R M n : ℕ} (xs : List ((s : Shape) × (s.Idx → α)))
    (h : Shape.Concatenates (xs.map (·.1)) ⟨2, ![R, M]⟩ 1) (i : ℕ) (hi : i < xs.length)
    (x : (⟨2, ![R, n]⟩ : Shape).Idx → α) (hx : xs[i] = ⟨⟨2, ![R, n]⟩, x⟩) (pre : ℕ)
    (hpre : (((xs.take i).map (·.1)).map fun s => if h : s.rank = 2 then s.size (Fin.cast h.symm 1) else 0).sum = pre)
    (r : Fin R) (j : Fin M) (q : Fin n) (hq : pre + q.val = j.val) :
    concatenate ⟨2, ![R, M]⟩ 1 xs h (ix2 r j) = x (ix2 r q) :=
  concatenate_apply_piece 1 xs h (ix2 r j) i hi _ x hx rfl pre hpre (ix2 r q)
    (by
      intro b hb
      match b with
      | ⟨0, _⟩ => rfl
      | ⟨1, _⟩ => exact absurd rfl hb) hq

/-- Matrices one above the other: an entry is the entry of the piece that holds its row. -/
theorem row {R M n : ℕ} (xs : List ((s : Shape) × (s.Idx → α)))
    (h : Shape.Concatenates (xs.map (·.1)) ⟨2, ![M, R]⟩ 0) (i : ℕ) (hi : i < xs.length)
    (x : (⟨2, ![n, R]⟩ : Shape).Idx → α) (hx : xs[i] = ⟨⟨2, ![n, R]⟩, x⟩) (pre : ℕ)
    (hpre : (((xs.take i).map (·.1)).map fun s => if h : s.rank = 2 then s.size (Fin.cast h.symm 0) else 0).sum = pre)
    (r : Fin R) (j : Fin M) (q : Fin n) (hq : pre + q.val = j.val) :
    concatenate ⟨2, ![M, R]⟩ 0 xs h (ix2 j r) = x (ix2 q r) :=
  concatenate_apply_piece 0 xs h (ix2 j r) i hi _ x hx rfl pre hpre (ix2 q r)
    (by
      intro b hb
      match b with
      | ⟨1, _⟩ => rfl
      | ⟨0, _⟩ => exact absurd rfl hb) hq

/-- A slice of columns, read at an entry. -/
theorem slice_col {R M n off : ℕ} (W : (⟨2, ![R, M]⟩ : Shape).Idx → α)
    (h : (⟨2, ![R, M]⟩ : Shape).Slices ![0, off] ⟨2, ![R, n]⟩) (r : Fin R) (q : Fin n) (s : Fin M)
    (hs : s.val = off + q.val) : extractStridedSlice ⟨2, ![R, n]⟩ ![0, off] W h (ix2 r q) = W (ix2 r s) :=
  extractStridedSlice_apply _ W h (ix2 r q) (ix2 r s) (by
    intro a
    match a with
    | ⟨0, _⟩ => exact (Nat.zero_add _).symm
    | ⟨1, _⟩ => exact hs)

/-- A slice of rows, read at an entry. -/
theorem slice_row {R M n off : ℕ} (W : (⟨2, ![M, R]⟩ : Shape).Idx → α)
    (h : (⟨2, ![M, R]⟩ : Shape).Slices ![off, 0] ⟨2, ![n, R]⟩) (r : Fin R) (q : Fin n) (s : Fin M)
    (hs : s.val = off + q.val) : extractStridedSlice ⟨2, ![n, R]⟩ ![off, 0] W h (ix2 q r) = W (ix2 s r) :=
  extractStridedSlice_apply _ W h (ix2 q r) (ix2 s r) (by
    intro a
    match a with
    | ⟨1, _⟩ => exact (Nat.zero_add _).symm
    | ⟨0, _⟩ => exact hs)

end Cert.Glue

end
-- ==== Proof.AttnTile.lean ====
module

public import proofs.«01_k».proof.Proof.Gen.AttnIdeal.Value
public import proofs.«01_k».proof.Proof.Gen.AttnRefIdeal.Read
public import Idealize.ShloMosaic.Lib.Pipeline.ValueKit
public import Idealize.ShloMosaic.Lib.Pointwise
public import proofs.«01_k».proof.Proof.AttnMath
public import proofs.«01_k».proof.Proof.Cat

@[expose] public section

set_option maxRecDepth 16384

noncomputable section

open Idealize.ShloMosaic Idealize.ShloMosaic.TcCoe Idealize.SL.Sem
open Idealize.ShloMosaic.Pipeline (Dat)

namespace Cert.AttnIdeal.Own

open Cert.AttnIdeal Cert.AttnIdeal.Gen

variable (m : (ℓ : Loc nD τ sig) → Buf (Elt Ideal) ℓ)

theorem half_at (r l : Fin 128) : k0_pay6 (ix2 r l) = if l.val < 64 then 1#1 else 0#1 := by
  pointwise [k0_pay6]
  exact (by decide +kernel : ∀ l : Fin 128, IntOp.cmpi .slt (BitVec.ofNat 32 l.val) 64#32 = if l.val < 64 then 1#1 else 0#1) l

theorem squeeze (x : FVec Ideal S128x128 .f32) (r l : Fin 128) :
    (shapeCast S1x128x128 (truncf .bf16 x bitsLt_bf16_f32) shapeCasts_S128x128_S1x128x128 : FVec Ideal S1x128x128 .bf16) (ix3 0 r l) = x (ix2 r l) := by
  pointwise []

open Cert.Heads (wt den after)

/-- The scores of four heads under one mask of lanes, one above the other. -/
abbrev sc (H : FVec Ideal S128x128 .bf16) (K : FVec Ideal S384x128 .bf16) (q : Fin 4 → Vec Ideal S1x128x128 .bf16) :
    FVec Ideal S512x384 .f32 := k0_pay36 (F := Ideal) H K (q 0) (q 1) (q 2) (q 3)

/-- The values summed by the four heads' weights, one above the other. -/
def av (V : IVec S128x384 1) (S : FVec Ideal S512x384 .f32) (W : FVec Ideal S384x128 .bf16) (s : Fin 4 → Elt Ideal .f32) :
    FVec Ideal S512x128 .f32 :=
  matmul dot_S512x384_S384x128_S512x128_1_0_0_1_n_n none
    (concatenate S512x384 0
      [⟨S128x384, truncf .bf16 (k0_pay15 V (extractStridedSlice S128x384 ![0, 0] S slices_S512x384_o0_0_S128x384) (s 0)) bitsLt_bf16_f32⟩,
        ⟨S128x384, truncf .bf16 (k0_pay15 V (extractStridedSlice S128x384 ![128, 0] S slices_S512x384_o128_0_S128x384) (s 1)) bitsLt_bf16_f32⟩,
        ⟨S128x384, truncf .bf16 (k0_pay15 V (extractStridedSlice S128x384 ![256, 0] S slices_S512x384_o256_0_S128x384) (s 2)) bitsLt_bf16_f32⟩,
        ⟨S128x384, truncf .bf16 (k0_pay15 V (extractStridedSlice S128x384 ![384, 0] S slices_S512x384_o384_0_S128x384) (s 3)) bitsLt_bf16_f32⟩]
      concatenates_S128x384_S128x384_S128x384_S128x384_S512x384_d0) W (constant S512x128 .f32 0x00000000#32)

theorem wt_at (V : IVec S128x384 1) (s : FVec Ideal S128x384 .f32) (sk : Elt Ideal .f32) (r : Fin 128) (k : Fin 384) :
    k0_pay15 (F := Ideal) V s sk (ix2 r k) = wt (fun x => V (ix2 r x)) (fun x => s (ix2 r x)) sk k := by
  pointwise [k0_pay13, k0_pay14, k0_pay15]
  rfl

theorem inv_at (V : IVec S128x384 1) (s : FVec Ideal S128x384 .f32) (sk : Elt Ideal .f32) (r : Fin 128) :
    k0_pay17 (F := Ideal) V s sk (ix2 r 0) = Ideal.div 1 (den (fun x => V (ix2 r x)) (fun x => s (ix2 r x)) sk) := by
  have h : k0_pay14 (F := Ideal) V s sk (ix2 r 0) = Heads.top (fun x => V (ix2 r x)) (fun x => s (ix2 r x)) sk := by
    pointwise [k0_pay13, k0_pay14]
    rfl
  pointwise [k0_pay17]
  rw [h, Finset.sum_congr rfl fun x _ => wt_at V s sk r x]
  rfl

/-- Rows `o …` of the stacked scores, weighted: a row is the weights of the stacked row. -/
theorem part_at (o : ℕ) (h : S512x384.Slices ![o, 0] S128x384) (V : IVec S128x384 1) (S : FVec Ideal S512x384 .f32) (s : Elt Ideal .f32)
    (r x : Fin 128) (R : Fin 512) (hR : R.val = o + r.val) (hx : x.val = r.val) (k : Fin 384) :
    k0_pay15 (F := Ideal) V (extractStridedSlice S128x384 ![o, 0] S h) s (ix2 x k) = wt (fun x => V (ix2 r x)) (fun x => S (ix2 R x)) s k := by
  obtain rfl : x = r := Fin.ext hx
  rw [wt_at]
  exact congrArg (fun f => wt (fun y => V (ix2 x y)) f s k) (funext fun y => Glue.slice_row S h y x R hR)

/-- One over the denominator of a row of rows `o …` of the stacked scores. -/
theorem part_inv_at (o : ℕ) (h : S512x384.Slices ![o, 0] S128x384) (V : IVec S128x384 1) (S : FVec Ideal S512x384 .f32) (s : Elt Ideal .f32)
    (r l : Fin 128) (R : Fin 512) (hR : R.val = o + r.val) :
    broadcastTo S128x128 (k0_pay17 (F := Ideal) V (extractStridedSlice S128x384 ![o, 0] S h) s) broadcasts_S128x1_S128x128 (ix2 r l)
      = Ideal.div 1 (den (fun x => V (ix2 r x)) (fun x => S (ix2 R x)) s) := by
  have e : broadcastTo S128x128 (k0_pay17 (F := Ideal) V (extractStridedSlice S128x384 ![o, 0] S h) s) broadcasts_S128x1_S128x128 (ix2 r l)
      = k0_pay17 (F := Ideal) V (extractStridedSlice S128x384 ![o, 0] S h) s (ix2 r 0) := by pointwise []
  rw [e, inv_at]
  exact congrArg (fun f => Ideal.div 1 (den (fun x => V (ix2 r x)) f s)) (funext fun x => Glue.slice_row S h x r R hR)

/-- A row of the stacked sums is the sum of the values by the weights of its head. -/
theorem av_at (i : Fin 4) (V : IVec S128x384 1) (S : FVec Ideal S512x384 .f32) (W : FVec Ideal S384x128 .bf16) (s : Fin 4 → Elt Ideal .f32)
    (r l : Fin 128) (R : Fin 512) (hR : R.val = i.val * 128 + r.val) :
    av V S W s (ix2 R l) = ∑ k : Fin 384, wt (fun x => V (ix2 r x)) (fun x => S (ix2 R x)) (s i) k * W (ix2 k l) := by
  pointwise [av]
  refine Finset.sum_congr rfl fun k _ => ?_
  refine congrArg (fun z : EReal => z * W (ix2 k l)) ?_
  have e : ∀ (j : Fin 4) (o : ℕ) (h : S512x384.Slices ![o, 0] S128x384) (x : Fin 128), o = j.val * 128 → R.val = o + x.val →
      k0_pay15 (F := Ideal) V (extractStridedSlice S128x384 ![o, 0] S h) (s j) (ix2 x k) = wt (fun x => V (ix2 r x)) (fun x => S (ix2 R x)) (s i) k := by
    intro j o h x ho hx
    obtain rfl : j = i := Fin.ext (by omega)
    exact part_at o h V S _ r x R (by omega) (by omega) k
  by_cases h0 : R.val < 128
  · rw [dif_pos h0]
    exact e 0 0 _ _ rfl (Nat.zero_add _).symm
  by_cases h1 : R.val - 128 < 128
  · rw [dif_neg h0, dif_pos h1]
    exact e 1 128 _ _ rfl (by simp only; omega)
  by_cases h2 : R.val - 128 - 128 < 128
  · rw [dif_neg h0, dif_neg h1, dif_pos h2]
    exact e 2 256 _ _ rfl (by simp only; omega)
  · rw [dif_neg h0, dif_neg h1, dif_neg h2]
    exact e 3 384 _ _ rfl (by simp only; omega)

theorem head_rows (i : Fin 4) : S512x384.Slices ![i.val * 128, 0] S128x384 :=
  (by decide : ∀ i : Fin 4, S512x384.Slices ![i.val * 128, 0] S128x384) i

theorem sum_rows (i : Fin 4) : S512x128.Slices ![i.val * 128, 0] S128x128 :=
  (by decide : ∀ i : Fin 4, S512x128.Slices ![i.val * 128, 0] S128x128) i

/-- One head's rows of the stacked sums, times one over the denominators. -/
def scaled (i : Fin 4) (V : IVec S128x384 1) (S : FVec Ideal S512x384 .f32) (W : FVec Ideal S384x128 .bf16) (s : Fin 4 → Elt Ideal .f32) :
    FVec Ideal S128x128 .f32 :=
  mulf (extractStridedSlice S128x128 ![i.val * 128, 0] (av V S W s) (sum_rows i))
    (broadcastTo S128x128 (k0_pay17 V (extractStridedSlice S128x384 ![i.val * 128, 0] S (head_rows i)) (s i)) broadcasts_S128x1_S128x128)

theorem scaled_at (i : Fin 4) (V : IVec S128x384 1) (S : FVec Ideal S512x384 .f32) (W : FVec Ideal S384x128 .bf16) (s : Fin 4 → Elt Ideal .f32)
    (r l : Fin 128) (R : Fin 512) (hR : R.val = i.val * 128 + r.val) :
    scaled i V S W s (ix2 r l) = after (fun x => V (ix2 r x)) (fun x => S (ix2 R x)) (s i) (fun k => W (ix2 k l)) :=
  congrArg₂ (fun y z : EReal => y * z) ((Glue.slice_row (av V S W s) (sum_rows i) l r R hR).trans (av_at i V S W s r l R hR))
    (part_inv_at _ (head_rows i) V S (s i) r l R hR)

/-- Tile `i` of a group: the first mask's heads on the first 64 lanes, the second's on the rest. -/
def tile (i : Fin 4) (V : IVec S128x384 1) (SA SB : FVec Ideal S512x384 .f32) (W : FVec Ideal S384x128 .bf16) (a b : Fin 4 → Elt Ideal .f32) :
    FVec Ideal S1x128x128 .bf16 :=
  shapeCast S1x128x128 (truncf .bf16 (select k0_pay6 (scaled i V SA W a) (scaled i V SB W b)) bitsLt_bf16_f32) shapeCasts_S128x128_S1x128x128

theorem tile_at (i : Fin 4) (V : IVec S128x384 1) (SA SB : FVec Ideal S512x384 .f32) (W : FVec Ideal S384x128 .bf16)
    (a b : Fin 4 → Elt Ideal .f32) (r l : Fin 128) (R : Fin 512) (hR : R.val = i.val * 128 + r.val) :
    tile i V SA SB W a b (ix3 0 r l)
      = if l.val < 64 then after (fun x => V (ix2 r x)) (fun x => SA (ix2 R x)) (a i) (fun k => W (ix2 k l))
        else after (fun x => V (ix2 r x)) (fun x => SB (ix2 R x)) (b i) (fun k => W (ix2 k l)) := by
  have p : tile i V SA SB W a b (ix3 0 r l)
      = Scalar.select (k0_pay6 (ix2 r l)) (scaled i V SA W a (ix2 r l)) (scaled i V SB W b (ix2 r l)) := squeeze _ r l
  rw [p, scaled_at i V SA W a r l R hR, scaled_at i V SB W b r l R hR, half_at]
  by_cases h : l.val < 64
  · rw [if_pos h, if_pos h]; rfl
  · rw [if_neg h, if_neg h]; rfl

end Cert.AttnIdeal.Own

end
-- ==== Proof.AttnMask.lean ====
module

public import proofs.«01_k».proof.Proof.Gen.AttnIdeal.Value
public import proofs.«01_k».proof.Proof.Gen.AttnRefIdeal.Read
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.AttnIdeal.Own

open Cert.AttnIdeal Cert.AttnIdeal.Gen

variable (m : (ℓ : Loc nD τ sig) → Buf (Elt Ideal) ℓ)

open Cert.AttnRefIdeal.Read

/-- The keys a query attends to, as the reference says it. -/
def seen (n r k : ℕ) : BitVec 1 :=
  IntOp.andi
    (IntOp.andi
      (IntOp.cmpi CmpIPredicate.sle
        (IntOp.absi
          (IntOp.subi (IntOp.addi (IntOp.muli (BitVec.ofNat 32 n) 128#32) (BitVec.ofNat 32 r))
            (IntOp.addi (IntOp.subi (IntOp.muli (BitVec.ofNat 32 n) 128#32) 128#32) (BitVec.ofNat 32 k))))
        128#32)
      (IntOp.cmpi CmpIPredicate.sge
        (IntOp.addi (IntOp.subi (IntOp.muli (BitVec.ofNat 32 n) 128#32) 128#32) (BitVec.ofNat 32 k)) 0#32))
    (IntOp.cmpi CmpIPredicate.slt
      (IntOp.addi (IntOp.subi (IntOp.muli (BitVec.ofNat 32 n) 128#32) 128#32) (BitVec.ofNat 32 k)) 2048#32)

theorem ref_seen (n : Fin 16) (r : Fin 128) (k : Fin 384) : val_main_v59 (F := Ideal) (ix3 n r k) = seen n.val r.val k.val := by
  pointwise [seen, val_main_v59, val_main_v58, val_main_v57, val_main_v56, val_main_v55, val_main_v54, val_main_v53, val_main_v52,
    val_main_v51, val_main_v50, val_main_v49, val_main_v48, val_main_v47, val_main_v46, val_main_v45, val_main_v44, val_main_v43,
    val_main_v42, val_main_v41, val_main_v40, val_main_v39, val_main_v38, val_main_v37, val_main_v36, val_main_v35, val_main_v34,
    val_main_v33, val_main_v32, val_main_v31, val_main_v30, val_main_v29, val_main_v28, val_main_v27, val_main_v26, val_main_v25,
    val_main_v24, val_main_v23, val_main_v22, val_main_c_1, val_main_c_2, val_main_c_3, val_main_c_4, val_main_c_5, val_main_c_6]

/-- A word that holds an integer. -/
def Is (x : BitVec 32) (z : ℤ) : Prop := x.toInt = z

theorem is_nat (n : ℕ) (h : n < 2147483648) : Is (BitVec.ofNat 32 n) n := by
  show BitVec.toInt _ = _
  rw [BitVec.toInt_eq_toNat_bmod, BitVec.toNat_ofNat]
  simp only [Int.bmod_def]
  omega

theorem Is.sub {x y : BitVec 32} {a b : ℤ} (hx : Is x a) (hy : Is y b) (h1 : -2147483648 ≤ a - b) (h2 : a - b < 2147483648) :
    Is (IntOp.subi x y) (a - b) := by
  show BitVec.toInt (x - y) = _
  rw [BitVec.toInt_sub, hx, hy]
  simp only [Int.bmod_def]
  omega

theorem Is.add {x y : BitVec 32} {a b : ℤ} (hx : Is x a) (hy : Is y b) (h1 : -2147483648 ≤ a + b) (h2 : a + b < 2147483648) :
    Is (IntOp.addi x y) (a + b) := by
  show BitVec.toInt (x + y) = _
  rw [BitVec.toInt_add, hx, hy]
  simp only [Int.bmod_def]
  omega

theorem Is.mul128 {x : BitVec 32} {a : ℤ} (hx : Is x a) (h1 : 0 ≤ a) (h2 : a < 100000) : Is (IntOp.muli x 128#32) (a * 128) := by
  show BitVec.toInt (x * 128#32) = _
  rw [BitVec.toInt_mul, hx, show (128#32 : BitVec 32).toInt = 128 from rfl]
  simp only [Int.bmod_def]
  omega

theorem Is.abs {x : BitVec 32} {a : ℤ} (hx : Is x a) (h1 : -2147483647 ≤ a) : Is (IntOp.absi x) (if a < 0 then -a else a) := by
  have hm : x.msb = decide (a < 0) := by rw [BitVec.msb_eq_toInt, hx]
  show BitVec.toInt (if x.msb = true then -x else x) = _
  rw [hm]
  by_cases h : a < 0
  · rw [if_pos (decide_eq_true h), if_pos h, BitVec.toInt_neg, hx]
    have h2 : -a < 2147483648 := by omega
    simp only [Int.bmod_def]
    omega
  · rw [if_neg (by simpa using h), if_neg h, hx]

theorem Is.slt {x y : BitVec 32} {a b : ℤ} (hx : Is x a) (hy : Is y b) : IntOp.cmpi .slt x y = BitVec.ofBool (decide (a < b)) := by
  show BitVec.ofBool (decide (x.toInt < y.toInt)) = _
  rw [hx, hy]
theorem Is.sle {x y : BitVec 32} {a b : ℤ} (hx : Is x a) (hy : Is y b) : IntOp.cmpi .sle x y = BitVec.ofBool (decide (a ≤ b)) := by
  show BitVec.ofBool (decide (x.toInt ≤ y.toInt)) = _
  rw [hx, hy]
theorem Is.sge {x y : BitVec 32} {a b : ℤ} (hx : Is x a) (hy : Is y b) : IntOp.cmpi .sge x y = BitVec.ofBool (decide (b ≤ a)) := by
  show BitVec.ofBool (decide (y.toInt ≤ x.toInt)) = _
  rw [hx, hy]
theorem Is.sgt {x y : BitVec 32} {a b : ℤ} (hx : Is x a) (hy : Is y b) : IntOp.cmpi .sgt x y = BitVec.ofBool (decide (b < a)) := by
  show BitVec.ofBool (decide (y.toInt < x.toInt)) = _
  rw [hx, hy]

theorem and_bool (a b : Bool) : IntOp.andi (BitVec.ofBool a) (BitVec.ofBool b) = BitVec.ofBool (a && b) := by
  revert a b; decide
theorem or_bool (a b : Bool) : IntOp.ori (BitVec.ofBool a) (BitVec.ofBool b) = BitVec.ofBool (a || b) := by
  revert a b; decide

/-- The same keys in whole numbers: within 128 places, inside the sequence. -/
theorem seen_eq (n r k : ℕ) (hn : n < 16) (hr : r < 128) (hk : k < 384) :
    seen n r k = BitVec.ofBool (decide (r ≤ k ∧ k ≤ r + 256 ∧ 128 ≤ 128 * n + k ∧ 128 * n + k < 2176)) := by
  unfold seen
  have i128 : Is 128#32 128 := rfl
  have hN := (is_nat n (by omega)).mul128 (by omega) (by omega)
  have hq := hN.add (is_nat r (by omega)) (by omega) (by omega)
  have hp := (hN.sub i128 (by omega) (by omega)).add (is_nat k (by omega)) (by omega) (by omega)
  have hd := (hq.sub hp (by omega) (by omega)).abs (by omega)
  rw [hd.sle i128, hp.sge (show Is 0#32 0 from rfl), hp.slt (show Is 2048#32 2048 from rfl), and_bool, and_bool]
  congr 1
  rw [Bool.eq_iff_iff]
  simp only [Bool.and_eq_true, decide_eq_true_eq]
  split <;> omega

theorem mask_eq (i : grid0.Coords) (n : ℕ) (hn' : (i 1).val = n) (r : Fin 128) (k : Fin 384) :
    k0_pay5 i (ix2 r k) = seen n r.val k.val := by
  have hn : (i 1).val < 16 := (i 1).isLt
  have hr := r.isLt
  have hk := k.isLt
  pointwise [k0_pay5]
  rw [hn'] at *
  generalize r.val = r at *
  generalize k.val = k at *
  rw [seen_eq n r k hn hr hk]
  have hK := is_nat k (by omega)
  have hR := is_nat r (by omega)
  have hN := is_nat n (by omega)
  have i256 : Is 256#32 256 := rfl
  have i128 : Is 128#32 128 := rfl
  have l1 : Is (Scalar.select (Scalar.cmpi CmpIPredicate.sgt (BitVec.ofNat 32 n) 0#32) 0#32 512#32) (if 0 < n then 0 else 512) := by
    show Is (Scalar.select (IntOp.cmpi CmpIPredicate.sgt (BitVec.ofNat 32 n) 0#32) 0#32 512#32) _
    rw [hN.sgt (show Is 0#32 0 from rfl)]
    by_cases h : 0 < n
    · rw [if_pos h, decide_eq_true (by omega)]; rfl
    · rw [if_neg h, decide_eq_false (by omega)]; rfl
  have l2 : Is (Scalar.select (Scalar.cmpi CmpIPredicate.slt (BitVec.ofNat 32 n) 15#32) 0#32 512#32) (if n < 15 then 0 else 512) := by
    show Is (Scalar.select (IntOp.cmpi CmpIPredicate.slt (BitVec.ofNat 32 n) 15#32) 0#32 512#32) _
    rw [hN.slt (show Is 15#32 15 from rfl)]
    by_cases h : n < 15
    · rw [if_pos h, decide_eq_true (by omega)]; rfl
    · rw [if_neg h, decide_eq_false (by omega)]; rfl
  rw [hK.slt i128, (hK.sub hR (by omega) (by omega)).sge l1, hK.sge i128, hK.slt i256, hK.sge i256,
    (hR.sub (hK.sub i256 (by omega) (by omega)) (by omega) (by omega)).sge l2]
  simp only [and_bool, or_bool]
  congr 1
  rw [Bool.eq_iff_iff]
  simp only [Bool.and_eq_true, Bool.or_eq_true, decide_eq_true_eq]
  split <;> split <;> omega

/-- A key that is attended to is inside the sequence. -/
theorem seen_inside {n r k : ℕ} (hn : n < 16) (hr : r < 128) (hk : k < 384) (h : seen n r k = 1#1) :
    128 ≤ 128 * n + k ∧ 128 * n + k < 2176 := by
  rw [seen_eq n r k hn hr hk] at h
  by_contra hc
  rw [decide_eq_false (by omega)] at h
  exact absurd h (by decide)

end Cert.AttnIdeal.Own

end
-- ==== Proof.AttnRef.lean ====
module

public import proofs.«01_k».proof.Proof.Gen.AttnIdeal.Value
public import proofs.«01_k».proof.Proof.Gen.AttnRefIdeal.Read
public import Idealize.ShloMosaic.Lib.Pipeline.ValueKit
public import Idealize.ShloMosaic.Lib.Pointwise
public import proofs.«01_k».proof.Proof.AttnMath
public import proofs.«01_k».proof.Proof.Cat
public import proofs.«01_k».proof.Proof.AttnMask

@[expose] public section

set_option maxRecDepth 16384

noncomputable section

open Idealize.ShloMosaic Idealize.ShloMosaic.TcCoe Idealize.SL.Sem
open Idealize.ShloMosaic.Pipeline (Dat)

namespace Cert.AttnIdeal.Own

open Cert.AttnIdeal Cert.AttnIdeal.Gen

variable (m : (ℓ : Loc nD τ sig) → Buf (Elt Ideal) ℓ)

open Cert.AttnRefIdeal.Read

variable (x0 : FVec Ideal S8x2048x1024 .bf16) (x1 : FVec Ideal S8x2048x256 .bf16) (x2 : FVec Ideal S8x2048x21504 .f32) (x3 : FVec Ideal S16 .f32)

theorem ix3_ext {a b c : ℕ} {i : (⟨3, ![a, b, c]⟩ : Shape).Idx} {x : Fin a} {y : Fin b} {z : Fin c}
    (h0 : (i 0).val = x.val) (h1 : (i 1).val = y.val) (h2 : (i 2).val = z.val) : i = ix3 x y z :=
  funext fun d => Fin.ext (match d with
    | ⟨0, _⟩ => h0
    | ⟨1, _⟩ => h1
    | ⟨2, _⟩ => h2)

theorem ix5_ext {a b c d e : ℕ} {i : (⟨5, ![a, b, c, d, e]⟩ : Shape).Idx} {x : Fin a} {y : Fin b} {z : Fin c} {u : Fin d} {v : Fin e}
    (h0 : (i 0).val = x.val) (h1 : (i 1).val = y.val) (h2 : (i 2).val = z.val) (h3 : (i 3).val = u.val) (h4 : (i 4).val = v.val) :
    i = ix5 x y z u v :=
  funext fun d => Fin.ext (match d with
    | ⟨0, _⟩ => h0
    | ⟨1, _⟩ => h1
    | ⟨2, _⟩ => h2
    | ⟨3, _⟩ => h3
    | ⟨4, _⟩ => h4)

theorem ix6_ext {a b c d e f : ℕ} {i : (⟨6, ![a, b, c, d, e, f]⟩ : Shape).Idx} {x : Fin a} {y : Fin b} {z : Fin c} {u : Fin d} {v : Fin e} {w : Fin f}
    (h0 : (i 0).val = x.val) (h1 : (i 1).val = y.val) (h2 : (i 2).val = z.val) (h3 : (i 3).val = u.val) (h4 : (i 4).val = v.val)
    (h5 : (i 5).val = w.val) : i = ix6 x y z u v w :=
  funext fun d => Fin.ext (match d with
    | ⟨0, _⟩ => h0
    | ⟨1, _⟩ => h1
    | ⟨2, _⟩ => h2
    | ⟨3, _⟩ => h3
    | ⟨4, _⟩ => h4
    | ⟨5, _⟩ => h5)

/-- The reference's result, read at the head and the lane its column is of. -/
theorem ref_out (b : Fin 8) (t : Fin 2048) (c : Fin 1024) : val_main_v85 (F := Ideal) x0 x1 x2 x3 (ix3 b t c)
    = val_main_v80 (F := Ideal) x0 x1 x2 x3 (ix6 b ⟨t.val / 128, by omega⟩ ⟨c.val / 512 * 2 + c.val / 64 % 2, by omega⟩
        ⟨c.val % 64, by omega⟩ ⟨c.val / 128 % 4, by omega⟩ ⟨t.val % 128, by omega⟩) := by
  pointwise [val_main_v85, val_main_v84, val_main_v83, val_main_v82, val_main_v81]

/-- The mask the reference's scores are under. -/
theorem ref_mask (b : Fin 8) (n : Fin 16) (h i : Fin 4) (r : Fin 128) (k : Fin 384) :
    val_main_call2_v1 (F := Ideal) (ix6 b n h i r k) = seen n.val r.val k.val :=
  ((val_main_call2_v1_apply _).trans (val_main_v60_apply _)).trans
    ((congrArg (val_main_v59 (F := Ideal)) (ix3_ext rfl rfl rfl)).trans (ref_seen n r k))

theorem ref_mask' (b : Fin 8) (n : Fin 16) (h i : Fin 4) (r : Fin 128) (k : Fin 384) :
    val_main_call3_v1 (F := Ideal) (ix6 b n h i r k) = seen n.val r.val k.val :=
  ((val_main_call3_v1_apply _).trans (val_main_v60_apply _)).trans
    ((congrArg (val_main_v59 (F := Ideal)) (ix3_ext rfl rfl rfl)).trans (ref_seen n r k))

/-- A score of the reference, under the mask. -/
theorem ref_masked (b : Fin 8) (n : Fin 16) (h i : Fin 4) (r : Fin 128) (k : Fin 384) :
    val_main_v61 (F := Ideal) x0 x1 (ix6 b n h i r k)
      = Scalar.select (seen n.val r.val k.val) (val_main_v20 (F := Ideal) x0 x1 (ix6 b n h k r i)) Heads.neg := by
  rw [val_main_v61_apply, ref_mask, val_main_call2_v2_apply, val_main_v21_apply]
  exact congrArg (fun j => Scalar.select (seen n.val r.val k.val) (val_main_v20 (F := Ideal) x0 x1 j) Heads.neg)
    (ix6_ext rfl rfl rfl rfl rfl rfl)

/-- The greatest masked score of a query. -/
theorem ref_fold (b : Fin 8) (n : Fin 16) (h i : Fin 4) (r : Fin 128) :
    val_main_v64 (F := Ideal) x0 x1 (ix5 b n h i r)
      = Finset.fold max Heads.start (fun k => Scalar.select (seen n.val r.val k.val)
          (val_main_v20 (F := Ideal) x0 x1 (ix6 b n h k r i)) Heads.neg) Finset.univ := by
  unfold val_main_v64
  refine (Host.reduce_eq_fold_single (α := EReal) max (val_main_v61 (F := Ideal) x0 x1) (val_main_cst_7 (F := Ideal)) _
    (by decide) _ (ix5 b n h i r)).trans ?_
  refine congrArg (fun f => Finset.fold max Heads.start f Finset.univ) (funext fun k => ?_)
  exact (congrArg (val_main_v61 (F := Ideal) x0 x1) (ix6_ext rfl rfl rfl rfl rfl rfl)).trans (ref_masked x0 x1 b n h i r k)

/-- The sink's score of a head. -/
def sinkOf (h i : Fin 4) : Fin 16 := ⟨h.val * 4 + i.val, by omega⟩

theorem ref_sink (h i : Fin 4) : val_main_v62 (F := Ideal) x3 (ix2 h i) = x3 (ix1 (sinkOf h i)) := by
  pointwise [val_main_v62, sinkOf]

theorem ref_sink6 (b : Fin 8) (n : Fin 16) (h i : Fin 4) (r : Fin 128) :
    val_main_v66 (F := Ideal) x3 (ix6 b n h i r 0) = x3 (ix1 (sinkOf h i)) := by
  rw [val_main_v66_apply, val_main_v63_apply, ← ref_sink x3 h i]
  exact congrArg (val_main_v62 (F := Ideal) x3) (Glue.ix2_ext rfl rfl)

theorem ref_sink6' (b : Fin 8) (n : Fin 16) (h i : Fin 4) (r : Fin 128) :
    val_main_v74 (F := Ideal) x3 (ix6 b n h i r 0) = x3 (ix1 (sinkOf h i)) := by
  rw [val_main_v74_apply, val_main_v63_apply, ← ref_sink x3 h i]
  exact congrArg (val_main_v62 (F := Ideal) x3) (Glue.ix2_ext rfl rfl)

/-- The scores of a query and head. -/
abbrev scores (b : Fin 8) (n : Fin 16) (h i : Fin 4) (r : Fin 128) : Fin 384 → EReal :=
  fun k => val_main_v20 (F := Ideal) x0 x1 (ix6 b n h k r i)

/-- The keys of a query. -/
abbrev keys (n : Fin 16) (r : Fin 128) : Fin 384 → BitVec 1 := fun k => seen n.val r.val k.val

theorem ref_top (b : Fin 8) (n : Fin 16) (h i : Fin 4) (r : Fin 128) :
    val_main_v67 (F := Ideal) x0 x1 x3 (ix6 b n h i r 0)
      = Heads.top (keys n r) (scores x0 x1 b n h i r) (x3 (ix1 (sinkOf h i))) := by
  rw [val_main_v67_apply, ref_sink6, val_main_v65_apply]
  refine congrArg (fun z : EReal => max z (x3 (ix1 (sinkOf h i)))) ?_
  exact (congrArg (val_main_v64 (F := Ideal) x0 x1) (ix5_ext rfl rfl rfl rfl rfl)).trans (ref_fold x0 x1 b n h i r)

theorem ref_wt (b : Fin 8) (n : Fin 16) (h i : Fin 4) (r : Fin 128) (k : Fin 384) :
    val_main_v71 (F := Ideal) x0 x1 x3 (ix6 b n h i r k)
      = Heads.wt (keys n r) (scores x0 x1 b n h i r) (x3 (ix1 (sinkOf h i))) k := by
  have e : val_main_v68 (F := Ideal) x0 x1 x3 (ix6 b n h i r k)
      = Heads.top (keys n r) (scores x0 x1 b n h i r) (x3 (ix1 (sinkOf h i))) := by
    rw [val_main_v68_apply, ← ref_top x0 x1 x3 b n h i r]
    exact congrArg (val_main_v67 (F := Ideal) x0 x1 x3) (ix6_ext rfl rfl rfl rfl rfl rfl)
  have z : val_main_call3_v2 (F := Ideal) (ix6 b n h i r k) = (0 : EReal) := by
    rw [val_main_call3_v2_apply, val_main_call3_v0_apply, val_main_cst_8_apply]
    exact Ideal.ofBits_zero_f32
  rw [val_main_v71_apply, ref_mask', z, val_main_v70_apply, val_main_v69_apply, e, ref_masked]
  rfl

theorem ref_den (b : Fin 8) (n : Fin 16) (h i : Fin 4) (r : Fin 128) :
    val_main_v77 (F := Ideal) x0 x1 x3 (ix6 b n h i r 0)
      = Heads.den (keys n r) (scores x0 x1 b n h i r) (x3 (ix1 (sinkOf h i))) := by
  have e : val_main_v73 (F := Ideal) x0 x1 x3 (ix6 b n h i r 0)
      = ∑ k, Heads.wt (keys n r) (scores x0 x1 b n h i r) (x3 (ix1 (sinkOf h i))) k := by
    rw [val_main_v73_apply, val_main_v72_apply]
    refine (congrArg₂ (fun y z : EReal => y + z) (Ideal.ofBits_zero_f32) (Finset.sum_congr rfl fun k _ => ?_)).trans (zero_add _)
    exact (congrArg (val_main_v71 (F := Ideal) x0 x1 x3) (ix6_ext rfl rfl rfl rfl rfl rfl)).trans (ref_wt x0 x1 x3 b n h i r k)
  rw [val_main_v77_apply, e, val_main_v76_apply, val_main_v75_apply, ref_sink6', ref_top]
  rfl

/-- A head's result at one of its lanes. -/
theorem ref_head (b : Fin 8) (n : Fin 16) (h : Fin 4) (d : Fin 64) (i : Fin 4) (r : Fin 128) :
    val_main_v80 (F := Ideal) x0 x1 x2 x3 (ix6 b n h d i r)
      = Heads.before (keys n r) (scores x0 x1 b n h i r) (x3 (ix1 (sinkOf h i)))
          (fun k => val_main_v19 (F := Ideal) x2 (ix5 b n k h d)) := by
  rw [val_main_v80_apply]
  refine Finset.sum_congr rfl fun k _ => ?_
  refine congrArg₂ (fun y z : EReal => y * z) (congrArg (val_main_v19 (F := Ideal) x2) (ix5_ext rfl rfl rfl rfl rfl)) ?_
  refine (congrArg (val_main_v79 (F := Ideal) x0 x1 x3) (ix6_ext rfl rfl rfl rfl rfl rfl : _ = ix6 b n h i r k)).trans ?_
  rw [val_main_v79_apply, ref_wt, val_main_v78_apply]
  refine congrArg (Ideal.div _) ?_
  exact (congrArg (val_main_v77 (F := Ideal) x0 x1 x3) (ix6_ext rfl rfl rfl rfl rfl rfl)).trans (ref_den x0 x1 x3 b n h i r)

theorem ref_score (b : Fin 8) (n : Fin 16) (h : Fin 4) (k : Fin 384) (i : Fin 4) (r : Fin 128) :
    val_main_v20 (F := Ideal) x0 x1 (ix6 b n h k r i)
      = ∑ d : Fin 64, val_main_v13 (F := Ideal) x1 (ix5 b n k h d) * val_main_v7 (F := Ideal) x0 (ix6 b n r h i d) := by
  pointwise [val_main_v20]

theorem ref_q (b : Fin 8) (n : Fin 16) (h : Fin 4) (d : Fin 64) (i : Fin 4) (r : Fin 128) :
    val_main_v7 (F := Ideal) x0 (ix6 b n r h i d) = x0 (ix3 b ⟨n.val * 128 + r.val, by omega⟩
      ⟨h.val / 2 * 512 + i.val * 128 + h.val % 2 * 64 + d.val, by omega⟩) := by
  pointwise [val_main_v7, val_main_v2, val_main_v1, val_main_v0]

theorem ref_pad_k (b : Fin 8) (h : Fin 4) (d : Fin 64) (k : Fin 2304) (j : Fin 2048) (e : k.val = 128 + j.val) :
    val_main_v8 (F := Ideal) x1 (ix4 b k h d) = x1 (ix3 b j ⟨h.val * 64 + d.val, by omega⟩) := by
  pointwise [val_main_v8, val_main_call0_v0, val_main_v4, val_main_v3, val_main_c]
  rw [dif_pos ⟨by omega, by omega⟩]
  exact congrArg x1 (ix3_ext rfl (show k.val - 128 = j.val by omega) rfl)

theorem ref_pad_v (b : Fin 8) (h : Fin 4) (d : Fin 64) (k : Fin 2304) (j : Fin 2048) (e : k.val = 128 + j.val) :
    val_main_v14 (F := Ideal) x2 (ix4 b k h d) = x2 (ix3 b j ⟨20224 + (h.val * 64 + d.val), by omega⟩) := by
  pointwise [val_main_v14, val_main_call1_v0, val_main_v6, val_main_v5, val_main_c_0]
  rw [dif_pos ⟨by omega, by omega⟩]
  exact congrArg x2 (ix3_ext rfl (show k.val - 128 = j.val by omega) rfl)

/-- The keys' rows a block of queries sees, where they are inside the sequence. -/
theorem ref_k (b : Fin 8) (n : Fin 16) (h : Fin 4) (d : Fin 64) (k : Fin 384) (j : Fin 2048) (e : 128 * n.val + k.val = 128 + j.val) :
    val_main_v13 (F := Ideal) x1 (ix5 b n k h d) = x1 (ix3 b j ⟨h.val * 64 + d.val, by omega⟩) := by
  pointwise [val_main_v13, val_main_v12, val_main_v11, val_main_v10, val_main_v9]
  split
  · exact ref_pad_k x1 b h d _ j (by simp only; omega)
  · split
    · exact ref_pad_k x1 b h d _ j (by simp only; omega)
    · exact ref_pad_k x1 b h d _ j (by simp only; omega)

theorem ref_v (b : Fin 8) (n : Fin 16) (h : Fin 4) (d : Fin 64) (k : Fin 384) (j : Fin 2048) (e : 128 * n.val + k.val = 128 + j.val) :
    val_main_v19 (F := Ideal) x2 (ix5 b n k h d) = x2 (ix3 b j ⟨20224 + (h.val * 64 + d.val), by omega⟩) := by
  pointwise [val_main_v19, val_main_v18, val_main_v17, val_main_v16, val_main_v15]
  split
  · exact ref_pad_v x2 b h d _ j (by simp only; omega)
  · split
    · exact ref_pad_v x2 b h d _ j (by simp only; omega)
    · exact ref_pad_v x2 b h d _ j (by simp only; omega)

end Cert.AttnIdeal.Own

end
-- ==== Proof.AttnScore.lean ====
module

public import proofs.«01_k».proof.Proof.Gen.AttnIdeal.Value
public import proofs.«01_k».proof.Proof.Gen.AttnRefIdeal.Read
public import Idealize.ShloMosaic.Lib.Pipeline.ValueKit
public import Idealize.ShloMosaic.Lib.Pointwise
public import proofs.«01_k».proof.Proof.AttnTile
public import proofs.«01_k».proof.Proof.AttnRef

@[expose] public section

set_option maxRecDepth 16384

noncomputable section

open Idealize.ShloMosaic Idealize.ShloMosaic.TcCoe Idealize.SL.Sem
open Idealize.ShloMosaic.Pipeline (Dat)

namespace Cert.AttnIdeal.Own

open Cert.AttnIdeal Cert.AttnIdeal.Gen

variable (m : (ℓ : Loc nD τ sig) → Buf (Elt Ideal) ℓ)

open Cert.Heads (Fin' wt den after before)
open Cert.AttnRefIdeal.Read

/-- Three blocks of rows, one above the other. -/
def stack (a b c : S1x128x128.Idx → EReal) (k : Fin 384) (l : Fin 128) : EReal :=
  if h : k.val < 128 then a (ix3 0 ⟨k.val, h⟩ l)
  else if h' : k.val - 128 < 128 then b (ix3 0 ⟨k.val - 128, h'⟩ l)
  else c (ix3 0 ⟨k.val - 128 - 128, by omega⟩ l)

theorem keys_at (a b c : Vec Ideal S1x128x128 .bf16) (k : Fin 384) (l : Fin 128) :
    k0_pay9 (F := Ideal) a b c (ix2 k l) = stack a b c k l := by
  pointwise [k0_pay9]
  unfold stack
  split_ifs <;> first | rfl | omega

theorem vals_at (a b c : Vec Ideal S1x128x128 .f32) (k : Fin 384) (l : Fin 128) :
    k0_pay10 (F := Ideal) a b c (ix2 k l) = stack a b c k l := by
  pointwise [k0_pay10]
  unfold stack
  split_ifs <;> first | rfl | omega

theorem low_at (r l : Fin 128) : k0_pay7 (F := Ideal) (ix2 r l) = if l.val < 64 then (1 : EReal) else 0 := by
  have h : k0_pay7 (F := Ideal) (ix2 r l) = Scalar.select (k0_pay6 (ix2 r l)) (Ideal.ofBits .f32 0x3F800000#32) (Ideal.ofBits .f32 0x00000000#32) := rfl
  rw [h, half_at, Ideal.ofBits_one_f32, Ideal.ofBits_zero_f32]
  split_ifs <;> rfl

theorem high_at (r l : Fin 128) : k0_pay8 (F := Ideal) (ix2 r l) = if l.val < 64 then (0 : EReal) else 1 := by
  have h : k0_pay8 (F := Ideal) (ix2 r l) = Scalar.select (IntOp.cmpi .sge (BitVec.ofNat 32 l.val) 64#32)
      (Ideal.ofBits .f32 0x3F800000#32) (Ideal.ofBits .f32 0x00000000#32) := by
    pointwise [k0_pay8]
  rw [h, (by decide +kernel : ∀ l : Fin 128, IntOp.cmpi .sge (BitVec.ofNat 32 l.val) 64#32 = if l.val < 64 then 0#1 else 1#1) l,
    Ideal.ofBits_one_f32, Ideal.ofBits_zero_f32]
  split_ifs <;> rfl

/-- A sum over 128 lanes of which one half is kept. -/
theorem sum_low (f g : Fin 128 → EReal) :
    ∑ l : Fin 128, f l * (if l.val < 64 then (1 : EReal) else 0) * g l = ∑ d : Fin 64, f ⟨d.val, by omega⟩ * g ⟨d.val, by omega⟩ := by
  refine (Fin.sum_univ_add (a := 64) (b := 64) (fun l : Fin (64 + 64) => f l * (if l.val < 64 then (1 : EReal) else 0) * g l)).trans ?_
  rw [Finset.sum_eq_zero (s := Finset.univ) (f := fun i : Fin 64 => f (Fin.natAdd 64 i) * (if (Fin.natAdd 64 i).val < 64 then (1 : EReal) else 0) * g (Fin.natAdd 64 i)), add_zero]
  · refine Finset.sum_congr rfl fun d _ => ?_
    rw [if_pos (show (Fin.castAdd 64 d).val < 64 from d.isLt), mul_one]
    rfl
  · intro d _
    rw [if_neg (show ¬ (Fin.natAdd 64 d).val < 64 by simp [Fin.natAdd]), mul_zero, zero_mul]

theorem sum_high (f g : Fin 128 → EReal) :
    ∑ l : Fin 128, f l * (if l.val < 64 then (0 : EReal) else 1) * g l = ∑ d : Fin 64, f ⟨64 + d.val, by omega⟩ * g ⟨64 + d.val, by omega⟩ := by
  refine (Fin.sum_univ_add (a := 64) (b := 64) (fun l : Fin (64 + 64) => f l * (if l.val < 64 then (0 : EReal) else 1) * g l)).trans ?_
  rw [Finset.sum_eq_zero (s := Finset.univ) (f := fun i : Fin 64 => f (Fin.castAdd 64 i) * (if (Fin.castAdd 64 i).val < 64 then (0 : EReal) else 1) * g (Fin.castAdd 64 i)), zero_add]
  · refine Finset.sum_congr rfl fun d _ => ?_
    rw [if_neg (show ¬ (Fin.natAdd 64 d).val < 64 by simp [Fin.natAdd]), mul_one]
    rfl
  · intro d _
    rw [if_pos (show (Fin.castAdd 64 d).val < 64 from d.isLt), mul_zero, zero_mul]

/-- A row of the stacked scores is the products of its head's query row with the keys. -/
theorem sc_at (i : Fin 4) (H : FVec Ideal S128x128 .bf16) (K : FVec Ideal S384x128 .bf16) (q : Fin 4 → Vec Ideal S1x128x128 .bf16)
    (r : Fin 128) (R : Fin 512) (hR : R.val = i.val * 128 + r.val) (k : Fin 384) :
    sc H K q (ix2 R k) = ∑ l : Fin 128, q i (ix3 0 r l) * H (ix2 r l) * K (ix2 k l) := by
  unfold sc
  pointwise [k0_pay36]
  refine Finset.sum_congr rfl fun l _ => ?_
  refine congrArg (fun z : EReal => z * K (ix2 k l)) ?_
  have e : ∀ (j : Fin 4) (x : Fin 128), R.val = j.val * 128 + x.val → q j (ix3 0 x l) * H (ix2 x l) = (q i (ix3 0 r l) * H (ix2 r l) : EReal) := by
    intro j x h
    obtain rfl : j = i := Fin.ext (by omega)
    obtain rfl : x = r := Fin.ext (by omega)
    rfl
  by_cases h0 : R.val < 128
  · rw [dif_pos h0]
    exact e 0 _ (Nat.zero_add _).symm
  by_cases h1 : R.val - 128 < 128
  · rw [dif_neg h0, dif_pos h1]
    exact e 1 _ (by show R.val = 128 + (R.val - 128); omega)
  by_cases h2 : R.val - 128 - 128 < 128
  · rw [dif_neg h0, dif_neg h1, dif_pos h2]
    exact e 2 _ (by show R.val = 256 + (R.val - 128 - 128); omega)
  · rw [dif_neg h0, dif_neg h1, dif_neg h2]
    exact e 3 _ (by show R.val = 384 + (R.val - 128 - 128 - 128); omega)

variable {x0 : FVec Ideal S8x2048x1024 .bf16} {x1 : FVec Ideal S8x2048x256 .bf16} {x2 : FVec Ideal S8x2048x21504 .f32}
  {x3 : FVec Ideal S16 .f32}

/-- A head of the kernel is the head of the reference. -/
theorem head_eq (hq : ∀ i, Fin' (x0 i)) (hk : ∀ i, Fin' (x1 i)) (hs : ∀ i, Fin' (x3 i))
    (b : Fin 8) (n : Fin 16) (h : Fin 4) (d : Fin 64) (i : Fin 4) (r : Fin 128)
    (row : Fin 384 → Fin 2048) (hrow : ∀ k : Fin 384, 128 ≤ 128 * n.val + k.val → 128 * n.val + k.val < 2176 →
      128 * n.val + k.val = 128 + (row k).val)
    (v : Fin 384 → BitVec 1) (s w : Fin 384 → EReal) (sk : EReal)
    (hv : ∀ k, v k = seen n.val r.val k.val)
    (hS : ∀ k, s k = ∑ e : Fin 64, x0 (ix3 b ⟨n.val * 128 + r.val, by omega⟩ ⟨h.val / 2 * 512 + i.val * 128 + h.val % 2 * 64 + e.val, by omega⟩)
      * x1 (ix3 b (row k) ⟨h.val * 64 + e.val, by omega⟩))
    (hw : ∀ k, w k = x2 (ix3 b (row k) ⟨20224 + (h.val * 64 + d.val), by omega⟩))
    (hsk : sk = x3 (ix1 (sinkOf h i))) :
    after v s sk w = val_main_v80 (F := Ideal) x0 x1 x2 x3 (ix6 b n h d i r) := by
  obtain rfl : v = keys n r := funext hv
  subst hsk
  have hs' : ∀ k, Fin' (s k) := fun k => by
    rw [hS]
    exact Fin'.sum _ _ fun e => (hq _).mul (hk _)
  rw [Heads.after_eq_before hs' (hs _), ref_head]
  have inside : ∀ k, keys n r k = 1#1 → 128 * n.val + k.val = 128 + (row k).val := fun k hk' =>
    have := seen_inside n.isLt r.isLt k.isLt hk'
    hrow k this.1 this.2
  refine Heads.before_congr hs' (hs _) (fun k hk' => ?_) (fun k hk' => ?_)
  · rw [hS]
    show _ = val_main_v20 (F := Ideal) x0 x1 (ix6 b n h k r i)
    rw [ref_score]
    refine Finset.sum_congr rfl fun e _ => ?_
    rw [ref_q, ref_k x1 b n h e k (row k) (inside k hk')]
    exact mul_comm _ _
  · rw [hw]
    exact (ref_v x2 b n h d k (row k) (inside k hk')).symm

end Cert.AttnIdeal.Own

end
-- ==== Proof.AttnHead.lean ====
module

public import proofs.«01_k».proof.Proof.Gen.AttnIdeal.Value
public import proofs.«01_k».proof.Proof.Gen.AttnRefIdeal.Read
public import Idealize.ShloMosaic.Lib.Pipeline.ValueKit
public import Idealize.ShloMosaic.Lib.Pointwise
public import proofs.«01_k».proof.Proof.AttnScore

@[expose] public section

set_option maxRecDepth 16384

noncomputable section

open Idealize.ShloMosaic Idealize.ShloMosaic.TcCoe Idealize.SL.Sem
open Idealize.ShloMosaic.Pipeline (Dat)

namespace Cert.AttnIdeal.Own

open Cert.AttnIdeal Cert.AttnIdeal.Gen

variable (m : (ℓ : Loc nD τ sig) → Buf (Elt Ideal) ℓ)

open Cert.Heads (Fin' wt den after before)
open Cert.AttnRefIdeal.Read

section Tiles

variable {x0 : FVec Ideal S8x2048x1024 .bf16} {x1 : FVec Ideal S8x2048x256 .bf16} {x2 : FVec Ideal S8x2048x21504 .f32}
  {x3 : FVec Ideal S16 .f32}

/-- One half of a tile's lanes is a head of the reference. -/
theorem half_eq (p : Fin 2) (hq : ∀ i, Fin' (x0 i)) (hk : ∀ i, Fin' (x1 i)) (hs : ∀ i, Fin' (x3 i))
    (b : Fin 8) (n : Fin 16) (g : Fin 2) (i : Fin 4) (r l : Fin 128) (hl : l.val / 64 = p.val)
    (row : Fin 384 → Fin 2048) (hrow : ∀ k : Fin 384, 128 ≤ 128 * n.val + k.val → 128 * n.val + k.val < 2176 →
      128 * n.val + k.val = 128 + (row k).val)
    (v : Fin 384 → BitVec 1) (s : Fin 384 → EReal) (K W : FVec Ideal S384x128 .bf16) (q : Vec Ideal S1x128x128 .bf16) (a : EReal)
    (hv : ∀ k, v k = seen n.val r.val k.val)
    (hS : ∀ k, s k = ∑ d : Fin 64, q (ix3 0 r ⟨p.val * 64 + d.val, by omega⟩) * K (ix2 k ⟨p.val * 64 + d.val, by omega⟩))
    (hQ : ∀ l : Fin 128, q (ix3 0 r l) = x0 (ix3 b ⟨n.val * 128 + r.val, by omega⟩ ⟨g.val * 512 + i.val * 128 + l.val, by omega⟩))
    (hK : ∀ k (l : Fin 128), K (ix2 k l) = x1 (ix3 b (row k) ⟨g.val * 128 + l.val, by omega⟩))
    (hW : ∀ k (l : Fin 128), W (ix2 k l) = x2 (ix3 b (row k) ⟨20224 + (g.val * 128 + l.val), by omega⟩))
    (ha : a = x3 (ix1 ⟨g.val * 8 + p.val * 4 + i.val, by omega⟩)) :
    after v s a (fun k => W (ix2 k l))
      = val_main_v85 (F := Ideal) x0 x1 x2 x3 (ix3 b ⟨n.val * 128 + r.val, by omega⟩ ⟨g.val * 512 + i.val * 128 + l.val, by omega⟩) := by
  rw [ref_out]
  refine (head_eq hq hk hs b n ⟨2 * g.val + p.val, by omega⟩ ⟨l.val % 64, by omega⟩ i r row hrow v s _ a hv (fun k => ?_) (fun k => ?_) ?_).trans
    (congrArg (val_main_v80 (F := Ideal) x0 x1 x2 x3) ?_)
  · refine (hS k).trans (Finset.sum_congr rfl fun d _ => ?_)
    refine congrArg₂ (fun y z : EReal => y * z) ((hQ _).trans (congrArg x0 (ix3_ext rfl rfl ?_))) ((hK k _).trans (congrArg x1 (ix3_ext rfl rfl ?_)))
    · show g.val * 512 + i.val * 128 + (p.val * 64 + d.val) = (2 * g.val + p.val) / 2 * 512 + i.val * 128 + (2 * g.val + p.val) % 2 * 64 + d.val
      omega
    · show g.val * 128 + (p.val * 64 + d.val) = (2 * g.val + p.val) * 64 + d.val
      omega
  · refine (hW k l).trans (congrArg x2 (ix3_ext rfl rfl ?_))
    show 20224 + (g.val * 128 + l.val) = 20224 + ((2 * g.val + p.val) * 64 + l.val % 64)
    omega
  · refine ha.trans (congrArg (fun z => x3 (ix1 z)) (Fin.ext ?_))
    show g.val * 8 + p.val * 4 + i.val = (2 * g.val + p.val) * 4 + i.val
    omega
  · refine (ix6_ext rfl ?_ ?_ ?_ ?_ ?_).symm
    · show (n.val * 128 + r.val) / 128 = n.val
      omega
    · show (g.val * 512 + i.val * 128 + l.val) / 512 * 2 + (g.val * 512 + i.val * 128 + l.val) / 64 % 2 = 2 * g.val + p.val
      omega
    · show (g.val * 512 + i.val * 128 + l.val) % 64 = l.val % 64
      omega
    · show (g.val * 512 + i.val * 128 + l.val) / 128 % 4 = i.val
      omega
    · show (n.val * 128 + r.val) % 128 = r.val
      omega

/-- A tile of a group is the reference's lanes of two heads. -/
theorem tile_eq (hq : ∀ i, Fin' (x0 i)) (hk : ∀ i, Fin' (x1 i)) (hs : ∀ i, Fin' (x3 i))
    (b : Fin 8) (n : Fin 16) (g : Fin 2) (i : Fin 4) (r l : Fin 128)
    (row : Fin 384 → Fin 2048) (hrow : ∀ k : Fin 384, 128 ≤ 128 * n.val + k.val → 128 * n.val + k.val < 2176 →
      128 * n.val + k.val = 128 + (row k).val)
    (V : IVec S128x384 1) (K W : FVec Ideal S384x128 .bf16) (q : Fin 4 → Vec Ideal S1x128x128 .bf16) (a a' : Fin 4 → Elt Ideal .f32)
    (hV : ∀ k, V (ix2 r k) = seen n.val r.val k.val)
    (hQ : ∀ l : Fin 128, q i (ix3 0 r l) = x0 (ix3 b ⟨n.val * 128 + r.val, by omega⟩ ⟨g.val * 512 + i.val * 128 + l.val, by omega⟩))
    (hK : ∀ k (l : Fin 128), K (ix2 k l) = x1 (ix3 b (row k) ⟨g.val * 128 + l.val, by omega⟩))
    (hW : ∀ k (l : Fin 128), W (ix2 k l) = x2 (ix3 b (row k) ⟨20224 + (g.val * 128 + l.val), by omega⟩))
    (ha : a i = x3 (ix1 ⟨g.val * 8 + 0 * 4 + i.val, by omega⟩)) (ha' : a' i = x3 (ix1 ⟨g.val * 8 + 1 * 4 + i.val, by omega⟩)) :
    tile i V (sc k0_pay7 K q) (sc k0_pay8 K q) W a a' (ix3 0 r l)
      = val_main_v85 (F := Ideal) x0 x1 x2 x3 (ix3 b ⟨n.val * 128 + r.val, by omega⟩ ⟨g.val * 512 + i.val * 128 + l.val, by omega⟩) := by
  rw [tile_at i V _ _ W a a' r l ⟨i.val * 128 + r.val, by omega⟩ rfl]
  by_cases hl : l.val < 64
  · rw [if_pos hl]
    refine half_eq 0 hq hk hs b n g i r l (by show _ = 0; omega) row hrow _ _ K W (q i) _ hV (fun k => ?_) hQ hK hW ha
    rw [sc_at i _ K q r _ rfl k]
    refine (Finset.sum_congr rfl fun l _ => by rw [low_at]).trans ((sum_low (fun l => q i (ix3 0 r l)) (fun l => K (ix2 k l))).trans ?_)
    refine Finset.sum_congr rfl fun d _ => ?_
    rw [(Fin.ext (by simp) : (⟨d.val, by omega⟩ : Fin 128) = ⟨(0 : Fin 2).val * 64 + d.val, by simp; omega⟩)]
  · rw [if_neg hl]
    refine half_eq 1 hq hk hs b n g i r l (by show _ = 1; omega) row hrow _ _ K W (q i) _ hV (fun k => ?_) hQ hK hW ha'
    rw [sc_at i _ K q r _ rfl k]
    refine (Finset.sum_congr rfl fun l _ => by rw [high_at]).trans ((sum_high (fun l => q i (ix3 0 r l)) (fun l => K (ix2 k l))).trans ?_)
    refine Finset.sum_congr rfl fun d _ => ?_
    rw [(Fin.ext (by simp) : (⟨64 + d.val, by omega⟩ : Fin 128) = ⟨(1 : Fin 2).val * 64 + d.val, by simp; omega⟩)]

end Tiles

end Cert.AttnIdeal.Own

end
-- ==== Proof.AttnBlocks.lean ====
module

public import proofs.«01_k».proof.Proof.Gen.AttnIdeal.Value
public import proofs.«01_k».proof.Proof.Gen.AttnRefIdeal.Read
public import Idealize.ShloMosaic.Lib.Pipeline.ValueKit
public import Idealize.ShloMosaic.Lib.Pointwise
public import proofs.«01_k».proof.Proof.AttnScore

@[expose] public section

set_option maxRecDepth 16384

noncomputable section

open Idealize.ShloMosaic Idealize.ShloMosaic.TcCoe Idealize.SL.Sem
open Idealize.ShloMosaic.Pipeline (Dat)

namespace Cert.AttnIdeal.Own

open Cert.AttnIdeal Cert.AttnIdeal.Gen

variable (m : (ℓ : Loc nD τ sig) → Buf (Elt Ideal) ℓ)

theorem idx : ∀ t : Fin cfg0.N, win0_0.index t = ![0] ∧ win0_1.index t = ![t.val / 16, t.val % 16, 0]
    ∧ win0_2.index t = ![t.val / 16, t.val % 16 - 1, 0] ∧ win0_3.index t = ![t.val / 16, t.val % 16, 0]
    ∧ win0_4.index t = ![t.val / 16, min (t.val % 16 + 1) 15, 0]
    ∧ win0_5.index t = ![t.val / 16, t.val % 16 - 1, 79] ∧ win0_6.index t = ![t.val / 16, t.val % 16, 79]
    ∧ win0_7.index t = ![t.val / 16, min (t.val % 16 + 1) 15, 79]
    ∧ win0_8.index t = ![t.val / 16, t.val % 16, 0] :=
  (by decide +kernel : ∀ t : Fin grid0.N, _)

theorem coord (t : Fin cfg0.N) : (grid0.coords t 1).val = t.val % 16 :=
  (by decide +kernel : ∀ t : Fin grid0.N, (grid0.coords t 1).val = t.val % 16) t

theorem q_block (c : Dev nD) (t : Fin cfg0.N) (o : ℕ) (ho : ∀ a, (![0, 0, o] : Fin _ → Nat) a + (![1, 128, 128] : Fin _ → Nat) a ≤ S1x128x1024.size a) (r l : Fin 128)
    (b : Fin 8) (n : Fin 2048) (j : Fin 1024) (hb : b.val = t.val / 16) (hn : n.val = t.val % 16 * 128 + r.val) (hj : j.val = o + l.val) :
    View.ld (iblk m c 1 t) (Rect.unit ![0, 0, o] ![1, 128, 128] ho) (ix3 0 r l) = m ((c : Thread nD τ).loc main_arg0) (ix3 b n j) := by
  blk_point [iblk, V, idx t]

theorem sink_block (c : Dev nD) (t : Fin cfg0.N) (o : ℕ) (ho : ∀ a, (![o] : Fin _ → Nat) a + (![1] : Fin _ → Nat) a ≤ S16.size a) (hf) (j : Fin 16) (hj : j.val = o) :
    View.ld (iblk m c 0 t) (Rect.unit ![o] ![1] ho) (Shape.Idx.first hf) = m ((c : Thread nD τ).loc main_arg3) (ix1 j) := by
  blk_point [iblk, V, idx t]

theorem k_block2 (c : Dev nD) (t : Fin cfg0.N) (o : ℕ) (ho : ∀ a, (![0, 0, o] : Fin _ → Nat) a + (![1, 128, 128] : Fin _ → Nat) a ≤ S1x128x256.size a) (r l : Fin 128)
    (b : Fin 8) (n : Fin 2048) (j : Fin 256) (hb : b.val = t.val / 16) (hn : n.val = (t.val % 16 - 1) * 128 + r.val) (hj : j.val = o + l.val) :
    View.ld (iblk m c 2 t) (Rect.unit ![0, 0, o] ![1, 128, 128] ho) (ix3 0 r l) = m ((c : Thread nD τ).loc main_arg1) (ix3 b n j) := by
  blk_point [iblk, V, idx t]

theorem k_block3 (c : Dev nD) (t : Fin cfg0.N) (o : ℕ) (ho : ∀ a, (![0, 0, o] : Fin _ → Nat) a + (![1, 128, 128] : Fin _ → Nat) a ≤ S1x128x256.size a) (r l : Fin 128)
    (b : Fin 8) (n : Fin 2048) (j : Fin 256) (hb : b.val = t.val / 16) (hn : n.val = t.val % 16 * 128 + r.val) (hj : j.val = o + l.val) :
    View.ld (iblk m c 3 t) (Rect.unit ![0, 0, o] ![1, 128, 128] ho) (ix3 0 r l) = m ((c : Thread nD τ).loc main_arg1) (ix3 b n j) := by
  blk_point [iblk, V, idx t]

theorem k_block4 (c : Dev nD) (t : Fin cfg0.N) (o : ℕ) (ho : ∀ a, (![0, 0, o] : Fin _ → Nat) a + (![1, 128, 128] : Fin _ → Nat) a ≤ S1x128x256.size a) (r l : Fin 128)
    (b : Fin 8) (n : Fin 2048) (j : Fin 256) (hb : b.val = t.val / 16) (hn : n.val = min (t.val % 16 + 1) 15 * 128 + r.val) (hj : j.val = o + l.val) :
    View.ld (iblk m c 4 t) (Rect.unit ![0, 0, o] ![1, 128, 128] ho) (ix3 0 r l) = m ((c : Thread nD τ).loc main_arg1) (ix3 b n j) := by
  blk_point [iblk, V, idx t]

theorem v_block5 (c : Dev nD) (t : Fin cfg0.N) (o : ℕ) (ho : ∀ a, (![0, 0, o] : Fin _ → Nat) a + (![1, 128, 128] : Fin _ → Nat) a ≤ S1x128x256.size a) (r l : Fin 128)
    (b : Fin 8) (n : Fin 2048) (j : Fin 21504) (hb : b.val = t.val / 16) (hn : n.val = (t.val % 16 - 1) * 128 + r.val) (hj : j.val = 20224 + (o + l.val)) :
    View.ld (iblk m c 5 t) (Rect.unit ![0, 0, o] ![1, 128, 128] ho) (ix3 0 r l) = m ((c : Thread nD τ).loc main_arg2) (ix3 b n j) := by
  blk_point [iblk, V, idx t]

theorem v_block6 (c : Dev nD) (t : Fin cfg0.N) (o : ℕ) (ho : ∀ a, (![0, 0, o] : Fin _ → Nat) a + (![1, 128, 128] : Fin _ → Nat) a ≤ S1x128x256.size a) (r l : Fin 128)
    (b : Fin 8) (n : Fin 2048) (j : Fin 21504) (hb : b.val = t.val / 16) (hn : n.val = t.val % 16 * 128 + r.val) (hj : j.val = 20224 + (o + l.val)) :
    View.ld (iblk m c 6 t) (Rect.unit ![0, 0, o] ![1, 128, 128] ho) (ix3 0 r l) = m ((c : Thread nD τ).loc main_arg2) (ix3 b n j) := by
  blk_point [iblk, V, idx t]

theorem v_block7 (c : Dev nD) (t : Fin cfg0.N) (o : ℕ) (ho : ∀ a, (![0, 0, o] : Fin _ → Nat) a + (![1, 128, 128] : Fin _ → Nat) a ≤ S1x128x256.size a) (r l : Fin 128)
    (b : Fin 8) (n : Fin 2048) (j : Fin 21504) (hb : b.val = t.val / 16) (hn : n.val = min (t.val % 16 + 1) 15 * 128 + r.val) (hj : j.val = 20224 + (o + l.val)) :
    View.ld (iblk m c 7 t) (Rect.unit ![0, 0, o] ![1, 128, 128] ho) (ix3 0 r l) = m ((c : Thread nD τ).loc main_arg2) (ix3 b n j) := by
  blk_point [iblk, V, idx t]

end Cert.AttnIdeal.Own

end
-- ==== Proof.AttnValue.lean ====
module

public import proofs.«01_k».proof.Proof.Gen.AttnIdeal.Value
public import proofs.«01_k».proof.Proof.Gen.AttnRefIdeal.Read
public import Idealize.ShloMosaic.Lib.Pipeline.ValueKit
public import Idealize.ShloMosaic.Lib.Pointwise
public import proofs.«01_k».proof.Proof.AttnHead
public import proofs.«01_k».proof.Proof.AttnBlocks

@[expose] public section

set_option maxRecDepth 16384

noncomputable section

open Idealize.ShloMosaic Idealize.ShloMosaic.TcCoe Idealize.SL.Sem
open Idealize.ShloMosaic.Pipeline (Dat)

namespace Cert.AttnIdeal.Own

open Cert.AttnIdeal Cert.AttnIdeal.Gen

variable (m : (ℓ : Loc nD τ sig) → Buf (Elt Ideal) ℓ)

open Cert.Heads (Fin' wt den after before)
open Cert.AttnRefIdeal.Read

/-- The row of the sequence a row of a grid step's keys is read from. -/
def row (n : ℕ) (hn : n < 16) (k : Fin 384) : Fin 2048 :=
  if h : k.val < 128 then ⟨(n - 1) * 128 + k.val, by omega⟩
  else if h' : k.val - 128 < 128 then ⟨n * 128 + (k.val - 128), by omega⟩
  else ⟨min (n + 1) 15 * 128 + (k.val - 128 - 128), by omega⟩

theorem row_eq (n : ℕ) (hn : n < 16) (k : Fin 384) (h1 : 128 ≤ 128 * n + k.val) (h2 : 128 * n + k.val < 2176) :
    128 * n + k.val = 128 + (row n hn k).val := by
  unfold row
  split_ifs <;> simp only <;> omega

theorem stack_eq {S : Shape} (a b c : S1x128x128.Idx → EReal) (X : S.Idx → EReal) (n : ℕ) (hn : n < 16) (k : Fin 384) (l : Fin 128)
    (at' : Fin 2048 → S.Idx)
    (ha : ∀ (x : Fin 128) (N : Fin 2048), N.val = (n - 1) * 128 + x.val → a (ix3 0 x l) = X (at' N))
    (hb : ∀ (x : Fin 128) (N : Fin 2048), N.val = n * 128 + x.val → b (ix3 0 x l) = X (at' N))
    (hc : ∀ (x : Fin 128) (N : Fin 2048), N.val = min (n + 1) 15 * 128 + x.val → c (ix3 0 x l) = X (at' N)) :
    stack a b c k l = X (at' (row n hn k)) := by
  unfold stack row
  split_ifs
  · exact ha _ _ rfl
  · exact hb _ _ rfl
  · exact hc _ _ rfl

theorem one_pos : 0 < S1.numel := by decide

theorem sink_in (g : Fin 2) (p : Fin 2) (i : Fin 4) : ∀ a, (![g.val * 8 + p.val * 4 + i.val] : Fin _ → Nat) a + (![1] : Fin _ → Nat) a ≤ S16.size a :=
  (by decide : ∀ (g p : Fin 2) (i : Fin 4), ∀ a, (![g.val * 8 + p.val * 4 + i.val] : Fin _ → Nat) a + (![1] : Fin _ → Nat) a ≤ S16.size a) g p i

theorem query_in (g : Fin 2) (i : Fin 4) :
    ∀ a, (![0, 0, g.val * 512 + i.val * 128] : Fin _ → Nat) a + (![1, 128, 128] : Fin _ → Nat) a ≤ S1x128x1024.size a :=
  (by decide : ∀ (g : Fin 2) (i : Fin 4), ∀ a, (![0, 0, g.val * 512 + i.val * 128] : Fin _ → Nat) a + (![1, 128, 128] : Fin _ → Nat) a ≤ S1x128x1024.size a) g i

theorem group_in (g : Fin 2) : ∀ a, (![0, 0, g.val * 128] : Fin _ → Nat) a + (![1, 128, 128] : Fin _ → Nat) a ≤ S1x128x256.size a :=
  (by decide : ∀ g : Fin 2, ∀ a, (![0, 0, g.val * 128] : Fin _ → Nat) a + (![1, 128, 128] : Fin _ → Nat) a ≤ S1x128x256.size a) g

/-- The sink logits of a group that a grid step reads: those of one mask's four heads. -/
def sinks (c : Dev nD) (t : Fin cfg0.N) (g p : Fin 2) (i : Fin 4) : Elt Ideal .f32 :=
  View.ld (iblk m c 0 t) (Rect.unit ![g.val * 8 + p.val * 4 + i.val] ![1] (sink_in g p i)) (Shape.Idx.first one_pos)

/-- The query lanes of a group that a grid step reads. -/
def queries (c : Dev nD) (t : Fin cfg0.N) (g : Fin 2) (i : Fin 4) : Vec Ideal S1x128x128 .bf16 :=
  View.ld (iblk m c 1 t) (Rect.unit ![0, 0, g.val * 512 + i.val * 128] ![1, 128, 128] (query_in g i))

/-- The keys of a group that a grid step reads. -/
def groupKeys (c : Dev nD) (t : Fin cfg0.N) (g : Fin 2) : FVec Ideal S384x128 .bf16 :=
  k0_pay9 (View.ld (iblk m c 2 t) (Rect.unit ![0, 0, g.val * 128] ![1, 128, 128] (group_in g)))
    (View.ld (iblk m c 3 t) (Rect.unit ![0, 0, g.val * 128] ![1, 128, 128] (group_in g)))
    (View.ld (iblk m c 4 t) (Rect.unit ![0, 0, g.val * 128] ![1, 128, 128] (group_in g)))

/-- The values of a group that a grid step reads. -/
def groupVals (c : Dev nD) (t : Fin cfg0.N) (g : Fin 2) : FVec Ideal S384x128 .bf16 :=
  k0_pay10 (View.ld (iblk m c 5 t) (Rect.unit ![0, 0, g.val * 128] ![1, 128, 128] (group_in g)))
    (View.ld (iblk m c 6 t) (Rect.unit ![0, 0, g.val * 128] ![1, 128, 128] (group_in g)))
    (View.ld (iblk m c 7 t) (Rect.unit ![0, 0, g.val * 128] ![1, 128, 128] (group_in g)))

/-- What a grid step stores in one tile is the reference's lanes. -/
theorem piece (c : Dev nD) (hq : ∀ i, Fin' (m ((c : Thread nD τ).loc main_arg0) i)) (hk : ∀ i, Fin' (m ((c : Thread nD τ).loc main_arg1) i))
    (hs : ∀ i, Fin' (m ((c : Thread nD τ).loc main_arg3) i)) (t : Fin cfg0.N) (g : Fin 2) (i : Fin 4)
    (r l : Fin 128) (b : Fin 8) (N : Fin 2048) (j : Fin 1024) (hb : b.val = t.val / 16)
    (hN : N.val = t.val % 16 * 128 + r.val) (hj : j.val = g.val * 512 + i.val * 128 + l.val) :
    tile i (k0_pay5 (grid0.coords t)) (sc k0_pay7 (groupKeys m c t g) (queries m c t g)) (sc k0_pay8 (groupKeys m c t g) (queries m c t g))
        (groupVals m c t g) (sinks m c t g 0) (sinks m c t g 1) (ix3 0 r l)
      = val_main_v85 (F := Ideal) (m ((c : Thread nD τ).loc main_arg0)) (m ((c : Thread nD τ).loc main_arg1)) (m ((c : Thread nD τ).loc main_arg2)) (m ((c : Thread nD τ).loc main_arg3)) (ix3 b N j) := by
  refine (tile_eq hq hk hs b ⟨t.val % 16, by omega⟩ g i r l (row (t.val % 16) (by omega)) (fun k => row_eq _ _ k) _ _ _ _ _ _
    (fun k => mask_eq (grid0.coords t) (t.val % 16) (coord t) r k) (fun l' => ?_) (fun k l' => ?_) (fun k l' => ?_) ?_ ?_).trans (congrArg _ (ix3_ext rfl hN.symm hj.symm))
  · exact q_block m c t _ _ r l' _ _ _ hb rfl rfl
  · refine (keys_at _ _ _ k l').trans (stack_eq (S := S8x2048x256) _ _ _ (m ((c : Thread nD τ).loc main_arg1)) (t.val % 16) (by omega) k l'
      (fun N => ix3 b N ⟨g.val * 128 + l'.val, by omega⟩) (fun x N e => ?_) (fun x N e => ?_) (fun x N e => ?_))
    · exact k_block2 m c t _ _ x l' b N _ hb e rfl
    · exact k_block3 m c t _ _ x l' b N _ hb e rfl
    · exact k_block4 m c t _ _ x l' b N _ hb e rfl
  · refine (vals_at _ _ _ k l').trans (stack_eq (S := S8x2048x21504) _ _ _ (m ((c : Thread nD τ).loc main_arg2)) (t.val % 16) (by omega) k l'
      (fun N => ix3 b N ⟨20224 + (g.val * 128 + l'.val), by omega⟩) (fun x N e => ?_) (fun x N e => ?_) (fun x N e => ?_))
    · exact v_block5 m c t _ _ x l' b N _ hb e rfl
    · exact v_block6 m c t _ _ x l' b N _ hb e rfl
    · exact v_block7 m c t _ _ x l' b N _ hb e rfl
  · exact sink_block m c t _ _ _ _ rfl
  · exact sink_block m c t _ _ _ _ rfl

set_option maxHeartbeats 3200000 in
theorem final (c : Dev nD) (hq : ∀ i, Fin' (m ((c : Thread nD τ).loc main_arg0) i)) (hk : ∀ i, Fin' (m ((c : Thread nD τ).loc main_arg1) i))
    (hs : ∀ i, Fin' (m ((c : Thread nD τ).loc main_arg3) i)) :
    (dats m 0 c).arrAt 8 (cfgs 0).N = val_main_v85 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  have e0 : (((cfg0.win 8).blk t).view.emb y 0).val = t.val / 16 + (y 0).val := by blk_simp [idx t]
  have e1 : (((cfg0.win 8).blk t).view.emb y 1).val = t.val % 16 * 128 + (y 1).val := by blk_simp [idx t]
  have e2 : (((cfg0.win 8).blk t).view.emb y 2).val = (y 2).val := by blk_simp [idx t]
  obtain ⟨b, N, j, e, hb, hN, hj⟩ : ∃ (b : Fin 8) (N : Fin 2048) (j : Fin 1024), ((cfg0.win 8).blk t).view.emb y = ix3 b N j
      ∧ b.val = t.val / 16 + (y 0).val ∧ N.val = t.val % 16 * 128 + (y 1).val ∧ j.val = (y 2).val :=
    ⟨_, _, _, ix3_ext rfl rfl rfl, e0, e1, e2⟩
  blk_simp
  rw [after0_8]
  unfold outsAt0
  frame_out
  refine Eq.trans ?_ (congrArg _ e).symm
  have lanes : ∀ x : S1x128x128.Idx, ∃ r l, x = ix3 0 r l := fun x =>
    ⟨x 1, x 2, ix3_ext (Nat.lt_one_iff.mp (x 0).isLt) rfl rfl⟩
  canon_tiles x h
  · obtain ⟨r, l, rfl⟩ := lanes x
    exact piece m c hq hk hs t 1 3 r l b N j (by omega) (by rw [hN, h1]; rfl) (by rw [hj, h2]; rfl)
  · obtain ⟨r, l, rfl⟩ := lanes x
    exact piece m c hq hk hs t 1 2 r l b N j (by omega) (by rw [hN, h1]; rfl) (by rw [hj, h2]; rfl)
  · obtain ⟨r, l, rfl⟩ := lanes x
    exact piece m c hq hk hs t 1 1 r l b N j (by omega) (by rw [hN, h1]; rfl) (by rw [hj, h2]; rfl)
  · obtain ⟨r, l, rfl⟩ := lanes x
    exact piece m c hq hk hs t 1 0 r l b N j (by omega) (by rw [hN, h1]; rfl) (by rw [hj, h2]; rfl)
  · obtain ⟨r, l, rfl⟩ := lanes x
    exact piece m c hq hk hs t 0 3 r l b N j (by omega) (by rw [hN, h1]; rfl) (by rw [hj, h2]; rfl)
  · obtain ⟨r, l, rfl⟩ := lanes x
    exact piece m c hq hk hs t 0 2 r l b N j (by omega) (by rw [hN, h1]; rfl) (by rw [hj, h2]; rfl)
  · obtain ⟨r, l, rfl⟩ := lanes x
    exact piece m c hq hk hs t 0 1 r l b N j (by omega) (by rw [hN, h1]; rfl) (by rw [hj, h2]; rfl)
  · obtain ⟨r, l, rfl⟩ := lanes x
    exact piece m c hq hk hs t 0 0 r l b N j (by omega) (by rw [hN, h1]; rfl) (by rw [hj, h2]; exact (Nat.zero_add _).symm)

end Cert.AttnIdeal.Own

end
-- ==== Proof.AttnPair.lean ====
module

public import proofs.«01_k».proof.Defs
public import proofs.«01_k».proof.Proof.Gen.Attn.Frame
public import proofs.«01_k».proof.Proof.Gen.Pre_finite_scores
public import proofs.«01_k».proof.Proof.Gen.AttnRefIdeal.Run
public import proofs.«01_k».proof.Proof.AttnValue
public import Idealize.ShloMosaic.Adequacy
public import Idealize.ShloMosaic.Lib.Claim

@[expose] public section

set_option maxRecDepth 16384

noncomputable section

namespace Cert.Proof

open Idealize.ShloMosaic Idealize.SL.Sem

theorem frame_attn_ref : Cert.quiescent_AttnRefIdeal := by
  intro m g _
  exact (θ_run Cert.AttnRefIdeal.defs _ _).mono (fun r h => ⟨fun c => (h c).2,
      Idealize.ShloMosaic.sem_eq_zero_of_no_sems (by decide) r.2⟩)
    (Cert.AttnRefIdeal.Value.run (F := Ideal) m g)

theorem frame_attn_ref_finite : Cert.quiescent_AttnRefIdeal_pre_finite_scores := by
  intro m g _
  exact frame_attn_ref m g trivial

/-- A number whose absolute value is less than infinity is neither infinity. -/
theorem finite_of_abs_lt (x : EReal)
    (h : (FloatOps.cmpf (F := Ideal) (φ := .f32) .olt (FloatOps.absf (F := Ideal) (φ := .f32) x) (Ideal.ofBits .f32 0x7F800000#32)) = 1#1) :
    Cert.Heads.Fin' x := by
  have h' : BitVec.ofBool (decide (max x (-x) < Ideal.ofBits .f32 0x7F800000#32)) = 1#1 := h
  have hlt : max x (-x) < Ideal.ofBits .f32 0x7F800000#32 := by
    by_contra hc
    rw [decide_eq_false hc] at h'
    exact absurd h' (by decide)
  have ht : max x (-x) < ⊤ := lt_of_lt_of_le hlt le_top
  constructor
  · rintro rfl
    simp at ht
  · rintro rfl
    simp at ht

set_option maxHeartbeats 1600000 in
theorem algebraic_attn : Cert.algebraic_AttnIdeal_AttnRefIdeal_pre_finite_scores := by
  pair_intro
  · run_from Cert.AttnIdeal.Gen.run_main m g
  · run_from Cert.AttnRefIdeal.Value.run m' g'
    rw [Cert.AttnRefIdeal.Read.val_main_v85_eq m' c, (hagree c).1, (hagree c).2.1, (hagree c).2.2.1, (hagree c).2.2.2]
    have hp := hpre c
    exact (Cert.AttnIdeal.Own.final m c
      (fun i => finite_of_abs_lt _ (congrFun hp.1 i))
      (fun i => finite_of_abs_lt _ (congrFun hp.2.1 i))
      (fun i => finite_of_abs_lt _ (congrFun hp.2.2 i))).symm

end Cert.Proof

end
-- ==== Proof.OutValue.lean ====
module

public import proofs.«01_k».proof.Proof.Gen.OutIdeal.Value
public import proofs.«01_k».proof.Proof.Gen.OutRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutIdeal.Own

open Cert.OutIdeal Cert.OutIdeal.Gen

variable (m : (ℓ : Loc nD τ sig) → Buf (Elt Ideal) ℓ)

/-- The residual sum as the reference computes it: the stream plus the product with the weights. -/
abbrev REF (Y : FVec Ideal S16384x2048 .bf16) (W : FVec Ideal S2048x2048 .f32) (X : FVec Ideal S16384x2048 .f32) :
    FVec Ideal S16384x2048 .f32 :=
  addf X (Host.dotGeneral Cert.OutRefIdeal.dot_S16384x2048_S2048x2048_S16384x2048_1_0_0_1_n_n none
    (extf .f32 Y Cert.OutRefIdeal.Gen.bitsLt_bf16_f32) W)

theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- What a grid point stores is the reference's value at the place it is stored to. -/
theorem point (c : Dev nD) (t : Fin cfg0.N) (y) : k0_pay1 (iblk m c 2 t) (iblk m c 0 t) (iblk m c 1 t) y
    = REF (m ((c : Thread nD τ).loc main_arg0)) (m ((c : Thread nD τ).loc main_arg1))
        (m ((c : Thread nD τ).loc main_arg2)) (((cfg0.win 3).blk t).view.emb y) := by
  pointwise [k0_pay1, REF]
  blk_point [iblk, V, idx t]

theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.OutIdeal.Own

end
-- ==== Proof.FinalValue.lean ====
module

public import proofs.«01_k».proof.Proof.Gen.FinalIdeal.Value
public import proofs.«01_k».proof.Proof.Gen.FinalRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FinalIdeal.Own

open Cert.FinalIdeal Cert.FinalIdeal.Gen

variable (m : (ℓ : Loc nD τ sig) → Buf (Elt Ideal) ℓ)

/-- The normalised stream as the reference computes it. -/
abbrev REF (X : FVec Ideal S16384x2048 .f32) (G : FVec Ideal S2048 .f32) : FVec Ideal S16384x2048 .f32 :=
  Cert.FinalRefIdeal.Read.val_main_v12 (F := Ideal) X G

theorem idx : ∀ t : Fin cfg0.N, win0_0.index t = ![t.val, 0] ∧ win0_1.index t = ![0, 0]
    ∧ win0_2.index t = ![t.val, 0] :=
  (by decide +kernel : ∀ t : Fin grid0.N, _)

open Cert.FinalRefIdeal.Read in
/-- What a grid point stores is the reference's value at the place it is stored to. -/
theorem point (c : Dev nD) (t : Fin cfg0.N) (y) : k0_pay1 (iblk m c 0 t) (iblk m c 1 t) y
    = REF (m ((c : Thread nD τ).loc main_arg0)) (m ((c : Thread nD τ).loc main_arg1))
        (((cfg0.win 2).blk t).view.emb y) := by
  pointwise [k0_pay1, REF, val_main_v12, val_main_v11, val_main_v10, val_main_v9, val_main_v8, val_main_v7,
    val_main_v6, val_main_v5, val_main_v4, val_main_v3, val_main_v2, val_main_v1, val_main_v0, val_main_cst,
    val_main_cst_0, val_main_cst_1]
  blk_point [iblk, V, idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.FinalIdeal.Own

end
-- ==== Proof.ProjValue.lean ====
module

public import proofs.«01_k».proof.Proof.Gen.ProjIdeal.Value
public import proofs.«01_k».proof.Proof.Gen.ProjRefIdeal.Read
public import proofs.«01_k».proof.Proof.Cat
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjIdeal.Own

open Cert.ProjIdeal Cert.ProjIdeal.Gen

variable (m : (ℓ : Loc nD τ sig) → Buf (Elt Ideal) ℓ)

open Cert.ProjRefIdeal.Read

/-- The normalised stream. -/
abbrev HN (X : FVec Ideal S16384x2048 .f32) (G : FVec Ideal S2048 .f32) : FVec Ideal S16384x2048 .f32 :=
  val_main_v12 (F := Ideal) X G

theorem idx : ∀ t : Fin cfg0.N, win0_0.index t = ![t.val / 21, 0] ∧ win0_1.index t = ![0, 0]
    ∧ win0_2.index t = ![0, t.val % 21] ∧ win0_3.index t = ![t.val / 21, t.val % 21] :=
  (by decide +kernel : ∀ t : Fin grid0.N, _)

/-- Two points of one row of blocks read the same rows. -/
theorem rows_eq (c : Dev nD) (t s : Fin cfg0.N) (h : t.val / 21 = s.val / 21) :
    iblk m c 0 t = iblk m c 0 s := by
  funext x
  blk_ext [iblk, V, idx t, idx s]

theorem gain_eq (c : Dev nD) (t s : Fin cfg0.N) : iblk m c 1 t = iblk m c 1 s := by
  funext x
  blk_ext [iblk, idx t, idx s]

/-- The scratch holds the normalised rows of the point's row of blocks. -/
theorem scratch (c : Dev nD) : ∀ (n : ℕ) (h : n < cfg0.N),
    (outsAt0 m c n h).2 = k0_pay1 (iblk m c 0 ⟨n, h⟩) (iblk m c 1 ⟨n, h⟩) := by
  intro n
  induction n with
  | zero =>
    intro h
    have e := congrArg Prod.snd (outsAt0_A m c ⟨0, h⟩ rfl)
    refine e.trans ?_
    frame_out
  | succ n ih =>
    intro h
    by_cases h0 : (n + 1) % 21 = 0
    · have e := congrArg Prod.snd (outsAt0_A m c ⟨n + 1, h⟩ h0)
      refine e.trans ?_
      frame_out
    · have e := congrArg Prod.snd (outsAt0_B m c ⟨n + 1, h⟩ h0)
      refine e.trans ?_
      refine (ih (Nat.lt_of_succ_lt h)).trans ?_
      rw [rows_eq m c ⟨n, Nat.lt_of_succ_lt h⟩ ⟨n + 1, h⟩ (by simp only; omega),
        gain_eq m c ⟨n, Nat.lt_of_succ_lt h⟩ ⟨n + 1, h⟩]

theorem stored (c : Dev nD) (t : Fin cfg0.N) :
    (outsAt0 m c t.val t.isLt).1 = k0_pay2 (k0_pay1 (iblk m c 0 t) (iblk m c 1 t)) (iblk m c 2 t) := by
  by_cases h0 : t.val % 21 = 0
  · rw [outsAt0_A m c t h0]
    frame_out
  · have e : (outsAt0 m c (t.val - 1) (Nat.lt_of_le_of_lt (Nat.sub_le _ _) t.isLt)).2
        = k0_pay1 (iblk m c 0 t) (iblk m c 1 t) :=
      ((scratch m c t.val t.isLt).symm.trans (congrArg Prod.snd (outsAt0_B m c t h0))).symm
    rw [outsAt0_B m c t h0]
    frame_out
    rw [read_unread_whole, e]

theorem row_at (c : Dev nD) (t : Fin cfg0.N) (y : S1024x2048.Idx) : k0_pay1 (F := Ideal) (iblk m c 0 t) (iblk m c 1 t) y
    = HN (m ((c : Thread nD τ).loc main_arg0)) (m ((c : Thread nD τ).loc main_arg1)) (((cfg0.win 0).blk t).view.emb y) := by
  pointwise [k0_pay1, HN, val_main_v12, val_main_v11, val_main_v10, val_main_v9, val_main_v8, val_main_v7,
    val_main_v6, val_main_v5, val_main_v4, val_main_v3, val_main_v2, val_main_v1, val_main_v0, val_main_cst,
    val_main_cst_0, val_main_cst_1]
  blk_point [iblk, V, idx t]

/-- The column of the checkpoint's matrix that a column of the packed matrix is. -/
def src (j : ℕ) : ℕ :=
  if j < 8192 then j else if j < 13312 then j + 4128 else if j < 16384 then j + 4128 else if j < 17408 then j - 8192
  else if j < 18432 then 10784 + (j - 17408) / 512 * 512 + (j - 17408) / 64 % 2 * 256 + (j - 17408) / 128 % 4 * 64 + j % 64
  else if j < 19968 then j - 9216 else if j < 20480 then j - 8160 else if j < 20512 then j - 9728 else 0

theorem src_lt (j : ℕ) : src j < 20512 := by
  unfold src; split_ifs <;> omega

/-- Columns of the packed matrix, in order. -/
def packA (W : FVec Ideal S2048x20512 .f32) : FVec Ideal S2048x18176 .f32 :=
  concatenate S2048x18176 1
    [⟨S2048x8192, extractStridedSlice S2048x8192 ![0, 0] W slices_S2048x20512_S2048x8192_0_0⟩,
      ⟨S2048x5120, extractStridedSlice S2048x5120 ![0, 12320] W slices_S2048x20512_S2048x5120_0_12320⟩,
      ⟨S2048x3072, extractStridedSlice S2048x3072 ![0, 17440] W slices_S2048x20512_S2048x3072_0_17440⟩,
      ⟨S2048x1024, extractStridedSlice S2048x1024 ![0, 8192] W slices_S2048x20512_S2048x1024_0_8192⟩,
      ⟨S2048x64, extractStridedSlice S2048x64 ![0, 10784] W slices_S2048x20512_S2048x64_0_10784⟩,
      ⟨S2048x64, extractStridedSlice S2048x64 ![0, 11040] W slices_S2048x20512_S2048x64_0_11040⟩,
      ⟨S2048x64, extractStridedSlice S2048x64 ![0, 10848] W slices_S2048x20512_S2048x64_0_10848⟩,
      ⟨S2048x64, extractStridedSlice S2048x64 ![0, 11104] W slices_S2048x20512_S2048x64_0_11104⟩,
      ⟨S2048x64, extractStridedSlice S2048x64 ![0, 10912] W slices_S2048x20512_S2048x64_0_10912⟩,
      ⟨S2048x64, extractStridedSlice S2048x64 ![0, 11168] W slices_S2048x20512_S2048x64_0_11168⟩,
      ⟨S2048x64, extractStridedSlice S2048x64 ![0, 10976] W slices_S2048x20512_S2048x64_0_10976⟩,
      ⟨S2048x64, extractStridedSlice S2048x64 ![0, 11232] W slices_S2048x20512_S2048x64_0_11232⟩,
      ⟨S2048x64, extractStridedSlice S2048x64 ![0, 11296] W slices_S2048x20512_S2048x64_0_11296⟩,
      ⟨S2048x64, extractStridedSlice S2048x64 ![0, 11552] W slices_S2048x20512_S2048x64_0_11552⟩,
      ⟨S2048x64, extractStridedSlice S2048x64 ![0, 11360] W slices_S2048x20512_S2048x64_0_11360⟩,
      ⟨S2048x64, extractStridedSlice S2048x64 ![0, 11616] W slices_S2048x20512_S2048x64_0_11616⟩] concatenates_S2048x8192_S2048x5120_S2048x3072_S2048x1024_S2048x64_S2048x64_S2048x64_S2048x64_S2048x64_S2048x64_S2048x64_S2048x64_S2048x64_S2048x64_S2048x64_S2048x64_S2048x18176_d1

/-- Columns of the packed matrix, in order. -/
def packB (W : FVec Ideal S2048x20512 .f32) : FVec Ideal S2048x3328 .f32 :=
  concatenate S2048x3328 1
    [⟨S2048x64, extractStridedSlice S2048x64 ![0, 11424] W slices_S2048x20512_S2048x64_0_11424⟩,
      ⟨S2048x64, extractStridedSlice S2048x64 ![0, 11680] W slices_S2048x20512_S2048x64_0_11680⟩,
      ⟨S2048x64, extractStridedSlice S2048x64 ![0, 11488] W slices_S2048x20512_S2048x64_0_11488⟩,
      ⟨S2048x64, extractStridedSlice S2048x64 ![0, 11744] W slices_S2048x20512_S2048x64_0_11744⟩,
      ⟨S2048x1536, extractStridedSlice S2048x1536 ![0, 9216] W slices_S2048x20512_S2048x1536_0_9216⟩,
      ⟨S2048x512, extractStridedSlice S2048x512 ![0, 11808] W slices_S2048x20512_S2048x512_0_11808⟩,
      ⟨S2048x32, extractStridedSlice S2048x32 ![0, 10752] W slices_S2048x20512_S2048x32_0_10752⟩,
      ⟨S2048x992, broadcastInDim S2048x992 ![] bcast_S_S2048x992 (constant S_ .f32 0x00000000#32)⟩] concatenates_S2048x64_S2048x64_S2048x64_S2048x64_S2048x1536_S2048x512_S2048x32_S2048x992_S2048x3328_d1

/-- The packed matrix. -/
def pack (W : FVec Ideal S2048x20512 .f32) : FVec Ideal S2048x21504 .bf16 :=
  truncf .bf16 (concatenate S2048x21504 1 [⟨S2048x18176, packA W⟩, ⟨S2048x3328, packB W⟩]
    concatenates_S2048x18176_S2048x3328_S2048x21504_d1) bitsLt_bf16_f32

set_option maxHeartbeats 2000000 in
theorem V_main_v27 (c : Dev nD) : V m c main_v27 = pack (m ((c : Thread nD τ).loc main_arg2)) := by
  unfold_abbrev_sides
  simp only [StableHlo.after_cons, StableHlo.after_nil]
  after_results_simp <;> (try dsimp only [Matrix.cons_val]) <;> (try after_results_simp) <;> rfl

/-- A slice of columns among matrices side by side, read at an entry of its own columns. -/
theorem col_slice {M n off : ℕ} (xs : List ((s : Shape) × FVec Ideal s .f32))
    (h : Shape.Concatenates (xs.map (·.1)) ⟨2, ![2048, M]⟩ 1) (W : FVec Ideal S2048x20512 .f32)
    (hs : S2048x20512.Slices ![0, off] ⟨2, ![2048, n]⟩) (i : ℕ) (hi : i < xs.length)
    (hx : xs[i] = ⟨⟨2, ![2048, n]⟩, extractStridedSlice ⟨2, ![2048, n]⟩ ![0, off] W hs⟩) (pre : ℕ)
    (hpre : (((xs.take i).map (·.1)).map fun s => if h : s.rank = 2 then s.size (Fin.cast h.symm 1) else 0).sum = pre)
    (k : Fin 2048) (j : Fin M) (l : Fin 20512) (h1 : pre ≤ j.val) (h2 : j.val < pre + n)
    (hl : l.val = off + (j.val - pre)) :
    concatenate ⟨2, ![2048, M]⟩ 1 xs h (ix2 k j) = W (ix2 k l) :=
  (Glue.col xs h i hi _ hx pre hpre k j ⟨j.val - pre, by omega⟩ (by simp only; omega)).trans
    (Glue.slice_col W hs k _ l (by simp only; omega))

set_option maxHeartbeats 16000000 in
theorem packA_at (W : FVec Ideal S2048x20512 .f32) (k : Fin 2048) (j : Fin 18176) (l : Fin 20512)
    (hl : l.val = src j.val) : packA W (ix2 k j) = W (ix2 k l) := by
  unfold src at hl
  unfold packA
  by_cases h0 : j.val < 8192
  · exact col_slice _ _ W slices_S2048x20512_S2048x8192_0_0 0 (by show 0 < 16; decide) rfl 0 rfl k j l (by omega) (by omega) (by first | omega | (split_ifs at hl <;> omega))
  by_cases h1 : j.val < 13312
  · exact col_slice _ _ W slices_S2048x20512_S2048x5120_0_12320 1 (by show 1 < 16; decide) rfl 8192 rfl k j l (by omega) (by omega) (by first | omega | (split_ifs at hl <;> omega))
  by_cases h2 : j.val < 16384
  · exact col_slice _ _ W slices_S2048x20512_S2048x3072_0_17440 2 (by show 2 < 16; decide) rfl 13312 rfl k j l (by omega) (by omega) (by first | omega | (split_ifs at hl <;> omega))
  by_cases h3 : j.val < 17408
  · exact col_slice _ _ W slices_S2048x20512_S2048x1024_0_8192 3 (by show 3 < 16; decide) rfl 16384 rfl k j l (by omega) (by omega) (by first | omega | (split_ifs at hl <;> omega))
  by_cases h4 : j.val < 17472
  · exact col_slice _ _ W slices_S2048x20512_S2048x64_0_10784 4 (by show 4 < 16; decide) rfl 17408 rfl k j l (by omega) (by omega) (by first | omega | (split_ifs at hl <;> omega))
  by_cases h5 : j.val < 17536
  · exact col_slice _ _ W slices_S2048x20512_S2048x64_0_11040 5 (by show 5 < 16; decide) rfl 17472 rfl k j l (by omega) (by omega) (by first | omega | (split_ifs at hl <;> omega))
  by_cases h6 : j.val < 17600
  · exact col_slice _ _ W slices_S2048x20512_S2048x64_0_10848 6 (by show 6 < 16; decide) rfl 17536 rfl k j l (by omega) (by omega) (by first | omega | (split_ifs at hl <;> omega))
  by_cases h7 : j.val < 17664
  · exact col_slice _ _ W slices_S2048x20512_S2048x64_0_11104 7 (by show 7 < 16; decide) rfl 17600 rfl k j l (by omega) (by omega) (by first | omega | (split_ifs at hl <;> omega))
  by_cases h8 : j.val < 17728
  · exact col_slice _ _ W slices_S2048x20512_S2048x64_0_10912 8 (by show 8 < 16; decide) rfl 17664 rfl k j l (by omega) (by omega) (by first | omega | (split_ifs at hl <;> omega))
  by_cases h9 : j.val < 17792
  · exact col_slice _ _ W slices_S2048x20512_S2048x64_0_11168 9 (by show 9 < 16; decide) rfl 17728 rfl k j l (by omega) (by omega) (by first | omega | (split_ifs at hl <;> omega))
  by_cases h10 : j.val < 17856
  · exact col_slice _ _ W slices_S2048x20512_S2048x64_0_10976 10 (by show 10 < 16; decide) rfl 17792 rfl k j l (by omega) (by omega) (by first | omega | (split_ifs at hl <;> omega))
  by_cases h11 : j.val < 17920
  · exact col_slice _ _ W slices_S2048x20512_S2048x64_0_11232 11 (by show 11 < 16; decide) rfl 17856 rfl k j l (by omega) (by omega) (by first | omega | (split_ifs at hl <;> omega))
  by_cases h12 : j.val < 17984
  · exact col_slice _ _ W slices_S2048x20512_S2048x64_0_11296 12 (by show 12 < 16; decide) rfl 17920 rfl k j l (by omega) (by omega) (by first | omega | (split_ifs at hl <;> omega))
  by_cases h13 : j.val < 18048
  · exact col_slice _ _ W slices_S2048x20512_S2048x64_0_11552 13 (by show 13 < 16; decide) rfl 17984 rfl k j l (by omega) (by omega) (by first | omega | (split_ifs at hl <;> omega))
  by_cases h14 : j.val < 18112
  · exact col_slice _ _ W slices_S2048x20512_S2048x64_0_11360 14 (by show 14 < 16; decide) rfl 18048 rfl k j l (by omega) (by omega) (by first | omega | (split_ifs at hl <;> omega))
  exact col_slice _ _ W slices_S2048x20512_S2048x64_0_11616 15 (by show 15 < 16; decide) rfl 18112 rfl k j l (by omega) (by omega) (by first | omega | (split_ifs at hl <;> omega))

set_option maxHeartbeats 16000000 in
theorem packB_at (W : FVec Ideal S2048x20512 .f32) (k : Fin 2048) (j : Fin 3328) (l : Fin 20512)
    (hj : j.val < 2336) (hl : l.val = src (j.val + 18176)) : packB W (ix2 k j) = W (ix2 k l) := by
  unfold src at hl
  unfold packB
  by_cases h0 : j.val < 64
  · exact col_slice _ _ W slices_S2048x20512_S2048x64_0_11424 0 (by show 0 < 8; decide) rfl 0 rfl k j l (by omega) (by omega) (by first | omega | (split_ifs at hl <;> omega))
  by_cases h1 : j.val < 128
  · exact col_slice _ _ W slices_S2048x20512_S2048x64_0_11680 1 (by show 1 < 8; decide) rfl 64 rfl k j l (by omega) (by omega) (by first | omega | (split_ifs at hl <;> omega))
  by_cases h2 : j.val < 192
  · exact col_slice _ _ W slices_S2048x20512_S2048x64_0_11488 2 (by show 2 < 8; decide) rfl 128 rfl k j l (by omega) (by omega) (by first | omega | (split_ifs at hl <;> omega))
  by_cases h3 : j.val < 256
  · exact col_slice _ _ W slices_S2048x20512_S2048x64_0_11744 3 (by show 3 < 8; decide) rfl 192 rfl k j l (by omega) (by omega) (by first | omega | (split_ifs at hl <;> omega))
  by_cases h4 : j.val < 1792
  · exact col_slice _ _ W slices_S2048x20512_S2048x1536_0_9216 4 (by show 4 < 8; decide) rfl 256 rfl k j l (by omega) (by omega) (by first | omega | (split_ifs at hl <;> omega))
  by_cases h5 : j.val < 2304
  · exact col_slice _ _ W slices_S2048x20512_S2048x512_0_11808 5 (by show 5 < 8; decide) rfl 1792 rfl k j l (by omega) (by omega) (by first | omega | (split_ifs at hl <;> omega))
  exact col_slice _ _ W slices_S2048x20512_S2048x32_0_10752 6 (by show 6 < 8; decide) rfl 2304 rfl k j l (by omega) (by omega) (by first | omega | (split_ifs at hl <;> omega))

theorem packB_pad (W : FVec Ideal S2048x20512 .f32) (k : Fin 2048) (j : Fin 3328) (hj : 2336 ≤ j.val) :
    packB W (ix2 k j) = (0 : EReal) := by
  unfold packB
  refine (Glue.col _ _ 7 (by show 7 < 8; decide) _ rfl 2336 rfl k j ⟨j.val - 2336, by omega⟩ (by simp only; omega)).trans ?_
  pointwise

theorem pack_at (W : FVec Ideal S2048x20512 .f32) (k : Fin 2048) (j : Fin 21504) :
    pack W (ix2 k j) = if j.val < 20512 then W (ix2 k ⟨src j.val, src_lt _⟩) else (0 : EReal) := by
  have e : pack W (ix2 k j) = concatenate S2048x21504 1 [⟨S2048x18176, packA W⟩, ⟨S2048x3328, packB W⟩]
    concatenates_S2048x18176_S2048x3328_S2048x21504_d1 (ix2 k j) := rfl
  rw [e]
  by_cases h0 : j.val < 18176
  · rw [if_pos (by omega)]
    exact (Glue.col _ _ 0 (by show 0 < 2; decide) (packA W) rfl 0 rfl k j ⟨j.val, h0⟩ (by simp only; omega)).trans
      (packA_at W k _ _ rfl)
  · refine (Glue.col _ _ 1 (by show 1 < 2; decide) (packB W) rfl 18176 rfl k j ⟨j.val - 18176, by omega⟩ (by simp only; omega)).trans ?_
    by_cases h1 : j.val < 20512
    · rw [if_pos h1]
      exact packB_at W k _ _ (by simp only; omega) (by simp only; congr 1; omega)
    · rw [if_neg h1]
      exact packB_pad W k _ (by simp only; omega)

end Cert.ProjIdeal.Own

end
-- ==== Proof.ProjFinal.lean ====
module

public import proofs.«01_k».proof.Proof.Gen.ProjIdeal.Value
public import proofs.«01_k».proof.Proof.Gen.ProjRefIdeal.Read
public import proofs.«01_k».proof.Proof.Cat
public import proofs.«01_k».proof.Proof.ProjValue
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjIdeal.Own

open Cert.ProjIdeal Cert.ProjIdeal.Gen
open Cert.ProjRefIdeal.Read

theorem transposed_row (r p : ℕ) (hp : p < 1024) :
    (((((r * 1024 + p) / 1024 * 2 + (r * 1024 + p) / 512 % 2) * 2 + (r * 1024 + p) / 64 % 2) * 4
      + (r * 1024 + p) / 128 % 4) * 64 + (r * 1024 + p) % 64) / 1024 = r := by
  have h1 : (r * 1024 + p) / 1024 = r := by omega
  have h2 : (r * 1024 + p) / 512 % 2 = p / 512 := by omega
  have h3 : (r * 1024 + p) / 64 % 2 = p / 64 % 2 := by omega
  have h4 : (r * 1024 + p) / 128 % 4 = p / 128 % 4 := by omega
  have h5 : (r * 1024 + p) % 64 = p % 64 := by omega
  rw [h1, h2, h3, h4, h5]; omega

theorem transposed_col (r p : ℕ) (hp : p < 1024) :
    10784 + (((((r * 1024 + p) / 1024 * 2 + (r * 1024 + p) / 512 % 2) * 2 + (r * 1024 + p) / 64 % 2) * 4
      + (r * 1024 + p) / 128 % 4) * 64 + (r * 1024 + p) % 64) % 1024
    = 10784 + p / 512 * 512 + p / 64 % 2 * 256 + p / 128 % 4 * 64 + p % 64 := by
  have h1 : (r * 1024 + p) / 1024 = r := by omega
  have h2 : (r * 1024 + p) / 512 % 2 = p / 512 := by omega
  have h3 : (r * 1024 + p) / 64 % 2 = p / 64 % 2 := by omega
  have h4 : (r * 1024 + p) / 128 % 4 = p / 128 % 4 := by omega
  have h5 : (r * 1024 + p) % 64 = p % 64 := by omega
  rw [h1, h2, h3, h4, h5]; omega

set_option maxHeartbeats 1600000 in
/-- The reference's output, column by column: the product's own columns in their order, then zeros. -/
theorem ref_at (X : FVec Ideal S16384x2048 .f32) (G : FVec Ideal S2048 .f32) (W : FVec Ideal S2048x20512 .f32)
    (r : Fin 16384) (j : Fin 21504) : val_main_v28 (F := Ideal) X G W (ix2 r j)
    = if j.val < 20512 then val_main_v13 (F := Ideal) X G W (ix2 r ⟨src j.val, src_lt _⟩) else (0 : EReal) := by
  unfold val_main_v28
  by_cases h0 : j.val < 8192
  · refine (Glue.col _ _ 0 (by show 0 < 9; decide) (val_main_v14 (F := Ideal) X G W) rfl 0 rfl r j ⟨j.val - 0, by omega⟩ (by simp only; omega)).trans ?_
    rw [if_pos (by omega), val_main_v14_apply]
    refine congrArg _ (Glue.ix2_ext ?_ ?_)
    · show _ = r.val; simp only [ix2] <;> try omega
    · show _ = src j.val; unfold src; simp only [ix2]; split_ifs <;> omega
  by_cases h1 : j.val < 13312
  · refine (Glue.col _ _ 1 (by show 1 < 9; decide) (val_main_v17 (F := Ideal) X G W) rfl 8192 rfl r j ⟨j.val - 8192, by omega⟩ (by simp only; omega)).trans ?_
    rw [if_pos (by omega), val_main_v17_apply]
    refine congrArg _ (Glue.ix2_ext ?_ ?_)
    · show _ = r.val; simp only [ix2] <;> try omega
    · show _ = src j.val; unfold src; simp only [ix2]; split_ifs <;> omega
  by_cases h2 : j.val < 16384
  · refine (Glue.col _ _ 2 (by show 2 < 9; decide) (val_main_v18 (F := Ideal) X G W) rfl 13312 rfl r j ⟨j.val - 13312, by omega⟩ (by simp only; omega)).trans ?_
    rw [if_pos (by omega), val_main_v18_apply]
    refine congrArg _ (Glue.ix2_ext ?_ ?_)
    · show _ = r.val; simp only [ix2] <;> try omega
    · show _ = src j.val; unfold src; simp only [ix2]; split_ifs <;> omega
  by_cases h3 : j.val < 17408
  · refine (Glue.col _ _ 3 (by show 3 < 9; decide) (val_main_v19 (F := Ideal) X G W) rfl 16384 rfl r j ⟨j.val - 16384, by omega⟩ (by simp only; omega)).trans ?_
    rw [if_pos (by omega), val_main_v19_apply, val_main_v15_apply]
    refine congrArg _ (Glue.ix2_ext ?_ ?_)
    · show _ = r.val; simp only [ix2] <;> try omega
    · show _ = src j.val; unfold src; simp only [ix2]; split_ifs <;> omega
  by_cases h4 : j.val < 18432
  · refine (Glue.col _ _ 4 (by show 4 < 9; decide) (val_main_v26 (F := Ideal) X G W) rfl 17408 rfl r j ⟨j.val - 17408, by omega⟩ (by simp only; omega)).trans ?_
    rw [if_pos (by omega), val_main_v26_apply, val_main_v25_apply, val_main_v24_apply, val_main_v22_apply, val_main_v16_apply]
    refine congrArg _ (Glue.ix2_ext ?_ ?_)
    · exact transposed_row r.val (j.val - 17408) (by omega)
    · refine (transposed_col r.val (j.val - 17408) (by omega)).trans ?_
      show _ = src j.val; unfold src; split_ifs <;> omega
  by_cases h5 : j.val < 19968
  · refine (Glue.col _ _ 5 (by show 5 < 9; decide) (val_main_v20 (F := Ideal) X G W) rfl 18432 rfl r j ⟨j.val - 18432, by omega⟩ (by simp only; omega)).trans ?_
    rw [if_pos (by omega), val_main_v20_apply, val_main_v15_apply]
    refine congrArg _ (Glue.ix2_ext ?_ ?_)
    · show _ = r.val; simp only [ix2] <;> try omega
    · show _ = src j.val; unfold src; simp only [ix2]; split_ifs <;> omega
  by_cases h6 : j.val < 20480
  · refine (Glue.col _ _ 6 (by show 6 < 9; decide) (val_main_v23 (F := Ideal) X G W) rfl 19968 rfl r j ⟨j.val - 19968, by omega⟩ (by simp only; omega)).trans ?_
    rw [if_pos (by omega), val_main_v23_apply, val_main_v16_apply]
    refine congrArg _ (Glue.ix2_ext ?_ ?_)
    · show _ = r.val; simp only [ix2] <;> try omega
    · show _ = src j.val; unfold src; simp only [ix2]; split_ifs <;> omega
  by_cases h7 : j.val < 20512
  · refine (Glue.col _ _ 7 (by show 7 < 9; decide) (val_main_v21 (F := Ideal) X G W) rfl 20480 rfl r j ⟨j.val - 20480, by omega⟩ (by simp only; omega)).trans ?_
    rw [if_pos (by omega), val_main_v21_apply, val_main_v15_apply]
    refine congrArg _ (Glue.ix2_ext ?_ ?_)
    · show _ = r.val; simp only [ix2] <;> try omega
    · show _ = src j.val; unfold src; simp only [ix2]; split_ifs <;> omega
  rw [if_neg (by omega)]
  refine (Glue.col _ _ 8 (by show 8 < 9; decide) (val_main_v27 (F := Ideal)) rfl 20512 rfl r j ⟨j.val - 20512, by omega⟩ (by simp only; omega)).trans ?_
  pointwise [val_main_v27, val_main_cst_2]

variable (m : (ℓ : Loc nD τ sig) → Buf (Elt Ideal) ℓ)

theorem packed_block (c : Dev nD) (t : Fin cfg0.N) (x : S2048x1024.Idx) :
    iblk m c 2 t x = pack (m ((c : Thread nD τ).loc main_arg2)) (((cfg0.win 2).blk t).view.emb x) := by
  rw [← V_main_v27]
  rfl

theorem point (c : Dev nD) (t : Fin cfg0.N) (y : S1024x1024.Idx) :
    k0_pay2 (F := Ideal) (k0_pay1 (iblk m c 0 t) (iblk m c 1 t)) (iblk m c 2 t) y
    = val_main_v28 (F := Ideal) (m ((c : Thread nD τ).loc main_arg0)) (m ((c : Thread nD τ).loc main_arg1))
      (m ((c : Thread nD τ).loc main_arg2)) (((cfg0.win 3).blk t).view.emb y) := by
  have h0 : (((cfg0.win 3).blk t).view.emb y 0).val = t.val / 21 * 1024 + (y 0).val := by
    blk_simp [idx t]
  have h1 : (((cfg0.win 3).blk t).view.emb y 1).val = t.val % 21 * 1024 + (y 1).val := by
    blk_simp [idx t]
  obtain ⟨r, j, e, hr, hj⟩ : ∃ (r : Fin 16384) (j : Fin 21504), ((cfg0.win 3).blk t).view.emb y = ix2 r j
      ∧ r.val = t.val / 21 * 1024 + (y 0).val ∧ j.val = t.val % 21 * 1024 + (y 1).val :=
    ⟨_, _, Glue.ix2_ext rfl rfl, h0, h1⟩
  have el : ∀ k : Fin 2048, k0_pay1 (F := Ideal) (iblk m c 0 t) (iblk m c 1 t) (ix2 (y 0) k)
      = val_main_v12 (F := Ideal) (m ((c : Thread nD τ).loc main_arg0)) (m ((c : Thread nD τ).loc main_arg1))
        (ix2 r k) := fun k => by
    refine (row_at m c t (ix2 (y 0) k)).trans (congrArg _ (Glue.ix2_ext ?_ ?_))
    · blk_simp [idx t]; omega
    · blk_simp [idx t]
  have er : ∀ k : Fin 2048, iblk m c 2 t (ix2 k (y 1)) = pack (m ((c : Thread nD τ).loc main_arg2)) (ix2 k j) :=
    fun k => by
      refine (packed_block m c t (ix2 k (y 1))).trans (congrArg _ (Glue.ix2_ext ?_ ?_))
      · blk_simp [idx t]
      · blk_simp [idx t]; omega
  rw [e, ref_at, val_main_v13_apply]
  pointwise [k0_pay2]
  simp only [el, er, pack_at]
  split_ifs with h
  · refine Finset.sum_congr rfl fun k _ => congrArg₂ _ (congrArg _ ?_) (congrArg _ ?_)
    · exact (Glue.ix2_ext rfl rfl).symm
    · exact (Glue.ix2_ext rfl rfl).symm
  · simp only [mul_zero, Finset.sum_const_zero]

theorem final (c : Dev nD) : (dats m 0 c).arrAt 3 (cfgs 0).N
    = val_main_v28 (F := Ideal) (m ((c : Thread nD τ).loc main_arg0)) (m ((c : Thread nD τ).loc main_arg1))
      (m ((c : Thread nD τ).loc main_arg2)) := by
  refine (dats m 0 c).arrAt_eq_of_covers 3 _ (by decide +kernel) fun t _ y => ?_
  blk_simp
  rw [after0_3, stored]
  exact point m c t y

end Cert.ProjIdeal.Own

end
-- ==== Proof.MergePack.lean ====
module

public import proofs.«01_k».proof.Proof.Gen.MergeIdeal.Value
public import proofs.«01_k».proof.Proof.Gen.MergeRefIdeal.Read
public import proofs.«01_k».proof.Proof.Cat
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeIdeal.Own

open Cert.MergeIdeal Cert.MergeIdeal.Gen

variable (m : (ℓ : Loc nD τ sig) → Buf (Elt Ideal) ℓ)

/-- One of the four weight matrices. -/
abbrev mat1 (W : FVec Ideal S4x1024x2048 .f32) : FVec Ideal S1024x2048 .f32 :=
  shapeCast S1024x2048 (extractStridedSlice S1x1024x2048 ![1, 0, 0] W slices_S4x1024x2048_S1x1024x2048_1_0_0)
    shapeCasts_S1x1024x2048_S1024x2048

/-- The attention's weights, their rows in the order of the attention's columns. -/
def rows1 (W : FVec Ideal S4x1024x2048 .f32) : FVec Ideal S1024x2048 .f32 :=
  concatenate S1024x2048 0
    [⟨S64x2048, extractStridedSlice S64x2048 ![0, 0] (mat1 W) slices_S1024x2048_S64x2048_0_0⟩,
      ⟨S64x2048, extractStridedSlice S64x2048 ![256, 0] (mat1 W) slices_S1024x2048_S64x2048_256_0⟩,
      ⟨S64x2048, extractStridedSlice S64x2048 ![64, 0] (mat1 W) slices_S1024x2048_S64x2048_64_0⟩,
      ⟨S64x2048, extractStridedSlice S64x2048 ![320, 0] (mat1 W) slices_S1024x2048_S64x2048_320_0⟩,
      ⟨S64x2048, extractStridedSlice S64x2048 ![128, 0] (mat1 W) slices_S1024x2048_S64x2048_128_0⟩,
      ⟨S64x2048, extractStridedSlice S64x2048 ![384, 0] (mat1 W) slices_S1024x2048_S64x2048_384_0⟩,
      ⟨S64x2048, extractStridedSlice S64x2048 ![192, 0] (mat1 W) slices_S1024x2048_S64x2048_192_0⟩,
      ⟨S64x2048, extractStridedSlice S64x2048 ![448, 0] (mat1 W) slices_S1024x2048_S64x2048_448_0⟩,
      ⟨S64x2048, extractStridedSlice S64x2048 ![512, 0] (mat1 W) slices_S1024x2048_S64x2048_512_0⟩,
      ⟨S64x2048, extractStridedSlice S64x2048 ![768, 0] (mat1 W) slices_S1024x2048_S64x2048_768_0⟩,
      ⟨S64x2048, extractStridedSlice S64x2048 ![576, 0] (mat1 W) slices_S1024x2048_S64x2048_576_0⟩,
      ⟨S64x2048, extractStridedSlice S64x2048 ![832, 0] (mat1 W) slices_S1024x2048_S64x2048_832_0⟩,
      ⟨S64x2048, extractStridedSlice S64x2048 ![640, 0] (mat1 W) slices_S1024x2048_S64x2048_640_0⟩,
      ⟨S64x2048, extractStridedSlice S64x2048 ![896, 0] (mat1 W) slices_S1024x2048_S64x2048_896_0⟩,
      ⟨S64x2048, extractStridedSlice S64x2048 ![704, 0] (mat1 W) slices_S1024x2048_S64x2048_704_0⟩,
      ⟨S64x2048, extractStridedSlice S64x2048 ![960, 0] (mat1 W) slices_S1024x2048_S64x2048_960_0⟩] concatenates_S64x2048_S64x2048_S64x2048_S64x2048_S64x2048_S64x2048_S64x2048_S64x2048_S64x2048_S64x2048_S64x2048_S64x2048_S64x2048_S64x2048_S64x2048_S64x2048_S1024x2048_d0

/-- The four weight matrices stacked. -/
def stack (W : FVec Ideal S4x1024x2048 .f32) : FVec Ideal S4x1024x2048 .bf16 :=
  truncf .bf16 (concatenate S4x1024x2048 0
    [⟨S1x1024x2048, broadcastInDim S1x1024x2048 ![1, 2] bcast_S1024x2048_S1x1024x2048_1_2 (shapeCast S1024x2048 (extractStridedSlice S1x1024x2048 ![0, 0, 0] W slices_S4x1024x2048_S1x1024x2048_0_0_0)
        shapeCasts_S1x1024x2048_S1024x2048)⟩,
      ⟨S1x1024x2048, broadcastInDim S1x1024x2048 ![1, 2] bcast_S1024x2048_S1x1024x2048_1_2 (rows1 W)⟩,
      ⟨S1x1024x2048, broadcastInDim S1x1024x2048 ![1, 2] bcast_S1024x2048_S1x1024x2048_1_2 (shapeCast S1024x2048 (extractStridedSlice S1x1024x2048 ![2, 0, 0] W slices_S4x1024x2048_S1x1024x2048_2_0_0)
        shapeCasts_S1x1024x2048_S1024x2048)⟩,
      ⟨S1x1024x2048, broadcastInDim S1x1024x2048 ![1, 2] bcast_S1024x2048_S1x1024x2048_1_2 (shapeCast S1024x2048 (extractStridedSlice S1x1024x2048 ![3, 0, 0] W slices_S4x1024x2048_S1x1024x2048_3_0_0)
        shapeCasts_S1x1024x2048_S1024x2048)⟩]
    concatenates_S1x1024x2048_S1x1024x2048_S1x1024x2048_S1x1024x2048_S4x1024x2048_d0) bitsLt_bf16_f32

/-- The row of the checkpoint's matrix that a row of the reordered one is. -/
def src (k : ℕ) : ℕ := k / 512 * 512 + k / 64 % 2 * 256 + k / 128 % 4 * 64 + k % 64

theorem src_lt (k : Fin 1024) : src k.val < 1024 := by
  unfold src; omega

set_option maxHeartbeats 4000000 in
theorem V_main_v60 (c : Dev nD) : V m c main_v60 = stack (m ((c : Thread nD τ).loc main_arg4)) := by
  unfold_abbrev_sides
  simp only [StableHlo.after_cons, StableHlo.after_nil]
  after_results_simp <;> (try dsimp only [Matrix.cons_val]) <;> (try after_results_simp) <;> rfl

/-- A slice of rows among matrices one above the other, read at an entry of its own rows. -/
theorem row_slice (xs : List ((s : Shape) × FVec Ideal s .f32))
    (h : Shape.Concatenates (xs.map (·.1)) ⟨2, ![1024, 2048]⟩ 0) (W : FVec Ideal S1024x2048 .f32) {off : ℕ}
    (hs : S1024x2048.Slices ![off, 0] ⟨2, ![64, 2048]⟩) (i : ℕ) (hi : i < xs.length)
    (hx : xs[i] = ⟨⟨2, ![64, 2048]⟩, extractStridedSlice ⟨2, ![64, 2048]⟩ ![off, 0] W hs⟩) (pre : ℕ)
    (hpre : (((xs.take i).map (·.1)).map fun s => if h : s.rank = 2 then s.size (Fin.cast h.symm 0) else 0).sum = pre)
    (k : Fin 2048) (j : Fin 1024) (l : Fin 1024) (h1 : pre ≤ j.val) (h2 : j.val < pre + 64)
    (hl : l.val = off + (j.val - pre)) :
    concatenate ⟨2, ![1024, 2048]⟩ 0 xs h (ix2 j k) = W (ix2 l k) :=
  (Glue.row xs h i hi _ hx pre hpre k j ⟨j.val - pre, by omega⟩ (by simp only; omega)).trans
    (Glue.slice_row W hs k _ l (by simp only; omega))

set_option maxHeartbeats 16000000 in
theorem rows1_at (W : FVec Ideal S4x1024x2048 .f32) (k : Fin 2048) (j : Fin 1024) :
    rows1 W (ix2 j k) = mat1 W (ix2 ⟨src j.val, src_lt j⟩ k) := by
  unfold rows1
  by_cases h0 : j.val < 64
  · exact row_slice _ _ (mat1 W) slices_S1024x2048_S64x2048_0_0 0 (by show 0 < 16; decide) rfl 0 rfl k j _ (by omega) (by omega) (by simp only [src]; omega)
  by_cases h1 : j.val < 128
  · exact row_slice _ _ (mat1 W) slices_S1024x2048_S64x2048_256_0 1 (by show 1 < 16; decide) rfl 64 rfl k j _ (by omega) (by omega) (by simp only [src]; omega)
  by_cases h2 : j.val < 192
  · exact row_slice _ _ (mat1 W) slices_S1024x2048_S64x2048_64_0 2 (by show 2 < 16; decide) rfl 128 rfl k j _ (by omega) (by omega) (by simp only [src]; omega)
  by_cases h3 : j.val < 256
  · exact row_slice _ _ (mat1 W) slices_S1024x2048_S64x2048_320_0 3 (by show 3 < 16; decide) rfl 192 rfl k j _ (by omega) (by omega) (by simp only [src]; omega)
  by_cases h4 : j.val < 320
  · exact row_slice _ _ (mat1 W) slices_S1024x2048_S64x2048_128_0 4 (by show 4 < 16; decide) rfl 256 rfl k j _ (by omega) (by omega) (by simp only [src]; omega)
  by_cases h5 : j.val < 384
  · exact row_slice _ _ (mat1 W) slices_S1024x2048_S64x2048_384_0 5 (by show 5 < 16; decide) rfl 320 rfl k j _ (by omega) (by omega) (by simp only [src]; omega)
  by_cases h6 : j.val < 448
  · exact row_slice _ _ (mat1 W) slices_S1024x2048_S64x2048_192_0 6 (by show 6 < 16; decide) rfl 384 rfl k j _ (by omega) (by omega) (by simp only [src]; omega)
  by_cases h7 : j.val < 512
  · exact row_slice _ _ (mat1 W) slices_S1024x2048_S64x2048_448_0 7 (by show 7 < 16; decide) rfl 448 rfl k j _ (by omega) (by omega) (by simp only [src]; omega)
  by_cases h8 : j.val < 576
  · exact row_slice _ _ (mat1 W) slices_S1024x2048_S64x2048_512_0 8 (by show 8 < 16; decide) rfl 512 rfl k j _ (by omega) (by omega) (by simp only [src]; omega)
  by_cases h9 : j.val < 640
  · exact row_slice _ _ (mat1 W) slices_S1024x2048_S64x2048_768_0 9 (by show 9 < 16; decide) rfl 576 rfl k j _ (by omega) (by omega) (by simp only [src]; omega)
  by_cases h10 : j.val < 704
  · exact row_slice _ _ (mat1 W) slices_S1024x2048_S64x2048_576_0 10 (by show 10 < 16; decide) rfl 640 rfl k j _ (by omega) (by omega) (by simp only [src]; omega)
  by_cases h11 : j.val < 768
  · exact row_slice _ _ (mat1 W) slices_S1024x2048_S64x2048_832_0 11 (by show 11 < 16; decide) rfl 704 rfl k j _ (by omega) (by omega) (by simp only [src]; omega)
  by_cases h12 : j.val < 832
  · exact row_slice _ _ (mat1 W) slices_S1024x2048_S64x2048_640_0 12 (by show 12 < 16; decide) rfl 768 rfl k j _ (by omega) (by omega) (by simp only [src]; omega)
  by_cases h13 : j.val < 896
  · exact row_slice _ _ (mat1 W) slices_S1024x2048_S64x2048_896_0 13 (by show 13 < 16; decide) rfl 832 rfl k j _ (by omega) (by omega) (by simp only [src]; omega)
  by_cases h14 : j.val < 960
  · exact row_slice _ _ (mat1 W) slices_S1024x2048_S64x2048_704_0 14 (by show 14 < 16; decide) rfl 896 rfl k j _ (by omega) (by omega) (by simp only [src]; omega)
  exact row_slice _ _ (mat1 W) slices_S1024x2048_S64x2048_960_0 15 (by show 15 < 16; decide) rfl 960 rfl k j _ (by omega) (by omega) (by simp only [src]; omega)

theorem mat1_at (W : FVec Ideal S4x1024x2048 .f32) (k : Fin 2048) (j : Fin 1024) :
    mat1 W (ix2 j k) = W (ix3 1 j k) := by
  pointwise [mat1]

/-- The stacked weights at an entry. -/
theorem stack0 (W : FVec Ideal S4x1024x2048 .f32) (j : Fin 1024) (d : Fin 2048) :
    stack W (ix3 0 j d) = W (ix3 0 j d) := by
  pointwise [stack]

theorem stack1 (W : FVec Ideal S4x1024x2048 .f32) (j : Fin 1024) (d : Fin 2048) :
    stack W (ix3 1 j d) = W (ix3 1 ⟨src j.val, src_lt j⟩ d) := by
  rw [← mat1_at W d ⟨src j.val, src_lt j⟩, ← rows1_at W d j]
  pointwise [stack]

theorem stack2 (W : FVec Ideal S4x1024x2048 .f32) (j : Fin 1024) (d : Fin 2048) :
    stack W (ix3 2 j d) = W (ix3 2 j d) := by
  pointwise [stack]

theorem stack3 (W : FVec Ideal S4x1024x2048 .f32) (j : Fin 1024) (d : Fin 2048) :
    stack W (ix3 3 j d) = W (ix3 3 j d) := by
  pointwise [stack]

end Cert.MergeIdeal.Own

end
-- ==== Proof.MergeValue.lean ====
module

public import proofs.«01_k».proof.Proof.Gen.MergeIdeal.Value
public import proofs.«01_k».proof.Proof.Gen.MergeRefIdeal.Read
public import proofs.«01_k».proof.Proof.Cat
public import proofs.«01_k».proof.Proof.MergePack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeIdeal.Own

open Cert.MergeIdeal Cert.MergeIdeal.Gen
open Cert.MergeRefIdeal.Read

variable (m : (ℓ : Loc nD τ sig) → Buf (Elt Ideal) ℓ)

/-- The column of the attention's output that a column in the checkpoint's order is. -/
def perm (k : ℕ) : ℕ := k / 512 * 512 + k / 64 % 4 * 128 + k / 256 % 2 * 64 + k % 64

theorem perm_lt (k : Fin 1024) : perm k.val < 1024 := by
  unfold perm; omega

theorem perm_src : ∀ k : Fin 1024, perm (src k.val) = k.val := by decide +kernel

theorem src_perm : ∀ k : Fin 1024, src (perm k.val) = k.val := by decide +kernel

/-- The two orders of the columns undo each other. -/
def order : Fin 1024 ≃ Fin 1024 where
  toFun k := ⟨src k.val, src_lt k⟩
  invFun k := ⟨perm k.val, perm_lt k⟩
  left_inv k := Fin.ext (perm_src k)
  right_inv k := Fin.ext (src_perm k)

theorem gate_at (P : FVec Ideal S16384x21504 .f32) (r : Fin 16384) (b : Fin 4) (d : Fin 2048) :
    val_main_v19 (F := Ideal) P (ix3 r b d)
      = Ideal.logistic (P (ix2 r ⟨b.val * 2048 + d.val, by omega⟩) : EReal) := by
  have e : val_main_v13 (F := Ideal) P (ix3 r b d) = P (ix2 r ⟨b.val * 2048 + d.val, by omega⟩) := by
    rw [val_main_v13_apply, val_main_v12_apply]
    refine congrArg _ (Glue.ix2_ext ?_ ?_)
    · show ((r.val * 4 + b.val) * 2048 + d.val) / 8192 = r.val; omega
    · show ((r.val * 4 + b.val) * 2048 + d.val) % 8192 = b.val * 2048 + d.val; omega
  pointwise [val_main_v19, val_main_v18, val_main_v17, val_main_v16, val_main_v15, val_main_v14,
    val_main_cst, val_main_cst_0]
  rw [e]
  rfl

theorem heads_row (r p : ℕ) (hp : p < 1024) :
    (((((r * 1024 + p) / 1024 * 2 + (r * 1024 + p) / 512 % 2) * 4 + (r * 1024 + p) / 64 % 4) * 2
      + (r * 1024 + p) / 256 % 2) * 64 + (r * 1024 + p) % 64) / 1024 = r := by
  have h1 : (r * 1024 + p) / 1024 = r := by omega
  have h2 : (r * 1024 + p) / 512 % 2 = p / 512 := by omega
  have h3 : (r * 1024 + p) / 64 % 4 = p / 64 % 4 := by omega
  have h4 : (r * 1024 + p) / 256 % 2 = p / 256 % 2 := by omega
  have h5 : (r * 1024 + p) % 64 = p % 64 := by omega
  rw [h1, h2, h3, h4, h5]; omega

theorem heads_col (r p : ℕ) (hp : p < 1024) :
    (((((r * 1024 + p) / 1024 * 2 + (r * 1024 + p) / 512 % 2) * 4 + (r * 1024 + p) / 64 % 4) * 2
      + (r * 1024 + p) / 256 % 2) * 64 + (r * 1024 + p) % 64) % 1024 = perm p := by
  have h1 : (r * 1024 + p) / 1024 = r := by omega
  have h2 : (r * 1024 + p) / 512 % 2 = p / 512 := by omega
  have h3 : (r * 1024 + p) / 64 % 4 = p / 64 % 4 := by omega
  have h4 : (r * 1024 + p) / 256 % 2 = p / 256 % 2 := by omega
  have h5 : (r * 1024 + p) % 64 = p % 64 := by omega
  rw [h1, h2, h3, h4, h5]; unfold perm; omega

theorem attn_at (Y : FVec Ideal S16384x1024 .bf16) (r : Fin 16384) (k : Fin 1024) :
    val_main_v3 (F := Ideal) Y (ix2 r k) = Y (ix2 r ⟨perm k.val, perm_lt k⟩) := by
  rw [val_main_v3_apply, val_main_v2_apply, val_main_v1_apply]
  pointwise [val_main_v0]
  refine congrArg _ (Glue.ix2_ext ?_ ?_)
  · exact heads_row r.val k.val k.isLt
  · exact heads_col r.val k.val k.isLt

/-- One branch's product at an entry, the attention's over its own order of columns. -/
theorem branch_at (A B C : FVec Ideal S16384x1024 .bf16) (D : FVec Ideal S16384x1024 .f32)
    (W : FVec Ideal S4x1024x2048 .f32) (r : Fin 16384) (d : Fin 2048) :
    (val_main_v11 (F := Ideal) A B C D W (ix3 0 r d) = ∑ k : Fin 1024, (A (ix2 r k) * W (ix3 0 k d) : EReal))
    ∧ (val_main_v11 (F := Ideal) A B C D W (ix3 1 r d)
        = ∑ k : Fin 1024, (B (ix2 r k) * W (ix3 1 ⟨src k.val, src_lt k⟩ d) : EReal))
    ∧ (val_main_v11 (F := Ideal) A B C D W (ix3 2 r d) = ∑ k : Fin 1024, (C (ix2 r k) * W (ix3 2 k d) : EReal))
    ∧ (val_main_v11 (F := Ideal) A B C D W (ix3 3 r d) = ∑ k : Fin 1024, (D (ix2 r k) * W (ix3 3 k d) : EReal)) := by
  have er (b : Fin 4) (k : Fin 1024) : ridx_main_v11 (ix3 b r d) k = ix3 b k d :=
    funext fun a => match a with | ⟨0, _⟩ => rfl | ⟨1, _⟩ => rfl | ⟨2, _⟩ => rfl
  have el (b : Fin 4) (k : Fin 1024) : lidx_main_v11 (ix3 b r d) k = ix3 b r k :=
    funext fun a => match a with | ⟨0, _⟩ => rfl | ⟨1, _⟩ => rfl | ⟨2, _⟩ => rfl
  have e0 (k : Fin 1024) : val_main_v10 (F := Ideal) A B C D (ix3 0 r k) = A (ix2 r k) := by
    pointwise [val_main_v10, val_main_v6, val_main_v4]
  have e1 (k : Fin 1024) : val_main_v10 (F := Ideal) A B C D (ix3 1 r k) = val_main_v3 (F := Ideal) B (ix2 r k) := by
    pointwise [val_main_v10, val_main_v7]
  have e2 (k : Fin 1024) : val_main_v10 (F := Ideal) A B C D (ix3 2 r k) = C (ix2 r k) := by
    pointwise [val_main_v10, val_main_v8, val_main_v5]
  have e3 (k : Fin 1024) : val_main_v10 (F := Ideal) A B C D (ix3 3 r k) = D (ix2 r k) := by
    pointwise [val_main_v10, val_main_v9]
  refine ⟨?_, ?_, ?_, ?_⟩
  · rw [val_main_v11_apply]; simp only [er, el, e0]
  · rw [val_main_v11_apply]; simp only [er, el, e1, attn_at]
    rw [← Equiv.sum_comp order]
    refine Finset.sum_congr rfl fun k _ => ?_
    have h : (⟨perm (order k).val, perm_lt (order k)⟩ : Fin 1024) = k := Fin.ext (perm_src k)
    rw [h]
    rfl
  · rw [val_main_v11_apply]; simp only [er, el, e2]
  · rw [val_main_v11_apply]; simp only [er, el, e3]

/-- The gated sum of the branches at an entry. -/
theorem ref_at (A B C : FVec Ideal S16384x1024 .bf16) (D : FVec Ideal S16384x1024 .f32)
    (W : FVec Ideal S4x1024x2048 .f32) (P : FVec Ideal S16384x21504 .f32) (r : Fin 16384) (d : Fin 2048) :
    val_main_v21 (F := Ideal) A B C D W P (ix2 r d)
    = (Ideal.logistic (P (ix2 r ⟨d.val, by omega⟩) : EReal) * (∑ k : Fin 1024, A (ix2 r k) * W (ix3 0 k d))
      + Ideal.logistic (P (ix2 r ⟨2048 + d.val, by omega⟩) : EReal)
        * (∑ k : Fin 1024, B (ix2 r k) * W (ix3 1 ⟨src k.val, src_lt k⟩ d))
      + Ideal.logistic (P (ix2 r ⟨4096 + d.val, by omega⟩) : EReal) * (∑ k : Fin 1024, C (ix2 r k) * W (ix3 2 k d))
      + Ideal.logistic (P (ix2 r ⟨6144 + d.val, by omega⟩) : EReal) * (∑ k : Fin 1024, D (ix2 r k) * W (ix3 3 k d)) : EReal) := by
  have er (b : Fin 4) : ridx_main_v20 (ix2 r d) b = ix3 b r d :=
    funext fun a => match a with | ⟨0, _⟩ => rfl | ⟨1, _⟩ => rfl | ⟨2, _⟩ => rfl
  have el (b : Fin 4) : lidx_main_v20 (ix2 r d) b = ix3 r b d :=
    funext fun a => match a with | ⟨0, _⟩ => rfl | ⟨1, _⟩ => rfl | ⟨2, _⟩ => rfl
  obtain ⟨b0, b1, b2, b3⟩ := branch_at A B C D W r d
  have e : val_main_v21 (F := Ideal) A B C D W P (ix2 r d) = val_main_v20 (F := Ideal) A B C D W P (ix2 r d) := rfl
  rw [e, val_main_v20_apply, Fin.sum_univ_four]
  simp only [er, el, gate_at]
  rw [b0, b1, b2, b3]
  simp

theorem idx : ∀ t : Fin cfg0.N, win0_0.index t = ![t.val / 4, 0] ∧ win0_1.index t = ![t.val / 4, 0]
    ∧ win0_2.index t = ![t.val / 4, 0] ∧ win0_3.index t = ![t.val / 4, 0] ∧ win0_4.index t = ![0, 0, t.val % 4]
    ∧ win0_5.index t = ![t.val / 4, t.val % 4] ∧ win0_6.index t = ![t.val / 4, 4 + t.val % 4]
    ∧ win0_7.index t = ![t.val / 4, 8 + t.val % 4] ∧ win0_8.index t = ![t.val / 4, 12 + t.val % 4]
    ∧ win0_9.index t = ![t.val / 4, t.val % 4] :=
  (by decide +kernel : ∀ t : Fin grid0.N, _)

theorem packed_block (c : Dev nD) (t : Fin cfg0.N) (x : S4x1024x512.Idx) :
    iblk m c 4 t x = stack (m ((c : Thread nD τ).loc main_arg4)) (((cfg0.win 4).blk t).view.emb x) := by
  rw [← V_main_v60]
  rfl

set_option maxHeartbeats 4000000 in
theorem final (c : Dev nD) : (dats m 0 c).arrAt 9 (cfgs 0).N
    = val_main_v21 (F := Ideal) (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  refine (dats m 0 c).arrAt_eq_of_covers 9 _ (by decide +kernel) fun t _ y => ?_
  have h0 : (((cfg0.win 9).blk t).view.emb y 0).val = t.val / 4 * 1024 + (y 0).val := by
    blk_simp [idx t]
  have h1 : (((cfg0.win 9).blk t).view.emb y 1).val = t.val % 4 * 512 + (y 1).val := by
    blk_simp [idx t]
  obtain ⟨r, j, e, hr, hj⟩ : ∃ (r : Fin 16384) (j : Fin 2048), ((cfg0.win 9).blk t).view.emb y = ix2 r j
      ∧ r.val = t.val / 4 * 1024 + (y 0).val ∧ j.val = t.val % 4 * 512 + (y 1).val :=
    ⟨_, _, Glue.ix2_ext rfl rfl, h0, h1⟩
  blk_simp
  rw [after0_9]; frame_out
  rw [e, ref_at]
  pointwise [k0_pay1, k0_pay2, k0_pay3]
  have w4 (b : Fin 4) (k : Fin 1024) : iblk m c 4 t (ix3 b k (y 1))
      = stack (m ((c : Thread nD τ).loc main_arg4)) (ix3 b k j) := by
    refine (packed_block m c t (ix3 b k (y 1))).trans (congrArg _ (funext fun a => Fin.ext ?_))
    match a with
    | ⟨0, _⟩ => blk_simp [idx t]
    | ⟨1, _⟩ => blk_simp [idx t]
    | ⟨2, _⟩ => blk_simp [idx t]; omega
  have w0 (k : Fin 1024) : iblk m c 0 t (ix2 (y 0) k) = m ((c : Thread nD τ).loc main_arg0) (ix2 r k) := by
    refine congrArg (m ((c : Thread nD τ).loc main_arg0)) (Glue.ix2_ext ?_ ?_)
    · blk_simp [idx t]; omega
    · blk_simp [idx t]
  have w1 (k : Fin 1024) : iblk m c 1 t (ix2 (y 0) k) = m ((c : Thread nD τ).loc main_arg1) (ix2 r k) := by
    refine congrArg (m ((c : Thread nD τ).loc main_arg1)) (Glue.ix2_ext ?_ ?_)
    · blk_simp [idx t]; omega
    · blk_simp [idx t]
  have w2 (k : Fin 1024) : iblk m c 2 t (ix2 (y 0) k) = m ((c : Thread nD τ).loc main_arg2) (ix2 r k) := by
    refine congrArg (m ((c : Thread nD τ).loc main_arg2)) (Glue.ix2_ext ?_ ?_)
    · blk_simp [idx t]; omega
    · blk_simp [idx t]
  have w3 (k : Fin 1024) : iblk m c 3 t (ix2 (y 0) k) = m ((c : Thread nD τ).loc main_arg3) (ix2 r k) := by
    refine congrArg (m ((c : Thread nD τ).loc main_arg3)) (Glue.ix2_ext ?_ ?_)
    · blk_simp [idx t]; omega
    · blk_simp [idx t]
  have g0 : iblk m c 5 t y = m ((c : Thread nD τ).loc main_arg5) (ix2 r ⟨j.val, by omega⟩) := by
    refine congrArg (m ((c : Thread nD τ).loc main_arg5)) (Glue.ix2_ext ?_ ?_)
    · blk_simp [idx t]; omega
    · show _ = j.val; blk_simp [idx t]; omega
  have g1 : iblk m c 6 t y = m ((c : Thread nD τ).loc main_arg5) (ix2 r ⟨2048 + j.val, by omega⟩) := by
    refine congrArg (m ((c : Thread nD τ).loc main_arg5)) (Glue.ix2_ext ?_ ?_)
    · blk_simp [idx t]; omega
    · show _ = 2048 + j.val; blk_simp [idx t]; omega
  have g2 : iblk m c 7 t y = m ((c : Thread nD τ).loc main_arg5) (ix2 r ⟨4096 + j.val, by omega⟩) := by
    refine congrArg (m ((c : Thread nD τ).loc main_arg5)) (Glue.ix2_ext ?_ ?_)
    · blk_simp [idx t]; omega
    · show _ = 4096 + j.val; blk_simp [idx t]; omega
  have g3 : iblk m c 8 t y = m ((c : Thread nD τ).loc main_arg5) (ix2 r ⟨6144 + j.val, by omega⟩) := by
    refine congrArg (m ((c : Thread nD τ).loc main_arg5)) (Glue.ix2_ext ?_ ?_)
    · blk_simp [idx t]; omega
    · show _ = 6144 + j.val; blk_simp [idx t]; omega
  simp only [w0, w1, w2, w3, w4, g0, g1, g2, g3, stack0, stack1, stack2, stack3]

end Cert.MergeIdeal.Own

end
-- ==== Proof.RopeValue.lean ====
module

public import proofs.«01_k».proof.Proof.Gen.RopeIdeal.Value
public import proofs.«01_k».proof.Proof.Gen.RopeRefIdeal.Read
public import proofs.«01_k».proof.Proof.Cat
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RopeIdeal.Own

open Cert.RopeIdeal Cert.RopeIdeal.Gen
open Cert.RopeRefIdeal.Read

variable (m : (ℓ : Loc nD τ sig) → Buf (Elt Ideal) ℓ)

theorem lanes : ∀ l : Fin 128, (k0_pay4 (ix2 0 l) = if l.val % 64 < 32 then 1#1 else 0#1) := by
  decide +kernel

/-- The lane whose value the rotation brings to a lane: 32 up in the lower half of a head, 32 down in the upper. -/
def mate (l : ℕ) : ℕ := if l % 64 < 32 then l + 32 else l - 32

theorem half_at (r : Fin 512) (l : Fin 128) : k0_pay4 (ix2 r l) = if l.val % 64 < 32 then 1#1 else 0#1 := by
  rw [← lanes l]
  pointwise [k0_pay4]

theorem q_out (X : Vec Ideal S1x512x1024 .f32) (K : Vec Ideal S1x512x256 .f32) (C S : Vec Ideal S512x128 .f32)
    (y : S1x512x1024.Idx) (u : Fin 1024) (l : Fin 128) (hu : u.val = mate (y 2).val) (hl : l.val = (y 2).val % 128) :
    out0_4 (F := Ideal) X K C S y
    = ((X y * C (ix2 (y 1) l) + X (ix3 0 (y 1) u) * S (ix2 (y 1) l)) * Ideal.ofBits FTy.f32 1040187392#32 : EReal) := by
  unfold_out out0_4
  canon_tiles x h
  all_goals
    (pointwise [k0_pay3, k0_pay5, k0_pay6, k0_pay7, k0_pay8, k0_pay9, k0_pay10, k0_pay11, k0_pay12, k0_pay13, half_at]
     unfold mate at hu
     by_cases hm : (x 2).val % 64 < 32
     · rw [if_pos hm]
       rw [if_pos (by omega)] at hu
       pointwise
       refine congrArg₂ (· * ·) (congrArg₂ (· + ·) (congrArg₂ (· * ·) ?_ ?_) (congrArg₂ (· * ·) ?_ ?_)) rfl <;> blk_ext
     · rw [if_neg hm]
       rw [if_neg (by omega)] at hu
       pointwise
       refine congrArg₂ (· * ·) (congrArg₂ (· + ·) (congrArg₂ (· * ·) ?_ ?_) (congrArg₂ (· * ·) ?_ ?_)) rfl <;> blk_ext)

theorem k_out (X : Vec Ideal S1x512x1024 .f32) (K : Vec Ideal S1x512x256 .f32) (C S : Vec Ideal S512x128 .f32)
    (y : S1x512x256.Idx) (u : Fin 256) (l : Fin 128) (hu : u.val = mate (y 2).val) (hl : l.val = (y 2).val % 128) :
    out0_5 (F := Ideal) X K C S y
    = (K y * C (ix2 (y 1) l) + K (ix3 0 (y 1) u) * S (ix2 (y 1) l) : EReal) := by
  unfold_out out0_5
  canon_tiles x h
  all_goals
    (pointwise [k0_pay3, k0_pay1, k0_pay2, k0_pay14, half_at]
     unfold mate at hu
     by_cases hm : (x 2).val % 64 < 32
     · rw [if_pos hm]
       rw [if_pos (by omega)] at hu
       pointwise
       refine congrArg₂ (· + ·) (congrArg₂ (· * ·) ?_ ?_) (congrArg₂ (· * ·) ?_ ?_) <;> blk_ext
     · rw [if_neg hm]
       rw [if_neg (by omega)] at hu
       pointwise
       refine congrArg₂ (· + ·) (congrArg₂ (· * ·) ?_ ?_) (congrArg₂ (· * ·) ?_ ?_) <;> blk_ext)

theorem idx : ∀ t : Fin cfg0.N, win0_0.index t = ![t.val / 4, t.val % 4, 17] ∧ win0_1.index t = ![t.val / 4, t.val % 4, 78]
    ∧ win0_2.index t = ![t.val % 4, 0] ∧ win0_3.index t = ![t.val % 4, 0]
    ∧ win0_4.index t = ![t.val / 4, t.val % 4, 0] ∧ win0_5.index t = ![t.val / 4, t.val % 4, 0] :=
  (by decide +kernel : ∀ t : Fin grid0.N, _)

theorem cos_block (c : Dev nD) (t : Fin cfg0.N) (x : S512x128.Idx) (n : Fin 2048) (d : Fin 32)
    (hn : n.val = t.val % 4 * 512 + (x 0).val) (hd : d.val = (x 1).val % 32) :
    iblk m c 2 t x = m ((c : Thread nD τ).loc main_arg1) (ix2 n d) := by
  blk_point [iblk, V, idx t]

set_option maxHeartbeats 1600000 in
theorem sin_block (c : Dev nD) (t : Fin cfg0.N) (x : S512x128.Idx) (n : Fin 2048) (d : Fin 32)
    (hn : n.val = t.val % 4 * 512 + (x 0).val) (hd : d.val = (x 1).val % 32)
    (Sn : FVec Ideal S2048x32 .f32) (hS : m ((c : Thread nD τ).loc main_arg2) = Sn) :
    iblk m c 3 t x = if (x 1).val % 64 < 32 then -(Sn (ix2 n d) : EReal) else Sn (ix2 n d) := by
  subst hS
  blk_simp [iblk, V, idx t]
  entry_read
  pointwise
  have e1 : (((View.whole main_v7).slice (win0_3.rect t)).emb x 1).val = (x 1).val := by
    blk_simp [idx t]
  have e0 : (((View.whole main_v7).slice (win0_3.rect t)).emb x 0).val = t.val % 4 * 512 + (x 0).val := by
    blk_simp [idx t]
  by_cases hm : (x 1).val % 64 < 32
  · rw [dif_pos (by rw [e1]; exact hm), if_pos hm]
    refine congrArg (fun z : EReal => -z) (congrArg (m ((c : Thread nD τ).loc main_arg2)) (Glue.ix2_ext ?_ ?_))
    · rw [hn]; exact e0
    · show _ % 64 = _
      rw [hd, e1]; omega
  · rw [dif_neg (by rw [e1]; exact hm), if_neg hm]
    refine congrArg (m ((c : Thread nD τ).loc main_arg2)) (Glue.ix2_ext ?_ ?_)
    · rw [hn]; exact e0
    · show _ % 64 - 32 = _
      rw [hd, e1]; omega

/-- A query's entry after the turn by its position, scaled. -/
theorem ref_q (P : FVec Ideal S8x2048x21504 .f32) (C S : FVec Ideal S2048x32 .f32) (b : Fin 8) (n : Fin 2048)
    (j : Fin 1024) (d : Fin 32) (hd : d.val = j.val % 32) (p u : Fin 21504) (hp : p.val = 17408 + j.val)
    (hu : u.val = 17408 + mate j.val) :
    val_main_v37 (F := Ideal) P C S (ix3 b n j)
    = ((P (ix3 b n p) * C (ix2 n d) + P (ix3 b n u)
      * (if j.val % 64 < 32 then -(S (ix2 n d) : EReal) else S (ix2 n d)))
      * Ideal.ofBits FTy.f32 1040187392#32 : EReal) := by
  have e : val_main_v37 (F := Ideal) P C S (ix3 b n j)
      = val_main_v18 (F := Ideal) P C S (ix4 b n ⟨j.val / 64, by omega⟩ ⟨j.val % 64, by omega⟩) := by
    pointwise [val_main_v37, val_main_v36]
    blk_ext
  rw [e]
  pointwise [val_main_v18, val_main_v17, val_main_cst, val_main_v16]
  refine congrArg₂ (· * ·) ?_ rfl
  unfold mate at hu
  by_cases hm : j.val % 64 < 32
  · rw [if_pos hm] at hu
    rw [dif_pos hm, if_pos hm, mul_neg, ← sub_eq_add_neg]
    pointwise [val_main_v10, val_main_v9, val_main_v8, val_main_v7, val_main_v6, val_main_v5, val_main_v4,
      val_main_v3, val_main_v2, val_main_v1, val_main_v0]
    refine congrArg₂ (· - ·) (congrArg₂ (· * ·) ?_ ?_) (congrArg₂ (· * ·) ?_ ?_) <;> blk_ext
  · rw [if_neg hm] at hu
    rw [dif_neg hm, if_neg hm]
    pointwise [val_main_v15, val_main_v14, val_main_v13, val_main_v12, val_main_v11, val_main_v5, val_main_v4,
      val_main_v3, val_main_v2, val_main_v1, val_main_v0]
    refine congrArg₂ (· + ·) (congrArg₂ (· * ·) ?_ ?_) (congrArg₂ (· * ·) ?_ ?_) <;> blk_ext

/-- A key's entry after the turn by its position. -/
theorem ref_k (P : FVec Ideal S8x2048x21504 .f32) (C S : FVec Ideal S2048x32 .f32) (b : Fin 8) (n : Fin 2048)
    (j : Fin 256) (d : Fin 32) (hd : d.val = j.val % 32) (p u : Fin 21504) (hp : p.val = 19968 + j.val)
    (hu : u.val = 19968 + mate j.val) :
    val_main_v39 (F := Ideal) P C S (ix3 b n j)
    = (P (ix3 b n p) * C (ix2 n d) + P (ix3 b n u)
      * (if j.val % 64 < 32 then -(S (ix2 n d) : EReal) else S (ix2 n d)) : EReal) := by
  have e : val_main_v39 (F := Ideal) P C S (ix3 b n j)
      = val_main_v35 (F := Ideal) P C S (ix4 b n ⟨j.val / 64, by omega⟩ ⟨j.val % 64, by omega⟩) := by
    pointwise [val_main_v39, val_main_v38]
    blk_ext
  rw [e]
  pointwise [val_main_v35]
  unfold mate at hu
  by_cases hm : j.val % 64 < 32
  · rw [if_pos hm] at hu
    rw [dif_pos hm, if_pos hm, mul_neg, ← sub_eq_add_neg]
    pointwise [val_main_v29, val_main_v28, val_main_v27, val_main_v26, val_main_v25, val_main_v24, val_main_v23,
      val_main_v22, val_main_v21, val_main_v20, val_main_v19]
    refine congrArg₂ (· - ·) (congrArg₂ (· * ·) ?_ ?_) (congrArg₂ (· * ·) ?_ ?_) <;> blk_ext
  · rw [if_neg hm] at hu
    rw [dif_neg hm, if_neg hm]
    pointwise [val_main_v34, val_main_v33, val_main_v32, val_main_v31, val_main_v30, val_main_v24, val_main_v23,
      val_main_v22, val_main_v21, val_main_v20, val_main_v19]
    refine congrArg₂ (· + ·) (congrArg₂ (· * ·) ?_ ?_) (congrArg₂ (· * ·) ?_ ?_) <;> blk_ext

theorem ix3_ext {a b c : ℕ} {x : (k : Fin 3) → Fin ((![a, b, c] : Fin 3 → ℕ) k)} {i : Fin a} {j : Fin b} {k : Fin c}
    (h0 : (x 0).val = i.val) (h1 : (x 1).val = j.val) (h2 : (x 2).val = k.val) : x = ix3 i j k := by
  funext q
  match q with
  | 0 => exact Fin.ext h0
  | 1 => exact Fin.ext h1
  | 2 => exact Fin.ext h2

theorem q_block (c : Dev nD) (t : Fin cfg0.N) (x : S1x512x1024.Idx) (b : Fin 8) (n : Fin 2048) (p : Fin 21504)
    (hb : b.val = t.val / 4) (hn : n.val = t.val % 4 * 512 + (x 1).val) (hp : p.val = 17408 + (x 2).val) :
    iblk m c 0 t x = m ((c : Thread nD τ).loc main_arg0) (ix3 b n p) := by
  blk_point [iblk, V, idx t]

theorem final_q (c : Dev nD) : (dats m 0 c).arrAt 4 (cfgs 0).N
    = val_main_v37 (F := Ideal) (m ((c : Thread nD τ).loc main_arg0)) (m ((c : Thread nD τ).loc main_arg1))
      (m ((c : Thread nD τ).loc main_arg2)) := by
  refine (dats m 0 c).arrAt_eq_of_covers 4 _ (by decide +kernel) fun t _ y => ?_
  have h0 : (((cfg0.win 4).blk t).view.emb y 0).val = t.val / 4 := by
    blk_simp [idx t]
  have h1 : (((cfg0.win 4).blk t).view.emb y 1).val = t.val % 4 * 512 + (y 1).val := by
    blk_simp [idx t]
  have h2 : (((cfg0.win 4).blk t).view.emb y 2).val = (y 2).val := by
    blk_simp [idx t]
  obtain ⟨b, n, j, e, hb, hn, hj⟩ : ∃ (b : Fin 8) (n : Fin 2048) (j : Fin 1024),
      ((cfg0.win 4).blk t).view.emb y = ix3 b n j ∧ b.val = t.val / 4 ∧ n.val = t.val % 4 * 512 + (y 1).val
      ∧ j.val = (y 2).val := ⟨_, _, _, ix3_ext rfl rfl rfl, h0, h1, h2⟩
  have y1 : (y 1).val < 512 := (y 1).isLt
  have y2 : (y 2).val < 1024 := (y 2).isLt
  have mu : mate (y 2).val < 1024 := by unfold mate; split <;> omega
  blk_simp
  rw [after0_4]
  rw [e, ref_q _ _ _ b n j ⟨j.val % 32, by omega⟩ rfl ⟨17408 + j.val, by omega⟩ ⟨17408 + mate j.val, by rw [hj]; omega⟩ rfl rfl]
  refine (q_out _ _ _ _ _ (⟨mate (y 2).val, mu⟩ : Fin 1024) (⟨(y 2).val % 128, by omega⟩ : Fin 128) rfl rfl).trans ?_
  have hc : (y 2).val % 128 % 64 < 32 ↔ j.val % 64 < 32 := by rw [hj]; omega
  exact congrArg₂ (· * ·) (congrArg₂ (· + ·) (congrArg₂ (· * ·)
      (q_block m c t _ b n ⟨17408 + j.val, by omega⟩ hb hn (by show 17408 + j.val = _; rw [hj]))
      (cos_block m c t _ n ⟨j.val % 32, by omega⟩ hn (by show j.val % 32 = (y 2).val % 128 % 32; omega)))
    (congrArg₂ (· * ·)
      (q_block m c t _ b n ⟨17408 + mate j.val, by rw [hj]; omega⟩ hb hn (by show 17408 + mate j.val = _; rw [hj]; rfl))
      ((sin_block m c t _ n ⟨j.val % 32, by omega⟩ hn (by show j.val % 32 = (y 2).val % 128 % 32; omega) _ rfl).trans
        (if_congr hc rfl rfl)))) rfl

theorem k_block (c : Dev nD) (t : Fin cfg0.N) (x : S1x512x256.Idx) (b : Fin 8) (n : Fin 2048) (p : Fin 21504)
    (hb : b.val = t.val / 4) (hn : n.val = t.val % 4 * 512 + (x 1).val) (hp : p.val = 19968 + (x 2).val) :
    iblk m c 1 t x = m ((c : Thread nD τ).loc main_arg0) (ix3 b n p) := by
  blk_point [iblk, V, idx t]

theorem final_k (c : Dev nD) : (dats m 0 c).arrAt 5 (cfgs 0).N
    = val_main_v39 (F := Ideal) (m ((c : Thread nD τ).loc main_arg0)) (m ((c : Thread nD τ).loc main_arg1))
      (m ((c : Thread nD τ).loc main_arg2)) := by
  refine (dats m 0 c).arrAt_eq_of_covers 5 _ (by decide +kernel) fun t _ y => ?_
  have h0 : (((cfg0.win 5).blk t).view.emb y 0).val = t.val / 4 := by
    blk_simp [idx t]
  have h1 : (((cfg0.win 5).blk t).view.emb y 1).val = t.val % 4 * 512 + (y 1).val := by
    blk_simp [idx t]
  have h2 : (((cfg0.win 5).blk t).view.emb y 2).val = (y 2).val := by
    blk_simp [idx t]
  obtain ⟨b, n, j, e, hb, hn, hj⟩ : ∃ (b : Fin 8) (n : Fin 2048) (j : Fin 256),
      ((cfg0.win 5).blk t).view.emb y = ix3 b n j ∧ b.val = t.val / 4 ∧ n.val = t.val % 4 * 512 + (y 1).val
      ∧ j.val = (y 2).val := ⟨_, _, _, ix3_ext rfl rfl rfl, h0, h1, h2⟩
  have y1 : (y 1).val < 512 := (y 1).isLt
  have y2 : (y 2).val < 256 := (y 2).isLt
  have mu : mate (y 2).val < 256 := by unfold mate; split <;> omega
  blk_simp
  rw [after0_5]
  rw [e, ref_k _ _ _ b n j ⟨j.val % 32, by omega⟩ rfl ⟨19968 + j.val, by omega⟩ ⟨19968 + mate j.val, by rw [hj]; omega⟩ rfl rfl]
  refine (k_out _ _ _ _ _ (⟨mate (y 2).val, mu⟩ : Fin 256) (⟨(y 2).val % 128, by omega⟩ : Fin 128) rfl rfl).trans ?_
  have hc : (y 2).val % 128 % 64 < 32 ↔ j.val % 64 < 32 := by rw [hj]; omega
  exact (congrArg₂ (· + ·) (congrArg₂ (· * ·)
      (k_block m c t _ b n ⟨19968 + j.val, by omega⟩ hb hn (by show 19968 + j.val = _; rw [hj]))
      (cos_block m c t _ n ⟨j.val % 32, by omega⟩ hn (by show j.val % 32 = (y 2).val % 128 % 32; omega)))
    (congrArg₂ (· * ·)
      (k_block m c t _ b n ⟨19968 + mate j.val, by rw [hj]; omega⟩ hb hn (by show 19968 + mate j.val = _; rw [hj]; rfl))
      ((sin_block m c t _ n ⟨j.val % 32, by omega⟩ hn (by show j.val % 32 = (y 2).val % 128 % 32; omega) _ rfl).trans
        (if_congr hc rfl rfl))))

end Cert.RopeIdeal.Own

end
-- ==== Proof.Pairs.lean ====
module

public import proofs.«01_k».proof.Defs
public import proofs.«01_k».proof.Proof.Gen.Rope.Frame
public import proofs.«01_k».proof.Proof.Gen.RopeRefIdeal.Run
public import proofs.«01_k».proof.Proof.Gen.RopeRefIdeal.Read
public import proofs.«01_k».proof.Proof.Gen.Proj.Frame
public import proofs.«01_k».proof.Proof.Gen.ProjRefIdeal.Run
public import proofs.«01_k».proof.Proof.Gen.ProjRefIdeal.Read
public import proofs.«01_k».proof.Proof.Gen.Merge.Frame
public import proofs.«01_k».proof.Proof.Gen.MergeRefIdeal.Run
public import proofs.«01_k».proof.Proof.Gen.MergeRefIdeal.Read
public import proofs.«01_k».proof.Proof.Gen.Out.Frame
public import proofs.«01_k».proof.Proof.Gen.OutRefIdeal.Run
public import proofs.«01_k».proof.Proof.Gen.OutRefIdeal.Read
public import proofs.«01_k».proof.Proof.Gen.Final.Frame
public import proofs.«01_k».proof.Proof.Gen.FinalRefIdeal.Run
public import proofs.«01_k».proof.Proof.Gen.FinalRefIdeal.Read
public import proofs.«01_k».proof.Proof.OutValue
public import proofs.«01_k».proof.Proof.FinalValue
public import proofs.«01_k».proof.Proof.ProjFinal
public import proofs.«01_k».proof.Proof.MergeValue
public import proofs.«01_k».proof.Proof.RopeValue
public import Idealize.ShloMosaic.Adequacy
public import Idealize.ShloMosaic.Lib.Claim

@[expose] public section

set_option maxRecDepth 16384

noncomputable section

namespace Cert.Proof

open Idealize.ShloMosaic Idealize.SL.Sem

theorem frame_rope_ref : Cert.quiescent_RopeRefIdeal := by
  intro m g _
  exact (θ_run Cert.RopeRefIdeal.defs _ _).mono (fun r h => ⟨fun c => (h c).2.2,
      Idealize.ShloMosaic.sem_eq_zero_of_no_sems (by decide) r.2⟩)
    (Cert.RopeRefIdeal.Value.run (F := Ideal) m g)

set_option maxHeartbeats 1600000 in
theorem algebraic_rope : Cert.algebraic_RopeIdeal_RopeRefIdeal := by
  pair_intro
  · run_from Cert.RopeIdeal.Gen.run_main m g
  · run_from Cert.RopeRefIdeal.Value.run m' g'
    · rw [(hagree c).2.2]
      exact (Cert.RopeRefIdeal.Read.val_main_v37_eq _ _ _).trans (Cert.RopeIdeal.Own.final_q m c).symm
    · rw [(hagree c).2.2]
      exact (Cert.RopeRefIdeal.Read.val_main_v39_eq _ _ _).trans (Cert.RopeIdeal.Own.final_k m c).symm

theorem frame_proj_ref : Cert.quiescent_ProjRefIdeal := by
  intro m g _
  exact (θ_run Cert.ProjRefIdeal.defs _ _).mono (fun r h => ⟨fun c => (h c).2,
      Idealize.ShloMosaic.sem_eq_zero_of_no_sems (by decide) r.2⟩)
    (Cert.ProjRefIdeal.Value.run (F := Ideal) m g)

set_option maxHeartbeats 1600000 in
theorem algebraic_proj : Cert.algebraic_ProjIdeal_ProjRefIdeal := by
  pair_intro
  · run_from Cert.ProjIdeal.Gen.run_main m g
  · run_from Cert.ProjRefIdeal.Value.run m' g'
    rw [Cert.ProjRefIdeal.Read.val_main_v28_eq m' c, (hagree c).1, (hagree c).2.1, (hagree c).2.2]
    exact (Cert.ProjIdeal.Own.final m c).symm

theorem frame_merge_ref : Cert.quiescent_MergeRefIdeal := by
  intro m g _
  exact (θ_run Cert.MergeRefIdeal.defs _ _).mono (fun r h => ⟨fun c => (h c).2,
      Idealize.ShloMosaic.sem_eq_zero_of_no_sems (by decide) r.2⟩)
    (Cert.MergeRefIdeal.Value.run (F := Ideal) m g)

set_option maxHeartbeats 1600000 in
theorem algebraic_merge : Cert.algebraic_MergeIdeal_MergeRefIdeal := by
  pair_intro
  · run_from Cert.MergeIdeal.Gen.run_main m g
  · run_from Cert.MergeRefIdeal.Value.run m' g'
    exact (Cert.MergeRefIdeal.Read.val_main_v21_eq _ _ _ _ _ _).trans (Cert.MergeIdeal.Own.final m c).symm

theorem frame_out_ref : Cert.quiescent_OutRefIdeal := by
  intro m g _
  exact (θ_run Cert.OutRefIdeal.defs _ _).mono (fun r h => ⟨fun c => (h c).2,
      Idealize.ShloMosaic.sem_eq_zero_of_no_sems (by decide) r.2⟩)
    (Cert.OutRefIdeal.Value.run (F := Ideal) m g)

set_option maxHeartbeats 1600000 in
theorem algebraic_out : Cert.algebraic_OutIdeal_OutRefIdeal := by
  pair_intro
  · run_from Cert.OutIdeal.Gen.run_main m g
  · run_from Cert.OutRefIdeal.Value.run m' g'
    exact (Cert.OutIdeal.Own.final m c).symm

theorem frame_final_ref : Cert.quiescent_FinalRefIdeal := by
  intro m g _
  exact (θ_run Cert.FinalRefIdeal.defs _ _).mono (fun r h => ⟨fun c => (h c).2,
      Idealize.ShloMosaic.sem_eq_zero_of_no_sems (by decide) r.2⟩)
    (Cert.FinalRefIdeal.Value.run (F := Ideal) m g)

set_option maxHeartbeats 1600000 in
theorem algebraic_final : Cert.algebraic_FinalIdeal_FinalRefIdeal := by
  pair_intro
  · run_from Cert.FinalIdeal.Gen.run_main m g
  · run_from Cert.FinalRefIdeal.Value.run m' g'
    exact (Cert.FinalRefIdeal.Read.val_main_v12_eq _ _).trans (Cert.FinalIdeal.Own.final m c).symm

end Cert.Proof

end
-- ==== Proof.Conv.lean ====
module

public import Idealize.ShloMosaic.Lib.Pipeline.ValueKit
public import Idealize.ShloMosaic.Lib.Pointwise

@[expose] public section

noncomputable section

open Idealize.ShloMosaic

namespace Conv

/-- A step of the centred convolution of three along 2048 positions, which takes nothing from outside them. -/
def step (u : Fin 2048 → EReal) (w : Fin 3 → EReal) (b : EReal) (l : Fin 2048) : EReal :=
  (if h : 1 ≤ l.val then u ⟨l.val - 1, by omega⟩ * w 0 else 0) + u l * w 1
    + (if h : l.val + 1 < 2048 then u ⟨l.val + 1, h⟩ * w 2 else 0) + b

theorem step_congr {u u' : Fin 2048 → EReal} {w w' : Fin 3 → EReal} {b b' : EReal} {l l' : Fin 2048}
    (hu : ∀ l, u l = u' l) (hw : ∀ j, w j = w' j) (hb : b = b') (hl : l = l') : step u w b l = step u' w' b' l' := by
  rw [funext hu, funext hw, hb, hl]

theorem eq_word (l : Fin 2048) (n : ℕ) (hn : n < 2048) (x y : EReal) :
    Scalar.select (IntOp.cmpi CmpIPredicate.eq (BitVec.ofNat 32 l.val) (BitVec.ofNat 32 n)) x y
    = if l.val = n then x else y := by
  have e : (BitVec.ofNat 32 l.val = BitVec.ofNat 32 n) ↔ l.val = n := by
    constructor
    · intro h
      have := congrArg BitVec.toNat h
      simp only [BitVec.toNat_ofNat] at this
      omega
    · intro h; rw [h]
  by_cases h : l.val = n
  · rw [if_pos h, h]
    simp [Scalar.select, IntOp.cmpi]
  · rw [if_neg h]
    have k : (BitVec.ofNat 32 l.val == BitVec.ofNat 32 n) = false := beq_eq_false_iff_ne.mpr fun k => h (e.mp k)
    simp [Scalar.select, IntOp.cmpi, k]

/-- The rows turned by one up and by one down, the first and the last replaced by zero. -/
theorem rolled (u : Fin 2048 → EReal) (w : Fin 3 → EReal) (b : EReal) (l : Fin 2048)
    (h1 : (l.val + 2048 - 1) % 2048 < 2048) (h2 : (l.val + 2048 - 2047) % 2048 < 2048) :
    Scalar.select (IntOp.cmpi CmpIPredicate.eq (BitVec.ofNat 32 l.val) 0#32) 0 (u ⟨(l.val + 2048 - 1) % 2048, h1⟩ * w 0)
      + u l * w 1
      + Scalar.select (IntOp.cmpi CmpIPredicate.eq (BitVec.ofNat 32 l.val) 2047#32) 0
        (u ⟨(l.val + 2048 - 2047) % 2048, h2⟩ * w 2)
      + b = step u w b l := by
  rw [eq_word l 0 (by decide), eq_word l 2047 (by decide)]
  have hl := l.isLt
  unfold step
  refine congrArg (· + b) (congrArg₂ (· + ·) (congrArg (· + u l * w 1) ?_) ?_)
  · by_cases h : l.val = 0
    · rw [if_pos h, dif_neg (by omega)]
    · rw [if_neg h, dif_pos (by omega)]
      exact congrArg (fun k => u k * w 0) (Fin.ext (by show (l.val + 2048 - 1) % 2048 = l.val - 1; omega))
  · by_cases h : l.val = 2047
    · rw [if_pos h, dif_neg (by omega)]
    · rw [if_neg h, dif_pos (by omega)]
      exact congrArg (fun k => u k * w 2) (Fin.ext (by show (l.val + 2048 - 2047) % 2048 = l.val + 1; omega))

theorem zero_word : (FloatOps.sitofp (F := Ideal) FTy.f32 (0#32) : EReal) = 0 := by
  show ((((0#32 : BitVec 32).toInt : ℝ)) : EReal) = 0
  norm_num

/-- The rows with one of zeros before and one after, read at three starts. -/
theorem padded (u : Fin 2048 → EReal) (w : Fin 3 → EReal) (b : EReal) (l : Fin 2048)
    (h1 : 1 ≤ l.val ∧ l.val - 1 < 2048 → l.val - 1 < 2048)
    (h2 : 1 ≤ 2 + l.val ∧ 2 + l.val - 1 < 2048 → 2 + l.val - 1 < 2048) :
    (if h : 1 ≤ l.val ∧ l.val - 1 < 2048 then u ⟨l.val - 1, h1 h⟩ else FloatOps.sitofp (F := Ideal) FTy.f32 0#32) * w 0
      + u l * w 1
      + (if h : 1 ≤ 2 + l.val ∧ 2 + l.val - 1 < 2048 then u ⟨2 + l.val - 1, h2 h⟩
          else FloatOps.sitofp (F := Ideal) FTy.f32 0#32) * w 2
      + b = step u w b l := by
  have hl := l.isLt
  unfold step
  refine congrArg (· + b) (congrArg₂ (· + ·) (congrArg (· + u l * w 1) ?_) ?_)
  · by_cases h : 1 ≤ l.val
    · rw [dif_pos h, dif_pos ⟨h, by omega⟩]
    · rw [dif_neg h, dif_neg (fun k => h k.1), zero_word, zero_mul]
  · by_cases h : l.val + 1 < 2048
    · rw [dif_pos h, dif_pos ⟨by omega, by omega⟩]
      exact congrArg (fun k => u k * w 2) (Fin.ext (by show 2 + l.val - 1 = l.val + 1; omega))
    · rw [dif_neg h, dif_neg (fun k => h (by omega)), zero_word, zero_mul]

end Conv

end
-- ==== Proof.SsdPreValue.lean ====
module

public import proofs.«01_k».proof.Proof.Gen.SsdPreIdeal.Value
public import proofs.«01_k».proof.Proof.Gen.SsdPreRefIdeal.Read
public import proofs.«01_k».proof.Proof.Conv
public import proofs.«01_k».proof.Proof.RopeValue
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SsdPreIdeal.Own

open Cert.SsdPreIdeal Cert.SsdPreIdeal.Gen

variable (m : (ℓ : Loc nD τ sig) → Buf (Elt Ideal) ℓ)

/-- The convolved SSD channels as the reference computes them. -/
abbrev REF (X : FVec Ideal S8x2048x21504 .f32) (W : FVec Ideal S3x1536 .f32) (B : FVec Ideal S1536 .f32) :
    FVec Ideal S8x2048x1536 .f32 :=
  Cert.SsdPreRefIdeal.Read.val_main_v27 (F := Ideal) X W B

theorem idx : ∀ t : Fin cfg0.N, win0_0.index t = ![t.val / 12, 0, 144 + t.val % 12] ∧ win0_1.index t = ![0, t.val % 12]
    ∧ win0_2.index t = ![0, t.val % 12] ∧ win0_3.index t = ![t.val / 12, 0, t.val % 12] :=
  (by decide +kernel : ∀ t : Fin grid0.N, _)

open Cert.SsdPreRefIdeal.Read in
/-- The reference's convolution at a place. -/
theorem ref_conv (X : FVec Ideal S8x2048x21504 .f32) (W : FVec Ideal S3x1536 .f32) (B : FVec Ideal S1536 .f32)
    (b : Fin 8) (l : Fin 2048) (q : Fin 1536) : val_main_v26 (F := Ideal) X W B (ix3 b l q)
    = Conv.step (fun l => X (ix3 b l ⟨18432 + q.val, by omega⟩)) (fun j => W (ix2 j q)) (B (ix1 q)) l := by
  pointwise [val_main_v26, val_main_v25, val_main_v24, val_main_v23, val_main_v22, val_main_v21, val_main_v20,
    val_main_v19, val_main_v18, val_main_v17, val_main_v16, val_main_v15, val_main_v14, val_main_v13, val_main_v12,
    val_main_v11, val_main_v10, val_main_v9, val_main_v8, val_main_v7, val_main_v6, val_main_v5, val_main_v4,
    val_main_v3, val_main_v2, val_main_v1, val_main_v0, val_main_call0_v0, val_main_c, val_main_cst]
  exact Conv.padded (fun l => X (ix3 b l ⟨18432 + q.val, by omega⟩)) (fun j => W (ix2 j q)) (B (ix1 q)) l _ _

open Cert.SsdPreRefIdeal.Read in
/-- The reference at a place is its convolution there times the logistic of it. -/
theorem ref_at (X : FVec Ideal S8x2048x21504 .f32) (W : FVec Ideal S3x1536 .f32) (B : FVec Ideal S1536 .f32)
    (b : Fin 8) (l : Fin 2048) (q : Fin 1536) (u : EReal)
    (hu : u = Conv.step (fun l => X (ix3 b l ⟨18432 + q.val, by omega⟩)) (fun j => W (ix2 j q)) (B (ix1 q)) l) :
    REF X W B (ix3 b l q) = u * Ideal.logistic u := by
  rw [hu, ← ref_conv X W B]
  pointwise [REF, val_main_v27, val_main_call1_v0, val_main_call1_v1, val_main_call1_v2, val_main_call1_v3,
    val_main_call1_v4, val_main_call1_v5, val_main_call1_cst, val_main_call1_cst_0]
  rfl

/-- What the body stores at a place of its block. -/
theorem pay_at (x : Vec Ideal S1x2048x128 .f32) (w0 w1 w2 d : Vec Ideal S1x128 .f32) (w : Fin 3 → EReal)
    (l : Fin 2048) (k : Fin 128) (u : EReal)
    (hw0 : w0 (ix2 0 k) = w 0) (hw1 : w1 (ix2 0 k) = w 1) (hw2 : w2 (ix2 0 k) = w 2)
    (hu : u = Conv.step (fun l => x (ix3 0 l k)) w (d (ix2 0 k)) l) :
    k0_pay1 x w0 w1 w2 d (ix3 0 l k) = (u * Ideal.logistic u : EReal) := by
  rw [hu, ← Conv.rolled _ _ _ _ (by omega) (by omega), ← hw0, ← hw1, ← hw2]
  pointwise [k0_pay1]

theorem x_block (c : Dev nD) (t : Fin cfg0.N) (x : S1x2048x128.Idx) (b : Fin 8) (l : Fin 2048) (p : Fin 21504)
    (hb : b.val = t.val / 12) (hl : l.val = (x 1).val) (hp : p.val = 18432 + (t.val % 12 * 128 + (x 2).val)) :
    iblk m c 0 t x = m ((c : Thread nD τ).loc main_arg0) (ix3 b l p) := by
  blk_point [iblk, V, idx t]

theorem w_block (c : Dev nD) (t : Fin cfg0.N) (x : S3x128.Idx) (j : Fin 3) (q : Fin 1536)
    (hj : j.val = (x 0).val) (hq : q.val = t.val % 12 * 128 + (x 1).val) :
    iblk m c 1 t x = m ((c : Thread nD τ).loc main_arg1) (ix2 j q) := by
  blk_point [iblk, V, idx t]

theorem b_block (c : Dev nD) (t : Fin cfg0.N) (x : S1x128.Idx) (q : Fin 1536)
    (hq : q.val = t.val % 12 * 128 + (x 1).val) :
    iblk m c 2 t x = m ((c : Thread nD τ).loc main_arg2) (ix1 q) := by
  blk_point [iblk, V, idx t]

/-- What a grid point stores is the reference's value at the place it is stored to. -/
theorem point (c : Dev nD) (t : Fin cfg0.N) (b : Fin 8) (l : Fin 2048) (k : Fin 128) (q : Fin 1536)
    (hb : b.val = t.val / 12) (hq : q.val = t.val % 12 * 128 + k.val) :
    k0_pay1 (iblk m c 0 t) (View.ld (iblk m c 1 t) r0_1) (View.ld (iblk m c 1 t) r0_2) (View.ld (iblk m c 1 t) r0_3)
      (iblk m c 2 t) (ix3 0 l k)
    = REF (m ((c : Thread nD τ).loc main_arg0)) (m ((c : Thread nD τ).loc main_arg1))
        (m ((c : Thread nD τ).loc main_arg2)) (ix3 b l q) := by
  rw [ref_at _ _ _ b l q _ rfl]
  exact pay_at _ _ _ _ _ (fun j => m ((c : Thread nD τ).loc main_arg1) (ix2 j q)) l k _
    (w_block m c t _ 0 q rfl (by rw [hq]; show _ = _ + (0 + 1 * k.val); omega)) (w_block m c t _ 1 q rfl (by rw [hq]; show _ = _ + (0 + 1 * k.val); omega))
    (w_block m c t _ 2 q rfl (by rw [hq]; show _ = _ + (0 + 1 * k.val); omega))
    (Conv.step_congr (fun l => (x_block m c t _ b l _ hb rfl (by show 18432 + q.val = _; rw [hq]; blk_simp)).symm)
      (fun _ => rfl) (b_block m c t _ q hq).symm rfl)

theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  have h0 : (((cfg0.win 3).blk t).view.emb y 0).val = t.val / 12 := by
    blk_simp [idx t]
  have h1 : (((cfg0.win 3).blk t).view.emb y 1).val = (y 1).val := by
    blk_simp [idx t]
  have h2 : (((cfg0.win 3).blk t).view.emb y 2).val = t.val % 12 * 128 + (y 2).val := by
    blk_simp [idx t]
  obtain ⟨b, l, q, e, hb, hl, hq⟩ : ∃ (b : Fin 8) (l : Fin 2048) (q : Fin 1536),
      ((cfg0.win 3).blk t).view.emb y = ix3 b l q ∧ b.val = t.val / 12 ∧ l.val = (y 1).val
      ∧ q.val = t.val % 12 * 128 + (y 2).val := ⟨_, _, _, RopeIdeal.Own.ix3_ext rfl rfl rfl, h0, h1, h2⟩
  obtain ⟨k, hk⟩ : ∃ k : Fin 128, (y 2).val = k.val := ⟨y 2, rfl⟩
  have ey : y = ix3 0 l k := RopeIdeal.Own.ix3_ext (Nat.lt_one_iff.mp (y 0).isLt) hl.symm hk
  blk_simp
  rw [after0_3]; frame_out
  rw [e, ey]
  exact point m c t b l k q hb (by rw [hq, hk])

end Cert.SsdPreIdeal.Own

end
-- ==== Proof.HyenaPreValue.lean ====
module

public import proofs.«01_k».proof.Proof.Gen.HyenaPreIdeal.Value
public import proofs.«01_k».proof.Proof.Gen.HyenaPreRefIdeal.Read
public import proofs.«01_k».proof.Proof.Conv
public import proofs.«01_k».proof.Proof.RopeValue
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.HyenaPreIdeal.Own

open Cert.HyenaPreIdeal Cert.HyenaPreIdeal.Gen

variable (m : (ℓ : Loc nD τ sig) → Buf (Elt Ideal) ℓ)

open Cert.HyenaPreRefIdeal.Read

theorem idx : ∀ t : Fin cfg0.N, win0_0.index t = ![t.val / 8, 0, 104 + t.val % 8]
    ∧ win0_1.index t = ![t.val / 8, 0, 112 + t.val % 8] ∧ win0_2.index t = ![t.val / 8, 0, 120 + t.val % 8]
    ∧ win0_3.index t = ![0, t.val % 8] ∧ win0_4.index t = ![0, 8 + t.val % 8] ∧ win0_5.index t = ![0, 16 + t.val % 8]
    ∧ win0_6.index t = ![0, t.val % 8] ∧ win0_7.index t = ![0, 8 + t.val % 8] ∧ win0_8.index t = ![0, 16 + t.val % 8]
    ∧ win0_9.index t = ![t.val / 8, 0, t.val % 8] ∧ win0_10.index t = ![t.val / 8, 0, t.val % 8] :=
  (by decide +kernel : ∀ t : Fin grid0.N, _)

/-- The convolution of a channel at a position. -/
abbrev chan (X : FVec Ideal S8x2048x21504 .f32) (W : FVec Ideal S3x3072 .f32) (B : FVec Ideal S3072 .f32)
    (b : Fin 8) (l : Fin 2048) (q : Fin 3072) : EReal :=
  Conv.step (fun l => X (ix3 b l ⟨13312 + q.val, by omega⟩)) (fun j => W (ix2 j q)) (B (ix1 q)) l

/-- The reference's convolution at a place. -/
theorem ref_conv (X : FVec Ideal S8x2048x21504 .f32) (W : FVec Ideal S3x3072 .f32) (B : FVec Ideal S3072 .f32)
    (b : Fin 8) (l : Fin 2048) (q : Fin 3072) : val_main_v26 (F := Ideal) X W B (ix3 b l q) = chan X W B b l q := by
  pointwise [val_main_v26, val_main_v25, val_main_v24, val_main_v23, val_main_v22, val_main_v21, val_main_v20,
    val_main_v19, val_main_v18, val_main_v17, val_main_v16, val_main_v15, val_main_v14, val_main_v13, val_main_v12,
    val_main_v11, val_main_v10, val_main_v9, val_main_v8, val_main_v7, val_main_v6, val_main_v5, val_main_v4,
    val_main_v3, val_main_v2, val_main_v1, val_main_v0, val_main_call0_v0, val_main_c, val_main_cst]
  exact Conv.padded (fun l => X (ix3 b l ⟨13312 + q.val, by omega⟩)) (fun j => W (ix2 j q)) (B (ix1 q)) l _ _

theorem ref_x0 (X : FVec Ideal S8x2048x21504 .f32) (W : FVec Ideal S3x3072 .f32) (B : FVec Ideal S3072 .f32)
    (b : Fin 8) (l : Fin 2048) (q : Fin 1024) :
    val_main_v27 (F := Ideal) X W B (ix3 b l q) = chan X W B b l ⟨q.val, by omega⟩ := by
  rw [← ref_conv]
  pointwise [val_main_v27]

theorem ref_z (X : FVec Ideal S8x2048x21504 .f32) (W : FVec Ideal S3x3072 .f32) (B : FVec Ideal S3072 .f32)
    (b : Fin 8) (l : Fin 2048) (q : Fin 1024) : val_main_v30 (F := Ideal) X W B (ix3 b l q)
    = (chan X W B b l ⟨2048 + q.val, by omega⟩ * chan X W B b l ⟨1024 + q.val, by omega⟩ : EReal) := by
  rw [← ref_conv, ← ref_conv]
  pointwise [val_main_v30, val_main_v29, val_main_v28]

/-- The body's convolution of a block at a place of it, with the weights read from their rows. -/
abbrev conv (x : Vec Ideal S1x2048x128 .f32) (w0 w1 w2 d : Vec Ideal S1x128 .f32) (l : Fin 2048) (k : Fin 128) : EReal :=
  Conv.step (fun l => x (ix3 0 l k)) ![w0 (ix2 0 k), w1 (ix2 0 k), w2 (ix2 0 k)] (d (ix2 0 k)) l

theorem pay_x0 (x : Vec Ideal S1x2048x128 .f32) (w0 w1 w2 d : Vec Ideal S1x128 .f32) (l : Fin 2048) (k : Fin 128) :
    k0_pay2 x w0 w1 w2 d (ix3 0 l k) = conv x w0 w1 w2 d l k := by
  rw [conv, ← Conv.rolled _ _ _ _ (by omega) (by omega)]
  pointwise [k0_pay2]

theorem pay_z (x v : Vec Ideal S1x2048x128 .f32) (w0 w1 w2 d u0 u1 u2 e : Vec Ideal S1x128 .f32) (l : Fin 2048)
    (k : Fin 128) :
    k0_pay1 (k0_pay4 (k0_pay3 v) (iota .tc S2048x128 32 [0] iota_S2048x128_d0_w32) u0 u1 u2 e) (k0_pay5 x) (k0_pay6 x)
      k0_pay7 (k0_pay8 x) (k0_pay9 (F := Ideal)) w0 w1 w2 d (ix3 0 l k)
    = (conv v u0 u1 u2 e l k * conv x w0 w1 w2 d l k : EReal) := by
  rw [conv, conv, ← Conv.rolled _ _ _ _ (by omega) (by omega), ← Conv.rolled _ _ _ _ (by omega) (by omega)]
  pointwise [k0_pay1, k0_pay3, k0_pay4, k0_pay5, k0_pay6, k0_pay7, k0_pay8, k0_pay9]

theorem chan_0 (c : Dev nD) (t : Fin cfg0.N) (b : Fin 8) (l : Fin 2048) (k : Fin 128) (q : Fin 3072)
    (hb : b.val = t.val / 8) (hq : q.val = 0 + (t.val % 8 * 128 + k.val)) :
    conv (iblk m c 0 t) (View.ld (iblk m c 3 t) r0_1) (View.ld (iblk m c 3 t) r0_2) (View.ld (iblk m c 3 t) r0_3)
      (iblk m c 6 t) l k
    = chan (m ((c : Thread nD τ).loc main_arg0)) (m ((c : Thread nD τ).loc main_arg1))
        (m ((c : Thread nD τ).loc main_arg2)) b l q := by
  refine Conv.step_congr (fun l => ?_) (fun j => ?_) ?_ rfl
  · blk_point [iblk, V, idx t]
  · match j with
    | 0 => show View.ld (iblk m c 3 t) r0_1 (ix2 0 k) = _; blk_point [iblk, V, idx t]
    | 1 => show View.ld (iblk m c 3 t) r0_2 (ix2 0 k) = _; blk_point [iblk, V, idx t]
    | 2 => show View.ld (iblk m c 3 t) r0_3 (ix2 0 k) = _; blk_point [iblk, V, idx t]
  · blk_point [iblk, V, idx t]

theorem chan_1 (c : Dev nD) (t : Fin cfg0.N) (b : Fin 8) (l : Fin 2048) (k : Fin 128) (q : Fin 3072)
    (hb : b.val = t.val / 8) (hq : q.val = 1024 + (t.val % 8 * 128 + k.val)) :
    conv (iblk m c 1 t) (View.ld (iblk m c 4 t) r0_1) (View.ld (iblk m c 4 t) r0_2) (View.ld (iblk m c 4 t) r0_3)
      (iblk m c 7 t) l k
    = chan (m ((c : Thread nD τ).loc main_arg0)) (m ((c : Thread nD τ).loc main_arg1))
        (m ((c : Thread nD τ).loc main_arg2)) b l q := by
  refine Conv.step_congr (fun l => ?_) (fun j => ?_) ?_ rfl
  · blk_point [iblk, V, idx t]
  · match j with
    | 0 => show View.ld (iblk m c 4 t) r0_1 (ix2 0 k) = _; blk_point [iblk, V, idx t]
    | 1 => show View.ld (iblk m c 4 t) r0_2 (ix2 0 k) = _; blk_point [iblk, V, idx t]
    | 2 => show View.ld (iblk m c 4 t) r0_3 (ix2 0 k) = _; blk_point [iblk, V, idx t]
  · blk_point [iblk, V, idx t]

theorem chan_2 (c : Dev nD) (t : Fin cfg0.N) (b : Fin 8) (l : Fin 2048) (k : Fin 128) (q : Fin 3072)
    (hb : b.val = t.val / 8) (hq : q.val = 2048 + (t.val % 8 * 128 + k.val)) :
    conv (iblk m c 2 t) (View.ld (iblk m c 5 t) r0_1) (View.ld (iblk m c 5 t) r0_2) (View.ld (iblk m c 5 t) r0_3)
      (iblk m c 8 t) l k
    = chan (m ((c : Thread nD τ).loc main_arg0)) (m ((c : Thread nD τ).loc main_arg1))
        (m ((c : Thread nD τ).loc main_arg2)) b l q := by
  refine Conv.step_congr (fun l => ?_) (fun j => ?_) ?_ rfl
  · blk_point [iblk, V, idx t]
  · match j with
    | 0 => show View.ld (iblk m c 5 t) r0_1 (ix2 0 k) = _; blk_point [iblk, V, idx t]
    | 1 => show View.ld (iblk m c 5 t) r0_2 (ix2 0 k) = _; blk_point [iblk, V, idx t]
    | 2 => show View.ld (iblk m c 5 t) r0_3 (ix2 0 k) = _; blk_point [iblk, V, idx t]
  · blk_point [iblk, V, idx t]

theorem final_x0 (c : Dev nD) : (dats m 0 c).arrAt 9 (cfgs 0).N
    = val_main_v27 (F := Ideal) (m ((c : Thread nD τ).loc main_arg0)) (m ((c : Thread nD τ).loc main_arg1))
        (m ((c : Thread nD τ).loc main_arg2)) := by
  refine (dats m 0 c).arrAt_eq_of_covers 9 _ (by decide +kernel) fun t _ y => ?_
  obtain ⟨b, l, k, q, e, ey, hb, hq⟩ : ∃ (b : Fin 8) (l : Fin 2048) (k : Fin 128) (q : Fin 1024),
      ((cfg0.win 9).blk t).view.emb y = ix3 b l q ∧ y = ix3 0 l k ∧ b.val = t.val / 8
      ∧ q.val = t.val % 8 * 128 + k.val :=
    ⟨_, _, y 2, _, RopeIdeal.Own.ix3_ext rfl rfl rfl, RopeIdeal.Own.ix3_ext (Nat.lt_one_iff.mp (y 0).isLt)
      (by blk_simp [idx t]) rfl, by blk_simp [idx t], by blk_simp [idx t]⟩
  blk_simp
  rw [after0_9]; frame_out
  rw [e, ey, ref_x0]
  exact (pay_x0 _ _ _ _ _ l k).trans (chan_0 m c t b l k _ hb (by show q.val = _; rw [hq, Nat.zero_add]))

theorem final_z (c : Dev nD) : (dats m 0 c).arrAt 10 (cfgs 0).N
    = val_main_v30 (F := Ideal) (m ((c : Thread nD τ).loc main_arg0)) (m ((c : Thread nD τ).loc main_arg1))
        (m ((c : Thread nD τ).loc main_arg2)) := by
  refine (dats m 0 c).arrAt_eq_of_covers 10 _ (by decide +kernel) fun t _ y => ?_
  obtain ⟨b, l, k, q, e, ey, hb, hq⟩ : ∃ (b : Fin 8) (l : Fin 2048) (k : Fin 128) (q : Fin 1024),
      ((cfg0.win 10).blk t).view.emb y = ix3 b l q ∧ y = ix3 0 l k ∧ b.val = t.val / 8
      ∧ q.val = t.val % 8 * 128 + k.val :=
    ⟨_, _, y 2, _, RopeIdeal.Own.ix3_ext rfl rfl rfl, RopeIdeal.Own.ix3_ext (Nat.lt_one_iff.mp (y 0).isLt)
      (by blk_simp [idx t]) rfl, by blk_simp [idx t], by blk_simp [idx t]⟩
  blk_simp
  rw [after0_10]; frame_out
  rw [e, ey, ref_z]
  exact (pay_z _ _ _ _ _ _ _ _ _ _ l k).trans (congrArg₂ (· * ·)
    (chan_2 m c t b l k _ hb (by show 2048 + q.val = _; rw [hq])) (chan_1 m c t b l k _ hb (by show 1024 + q.val = _; rw [hq])))

end Cert.HyenaPreIdeal.Own

end
-- ==== Proof.ConvPairs.lean ====
module

public import proofs.«01_k».proof.Defs
public import proofs.«01_k».proof.Proof.Gen.SsdPre.Frame
public import proofs.«01_k».proof.Proof.Gen.SsdPreRefIdeal.Run
public import proofs.«01_k».proof.Proof.Gen.SsdPreRefIdeal.Read
public import proofs.«01_k».proof.Proof.Gen.HyenaPre.Frame
public import proofs.«01_k».proof.Proof.Gen.HyenaPreRefIdeal.Run
public import proofs.«01_k».proof.Proof.Gen.HyenaPreRefIdeal.Read
public import proofs.«01_k».proof.Proof.SsdPreValue
public import proofs.«01_k».proof.Proof.HyenaPreValue
public import Idealize.ShloMosaic.Adequacy
public import Idealize.ShloMosaic.Lib.Claim

@[expose] public section

set_option maxRecDepth 16384

noncomputable section

namespace Cert.Proof

open Idealize.ShloMosaic Idealize.SL.Sem

theorem frame_ssd_pre_ref : Cert.quiescent_SsdPreRefIdeal := by
  intro m g _
  exact (θ_run Cert.SsdPreRefIdeal.defs _ _).mono (fun r h => ⟨fun c => (h c).2,
      Idealize.ShloMosaic.sem_eq_zero_of_no_sems (by decide) r.2⟩)
    (Cert.SsdPreRefIdeal.Value.run (F := Ideal) m g)

set_option maxHeartbeats 1600000 in
theorem algebraic_ssd_pre : Cert.algebraic_SsdPreIdeal_SsdPreRefIdeal := by
  pair_intro
  · run_from Cert.SsdPreIdeal.Gen.run_main m g
  · run_from Cert.SsdPreRefIdeal.Value.run m' g'
    rw [Cert.SsdPreRefIdeal.Read.val_main_v27_eq m' c, (hagree c).1, (hagree c).2.1, (hagree c).2.2]
    exact (Cert.SsdPreIdeal.Own.final m c).symm

theorem frame_hyena_pre_ref : Cert.quiescent_HyenaPreRefIdeal := by
  intro m g _
  exact (θ_run Cert.HyenaPreRefIdeal.defs _ _).mono (fun r h => ⟨fun c => (h c).2.2,
      Idealize.ShloMosaic.sem_eq_zero_of_no_sems (by decide) r.2⟩)
    (Cert.HyenaPreRefIdeal.Value.run (F := Ideal) m g)

set_option maxHeartbeats 1600000 in
theorem algebraic_hyena_pre : Cert.algebraic_HyenaPreIdeal_HyenaPreRefIdeal := by
  pair_intro
  · run_from Cert.HyenaPreIdeal.Gen.run_main m g
  · run_from Cert.HyenaPreRefIdeal.Value.run m' g'
    · exact (Cert.HyenaPreRefIdeal.Read.val_main_v27_eq _ _ _).trans (Cert.HyenaPreIdeal.Own.final_x0 m c).symm
    · rw [Cert.HyenaPreRefIdeal.Read.val_main_v30_eq m' c, (hagree c).1, (hagree c).2.1, (hagree c).2.2]
      exact (Cert.HyenaPreIdeal.Own.final_z m c).symm

end Cert.Proof

end
-- ==== Proof.FilterMath.lean ====
module

public import Idealize.ShloMosaic.Lib.Pipeline.ValueKit
public import Idealize.ShloMosaic.Lib.Pointwise
public import Idealize.ShloMosaic.Lib.KernelVsHost

@[expose] public section

noncomputable section

open Idealize.ShloMosaic

/-! A small network over 128 lanes whose surplus rows are zero is the network without them. -/

namespace Cert.Net

/-- A layer of the network: a product, a bias, a frequency and a sine. -/
def lay {n k : ℕ} (x : Fin n → EReal) (w : Fin n → Fin k → EReal) (b f : Fin k → EReal) (j : Fin k) : EReal :=
  Ideal.sin (f j * ((∑ i, x i * w i j) + b j))

/-- A product over 128 lanes of which the first `n` count, the weights of the others being zero. -/
theorem sum_pad {n : ℕ} (hn : n ≤ 128) {x w : Fin 128 → EReal} {x' w' : Fin n → EReal}
    (hx : ∀ i : Fin n, x ⟨i.val, by omega⟩ = x' i) (hw : ∀ i : Fin n, w ⟨i.val, by omega⟩ = w' i)
    (h0 : ∀ i : Fin 128, ¬ i.val < n → w i = 0) : ∑ i, x i * w i = ∑ i, x' i * w' i := by
  refine (Finset.sum_of_injOn (fun i : Fin n => (⟨i.val, by omega⟩ : Fin 128)) (fun a _ b _ h => ?_) (fun _ _ => by simp)
    (fun i _ hi => ?_) (fun i _ => by rw [hx, hw])).symm
  · exact Fin.ext (congrArg (fun z : Fin 128 => z.val) h)
  · rw [h0 i fun h => hi ⟨⟨i.val, h⟩, by simp, rfl⟩, mul_zero]

/-- A layer over 128 lanes at one of the places that count. -/
theorem lay_pad {n k : ℕ} (hn : n ≤ 128) (hk : k ≤ 128) {x : Fin 128 → EReal} {w : Fin 128 → Fin 128 → EReal}
    {b f : Fin 128 → EReal} {x' : Fin n → EReal} {w' : Fin n → Fin k → EReal} {b' f' : Fin k → EReal}
    (hx : ∀ i : Fin n, x ⟨i.val, by omega⟩ = x' i)
    (hw : ∀ (i : Fin n) (j : Fin k), w ⟨i.val, by omega⟩ ⟨j.val, by omega⟩ = w' i j)
    (h0 : ∀ (i : Fin 128) (j : Fin k), ¬ i.val < n → w i ⟨j.val, by omega⟩ = 0)
    (hb : ∀ j : Fin k, b ⟨j.val, by omega⟩ = b' j) (hf : ∀ j : Fin k, f ⟨j.val, by omega⟩ = f' j) (j : Fin k) :
    lay x w b f ⟨j.val, by omega⟩ = lay x' w' b' f' j := by
  unfold lay
  rw [sum_pad hn hx (fun i => hw i j) (fun i hi => h0 i j hi), hb, hf]

/-! Matrices with numbers after their rows and columns. -/

variable {α : Type} {a b c a' b' c' e f g : ℕ} {u : Shape}

/-- Inside, the larger matrix is the smaller one. -/
theorem pad2_in (x : (⟨2, ![a, b]⟩ : Shape).Idx → α) (v : u.Idx → α)
    (h : (⟨2, ![a, b]⟩ : Shape).Pads ![0, 0] ![e, f] ![0, 0] ⟨2, ![a', b']⟩) (hu : 0 < u.numel) (i : Fin a') (j : Fin b')
    (I : Fin a) (J : Fin b) (hi : i.val = I.val) (hj : j.val = J.val) :
    pad ⟨2, ![a', b']⟩ ![0, 0] ![e, f] ![0, 0] x v h hu (ix2 i j) = x (ix2 I J) :=
  pad_apply_of_inside _ _ _ x v h hu _ _ fun d => by
    match d with
    | ⟨0, _⟩ => show i.val = 0 + I.val * (0 + 1); omega
    | ⟨1, _⟩ => show j.val = 0 + J.val * (0 + 1); omega

/-- Below, it is the number. -/
theorem pad2_out (x : (⟨2, ![a, b]⟩ : Shape).Idx → α) (v : u.Idx → α)
    (h : (⟨2, ![a, b]⟩ : Shape).Pads ![0, 0] ![e, f] ![0, 0] ⟨2, ![a', b']⟩) (hu : 0 < u.numel) (i : Fin a') (j : Fin b')
    (hi : ¬ i.val < a) : pad ⟨2, ![a', b']⟩ ![0, 0] ![e, f] ![0, 0] x v h hu (ix2 i j) = v (Shape.Idx.first hu) :=
  pad_apply_of_not_inside _ _ _ x v h hu _ 0 fun k => hi (by
    have k2 : (i.val - 0) / (0 + 1) < a := k.2.2
    omega)

/-- Inside a stack of matrices. -/
theorem pad3_in (x : (⟨3, ![a, b, c]⟩ : Shape).Idx → α) (v : u.Idx → α)
    (h : (⟨3, ![a, b, c]⟩ : Shape).Pads ![0, 0, 0] ![e, f, g] ![0, 0, 0] ⟨3, ![a', b', c']⟩) (hu : 0 < u.numel)
    (k : Fin a') (i : Fin b') (j : Fin c') (K : Fin a) (I : Fin b) (J : Fin c)
    (hk : k.val = K.val) (hi : i.val = I.val) (hj : j.val = J.val) :
    pad ⟨3, ![a', b', c']⟩ ![0, 0, 0] ![e, f, g] ![0, 0, 0] x v h hu (ix3 k i j) = x (ix3 K I J) :=
  pad_apply_of_inside _ _ _ x v h hu _ _ fun d => by
    match d with
    | ⟨0, _⟩ => show k.val = 0 + K.val * (0 + 1); omega
    | ⟨1, _⟩ => show i.val = 0 + I.val * (0 + 1); omega
    | ⟨2, _⟩ => show j.val = 0 + J.val * (0 + 1); omega

/-- Below each matrix of the stack. -/
theorem pad3_out (x : (⟨3, ![a, b, c]⟩ : Shape).Idx → α) (v : u.Idx → α)
    (h : (⟨3, ![a, b, c]⟩ : Shape).Pads ![0, 0, 0] ![e, f, g] ![0, 0, 0] ⟨3, ![a', b', c']⟩) (hu : 0 < u.numel)
    (k : Fin a') (i : Fin b') (j : Fin c') (hi : ¬ i.val < b) :
    pad ⟨3, ![a', b', c']⟩ ![0, 0, 0] ![e, f, g] ![0, 0, 0] x v h hu (ix3 k i j) = v (Shape.Idx.first hu) :=
  pad_apply_of_not_inside _ _ _ x v h hu _ 1 fun k => hi (by
    have k2 : (i.val - 0) / (0 + 1) < b := k.2.2
    omega)

end Cert.Net

end
-- ==== Proof.FilterValue.lean ====
module

public import proofs.«01_k».proof.Proof.Gen.FilterIdeal.Value
public import proofs.«01_k».proof.Proof.Gen.FilterRefIdeal.Read
public import proofs.«01_k».proof.Proof.FilterMath
public import proofs.«01_k».proof.Proof.Conv
public import proofs.«01_k».proof.Proof.Cat
public import proofs.«01_k».proof.Proof.RopeValue
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FilterIdeal.Own

open Cert.FilterIdeal Cert.FilterIdeal.Gen
open Cert.FilterRefIdeal.Read
open Cert.Net (lay)

/-! ## The reference -/

variable (Z : FVec Ideal S2048x33 .f32) (D : FVec Ideal S1024 .f32) (Wi : FVec Ideal S33x64 .f32) (Bi : FVec Ideal S64 .f32)
  (Wm : FVec Ideal S2x64x64 .f32) (Bm : FVec Ideal S2x64 .f32) (Fr : FVec Ideal S3x64 .f32) (Wo : FVec Ideal S64x2048 .f32)

/-- The reference's first layer at a lag. -/
abbrev net1 (R : Fin 2048) : Fin 64 → EReal :=
  lay (fun i => Z (ix2 R i)) (fun i j => Wi (ix2 i j)) (fun j => Bi (ix1 j)) (fun j => Fr (ix2 0 j))

/-- A middle layer. -/
abbrev mid (a : Fin 2) (f : Fin 3) (x : Fin 64 → EReal) : Fin 64 → EReal :=
  lay x (fun i j => Wm (ix3 a i j)) (fun j => Bm (ix2 a j)) (fun j => Fr (ix2 f j))

theorem ref1 (R : Fin 2048) (j : Fin 64) : val_main_v10 (F := Ideal) Z Wi Bi Fr (ix2 R j) = net1 Z Wi Bi Fr R j := by
  pointwise [val_main_v10, val_main_v9, val_main_v8, val_main_v7, val_main_v6, val_main_v5, val_main_v4, val_main_v3,
    val_main_v2, val_main_v1]
  rfl

theorem ref2 (R : Fin 2048) (j : Fin 64) : val_main_v24 (F := Ideal) Z Wi Bi Wm Bm Fr (ix2 R j)
    = mid Wm Bm Fr 0 1 (net1 Z Wi Bi Fr R) j := by
  rw [← funext (ref1 Z Wi Bi Fr R)]
  pointwise [val_main_v24, val_main_v23, val_main_v22, val_main_v21, val_main_v20, val_main_v19, val_main_v18,
    val_main_v17, val_main_v16, val_main_v15, val_main_v14, val_main_v13, val_main_v12, val_main_v11]
  rfl

theorem ref3 (R : Fin 2048) (j : Fin 64) : val_main_v38 (F := Ideal) Z Wi Bi Wm Bm Fr (ix2 R j)
    = mid Wm Bm Fr 1 2 (mid Wm Bm Fr 0 1 (net1 Z Wi Bi Fr R)) j := by
  rw [← funext (ref2 Z Wi Bi Wm Bm Fr R)]
  pointwise [val_main_v38, val_main_v37, val_main_v36, val_main_v35, val_main_v34, val_main_v33, val_main_v32,
    val_main_v31, val_main_v30, val_main_v29, val_main_v28, val_main_v27, val_main_v26, val_main_v25]
  rfl

/-- The reference at a place. -/
theorem ref_at (R q : Fin 2048) (d : Fin 1024) (hd : d.val = q.val % 1024) :
    val_main_v50 (F := Ideal) Z D Wi Bi Wm Bm Fr Wo (ix3 0 R q)
    = (∑ i, mid Wm Bm Fr 1 2 (mid Wm Bm Fr 0 1 (net1 Z Wi Bi Fr R)) i * Wo (ix2 i q))
      * Ideal.exp (-Z (ix2 R 0) * D (ix1 d)) := by
  rw [← funext (ref3 Z Wi Bi Wm Bm Fr R)]
  rw [show d = ⟨q.val % 1024, by omega⟩ from Fin.ext hd]
  pointwise [val_main_v50, val_main_v49, val_main_v48, val_main_v47, val_main_v46, val_main_v45, val_main_v44,
    val_main_v43, val_main_v42, val_main_v41, val_main_v40, val_main_v39, val_main_v0]

/-! ## The kernel -/

/-- A layer over 128 lanes as a block's body computes it. -/
abbrev blay (x : Fin 128 → EReal) (w : Fin 128 → Fin 128 → EReal) (b f : Vec Ideal S1x128 .f32) : Fin 128 → EReal :=
  lay x w (fun j => b (ix2 0 j)) (fun j => f (ix2 0 j))

/-- What a block's body stores at a place. -/
theorem pay_at (z : Vec Ideal S512x128 .f32) (f0 f1 f2 b0 b1 b2 : Vec Ideal S1x128 .f32) (w0 : Vec Ideal S128x128 .f32)
    (w1 w2 : Vec Ideal S1x128x128 .f32) (wo : Vec Ideal S128x2048 .f32) (d : Vec Ideal S1x2048 .f32)
    (r : Fin 512) (q : Fin 2048) :
    k0_pay1 (k0_pay2 z) (k0_pay3 f2) (k0_pay4 z f0 w0 b0 f1 w1 b1 w2) (k0_pay5 b2) wo d (ix3 0 r q)
    = ((∑ i, blay (blay (blay (fun i => z (ix2 r i)) (fun i j => w0 (ix2 i j)) b0 f0)
          (fun i j => w1 (ix3 0 i j)) b1 f1) (fun i j => w2 (ix3 0 i j)) b2 f2 i * wo (ix2 i q))
      * Ideal.exp (-z (ix2 r 0) * d (ix2 0 q)) : EReal) := by
  pointwise [k0_pay1, k0_pay2, k0_pay3, k0_pay4, k0_pay5]
  rw [zero_sub]
  rfl

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0, 0] ∧ win0_4.index t = ![0, 0] ∧ win0_5.index t = ![0, 0] ∧ win0_6.index t = ![0, 0]
    ∧ win0_7.index t = ![0, 0] ∧ win0_8.index t = ![0, t.val, 0] :=
  (by decide +kernel : ∀ t : Fin grid0.N, _)

/-- The number that the padding holds. -/
abbrev none : FVec Ideal S_ .f32 := sitofp .f32 (constantI S_ 32 0#32)

/-- The arrays that the region reads: the arguments with zeros after them, and the decay rates twice. -/
theorem packs (c : Dev nD) :
    V m c main_v0 = pad S2048x128 ![0, 0] ![0, 95] ![0, 0] (m ((c : Thread nD τ).loc main_arg0) : FVec Ideal S2048x33 .f32) none
      pads_S2048x33_S2048x128_000_0950 h_S_
    ∧ V m c main_v5 = pad S128x128 ![0, 0] ![95, 64] ![0, 0] (m ((c : Thread nD τ).loc main_arg2) : FVec Ideal S33x64 .f32) none
      pads_S33x64_S128x128_0950_0640 h_S_
    ∧ V m c main_v7 = pad S1x128 ![0, 0] ![0, 64] ![0, 0]
      (shapeCast S1x64 (m ((c : Thread nD τ).loc main_arg3) : FVec Ideal S64 .f32) shapeCasts_S64_S1x64) none
      pads_S1x64_S1x128_000_0640 h_S_
    ∧ V m c main_v8 = pad S2x128x128 ![0, 0, 0] ![0, 64, 64] ![0, 0, 0] (m ((c : Thread nD τ).loc main_arg4) : FVec Ideal S2x64x64 .f32) none
      pads_S2x64x64_S2x128x128_000_0640_0640 h_S_
    ∧ V m c main_v9 = pad S2x128 ![0, 0] ![0, 64] ![0, 0] (m ((c : Thread nD τ).loc main_arg5) : FVec Ideal S2x64 .f32) none
      pads_S2x64_S2x128_000_0640 h_S_
    ∧ V m c main_v10 = pad S3x128 ![0, 0] ![0, 64] ![0, 0] (m ((c : Thread nD τ).loc main_arg6) : FVec Ideal S3x64 .f32) none
      pads_S3x64_S3x128_000_0640 h_S_
    ∧ V m c main_v11 = pad S128x2048 ![0, 0] ![64, 0] ![0, 0] (m ((c : Thread nD τ).loc main_arg7) : FVec Ideal S64x2048 .f32) none
      pads_S64x2048_S128x2048_0640_000 h_S_
    ∧ V m c main_v4 = broadcastInDim S1x2048 ![1] bcast_S2048_S1x2048_1 (shapeCast S2048
      (broadcastInDim S2x1024 ![0, 1] bcast_S1x1024_S2x1024_0_1 (shapeCast S1x1024
        (m ((c : Thread nD τ).loc main_arg1) : FVec Ideal S1024 .f32) shapeCasts_S1024_S1x1024))
      shapeCasts_S2x1024_S2048) := by
  refine ⟨?_, ?_, ?_, ?_, ?_, ?_, ?_, ?_⟩ <;>
  · simp only [V, hostOps0, hostOps0_1, hostOps0_2, hostOps0_3, hostOps0_4, hostOps0_5, hostOps0_6, hostOps0_7,
    hostOps0_8, hostOps0_9, hostOps0_10, hostOps0_11, hostOps0_12, hostOps0_13,
      List.flatten_cons, List.flatten_nil, List.append_nil, List.cons_append, List.nil_append]
    after_results_simp <;> rfl

/-! A place of a block in its array, for the eight arrays. -/

theorem z_emb (t : Fin cfg0.N) (x : S512x128.Idx) (R : Fin 2048) (i : Fin 128) (h0 : R.val = t.val * 512 + (x 0).val)
    (h1 : i.val = (x 1).val) : ((cfg0.win 0).blk t).view.emb x = ix2 R i :=
  Glue.ix2_ext (by blk_simp [idx t]; omega) (by blk_simp [idx t]; omega)

theorem wi_emb (t : Fin cfg0.N) (x : S128x128.Idx) (i j : Fin 128) (h0 : i.val = (x 0).val) (h1 : j.val = (x 1).val) :
    ((cfg0.win 1).blk t).view.emb x = ix2 i j :=
  Glue.ix2_ext (by blk_simp [idx t]; omega) (by blk_simp [idx t]; omega)

theorem bi_emb (t : Fin cfg0.N) (x : S1x128.Idx) (i : Fin 1) (j : Fin 128) (h0 : i.val = (x 0).val) (h1 : j.val = (x 1).val) :
    ((cfg0.win 2).blk t).view.emb x = ix2 i j :=
  Glue.ix2_ext (by blk_simp [idx t]) (by blk_simp [idx t]; omega)

theorem wm_emb (t : Fin cfg0.N) (x : S2x128x128.Idx) (a : Fin 2) (i j : Fin 128) (ha : a.val = (x 0).val)
    (h0 : i.val = (x 1).val) (h1 : j.val = (x 2).val) : ((cfg0.win 3).blk t).view.emb x = ix3 a i j :=
  RopeIdeal.Own.ix3_ext (by blk_simp [idx t]; omega) (by blk_simp [idx t]; omega) (by blk_simp [idx t]; omega)

theorem bm_emb (t : Fin cfg0.N) (x : S2x128.Idx) (i : Fin 2) (j : Fin 128) (h0 : i.val = (x 0).val) (h1 : j.val = (x 1).val) :
    ((cfg0.win 4).blk t).view.emb x = ix2 i j :=
  Glue.ix2_ext (by blk_simp [idx t]; omega) (by blk_simp [idx t]; omega)

theorem fr_emb (t : Fin cfg0.N) (x : S3x128.Idx) (i : Fin 3) (j : Fin 128) (h0 : i.val = (x 0).val) (h1 : j.val = (x 1).val) :
    ((cfg0.win 5).blk t).view.emb x = ix2 i j :=
  Glue.ix2_ext (by blk_simp [idx t]; omega) (by blk_simp [idx t]; omega)

theorem wo_emb (t : Fin cfg0.N) (x : S128x2048.Idx) (i : Fin 128) (j : Fin 2048) (h0 : i.val = (x 0).val) (h1 : j.val = (x 1).val) :
    ((cfg0.win 6).blk t).view.emb x = ix2 i j :=
  Glue.ix2_ext (by blk_simp [idx t]; omega) (by blk_simp [idx t]; omega)

theorem d_emb (t : Fin cfg0.N) (x : S1x2048.Idx) (i : Fin 1) (j : Fin 2048) (h0 : i.val = (x 0).val) (h1 : j.val = (x 1).val) :
    ((cfg0.win 7).blk t).view.emb x = ix2 i j :=
  Glue.ix2_ext (by blk_simp [idx t]) (by blk_simp [idx t]; omega)

/-! What the blocks hold: the arguments, and zeros below the weights. -/

section Blocks

variable (c : Dev nD) (t : Fin cfg0.N)

theorem z_at (x : S512x128.Idx) (R : Fin 2048) (j : Fin 33) (h0 : R.val = t.val * 512 + (x 0).val) (h1 : j.val = (x 1).val) :
    iblk m c 0 t x = m ((c : Thread nD τ).loc main_arg0) (ix2 R j) := by
  unfold iblk
  refine (congrArg (V m c main_v0) (z_emb t x R ⟨j.val, by omega⟩ h0 h1)).trans ?_
  rw [(packs m c).1]
  exact Net.pad2_in _ _ _ _ _ _ _ _ rfl rfl

theorem wi_at (x : S128x128.Idx) (i : Fin 33) (j : Fin 64) (h0 : i.val = (x 0).val) (h1 : j.val = (x 1).val) :
    iblk m c 1 t x = m ((c : Thread nD τ).loc main_arg2) (ix2 i j) := by
  unfold iblk
  refine (congrArg (V m c main_v5) (wi_emb t x ⟨i.val, by omega⟩ ⟨j.val, by omega⟩ h0 h1)).trans ?_
  rw [(packs m c).2.1]
  exact Net.pad2_in _ _ _ _ _ _ _ _ rfl rfl

theorem wi_zero (x : S128x128.Idx) (h : ¬ (x 0).val < 33) : iblk m c 1 t x = (0 : EReal) := by
  unfold iblk
  refine (congrArg (V m c main_v5) (wi_emb t x (x 0) (x 1) rfl rfl)).trans ?_
  rw [(packs m c).2.1]
  exact (Net.pad2_out _ _ _ _ _ _ h).trans Conv.zero_word

theorem bi_at (x : S1x128.Idx) (j : Fin 64) (h1 : j.val = (x 1).val) :
    iblk m c 2 t x = m ((c : Thread nD τ).loc main_arg3) (ix1 j) := by
  unfold iblk
  refine (congrArg (V m c main_v7) (bi_emb t x 0 ⟨j.val, by omega⟩ (by have := (x 0).isLt; show 0 = (x 0).val; change (x 0).val < 1 at this; omega) h1)).trans ?_
  rw [(packs m c).2.2.1]
  have h := Net.pad2_in (e := 0) (f := 64) (shapeCast S1x64 (m ((c : Thread nD τ).loc main_arg3) : FVec Ideal S64 .f32) shapeCasts_S64_S1x64)
    none pads_S1x64_S1x128_000_0640 h_S_ (0 : Fin 1) (⟨j.val, by omega⟩ : Fin 128) (0 : Fin 1) j rfl rfl
  refine h.trans ?_
  pointwise

theorem wm_at (x : S2x128x128.Idx) (a : Fin 2) (i j : Fin 64) (ha : a.val = (x 0).val) (h0 : i.val = (x 1).val)
    (h1 : j.val = (x 2).val) : iblk m c 3 t x = m ((c : Thread nD τ).loc main_arg4) (ix3 a i j) := by
  unfold iblk
  refine (congrArg (V m c main_v8) (wm_emb t x a ⟨i.val, by omega⟩ ⟨j.val, by omega⟩ ha h0 h1)).trans ?_
  rw [(packs m c).2.2.2.1]
  exact Net.pad3_in _ _ _ _ _ _ _ _ _ _ rfl rfl rfl

theorem wm_zero (x : S2x128x128.Idx) (h : ¬ (x 1).val < 64) : iblk m c 3 t x = (0 : EReal) := by
  unfold iblk
  refine (congrArg (V m c main_v8) (wm_emb t x (x 0) (x 1) (x 2) rfl rfl rfl)).trans ?_
  rw [(packs m c).2.2.2.1]
  exact (Net.pad3_out _ _ _ _ _ _ _ h).trans Conv.zero_word

theorem bm_at (x : S2x128.Idx) (i : Fin 2) (j : Fin 64) (h0 : i.val = (x 0).val) (h1 : j.val = (x 1).val) :
    iblk m c 4 t x = m ((c : Thread nD τ).loc main_arg5) (ix2 i j) := by
  unfold iblk
  refine (congrArg (V m c main_v9) (bm_emb t x i ⟨j.val, by omega⟩ h0 h1)).trans ?_
  rw [(packs m c).2.2.2.2.1]
  exact Net.pad2_in _ _ _ _ _ _ _ _ rfl rfl

theorem fr_at (x : S3x128.Idx) (i : Fin 3) (j : Fin 64) (h0 : i.val = (x 0).val) (h1 : j.val = (x 1).val) :
    iblk m c 5 t x = m ((c : Thread nD τ).loc main_arg6) (ix2 i j) := by
  unfold iblk
  refine (congrArg (V m c main_v10) (fr_emb t x i ⟨j.val, by omega⟩ h0 h1)).trans ?_
  rw [(packs m c).2.2.2.2.2.1]
  exact Net.pad2_in _ _ _ _ _ _ _ _ rfl rfl

theorem wo_at (x : S128x2048.Idx) (i : Fin 64) (j : Fin 2048) (h0 : i.val = (x 0).val) (h1 : j.val = (x 1).val) :
    iblk m c 6 t x = m ((c : Thread nD τ).loc main_arg7) (ix2 i j) := by
  unfold iblk
  refine (congrArg (V m c main_v11) (wo_emb t x ⟨i.val, by omega⟩ j h0 h1)).trans ?_
  rw [(packs m c).2.2.2.2.2.2.1]
  exact Net.pad2_in _ _ _ _ _ _ _ _ rfl rfl

theorem wo_zero (x : S128x2048.Idx) (h : ¬ (x 0).val < 64) : iblk m c 6 t x = (0 : EReal) := by
  unfold iblk
  refine (congrArg (V m c main_v11) (wo_emb t x (x 0) (x 1) rfl rfl)).trans ?_
  rw [(packs m c).2.2.2.2.2.2.1]
  exact (Net.pad2_out _ _ _ _ _ _ h).trans Conv.zero_word

theorem d_at (x : S1x2048.Idx) (d : Fin 1024) (h1 : d.val = (x 1).val % 1024) :
    iblk m c 7 t x = m ((c : Thread nD τ).loc main_arg1) (ix1 d) := by
  unfold iblk
  refine (congrArg (V m c main_v4) (d_emb t x (x 0) (x 1) rfl rfl)).trans ?_
  rw [(packs m c).2.2.2.2.2.2.2]
  obtain ⟨q, hq⟩ : ∃ q : Fin 2048, q.val = (x 1).val := ⟨x 1, rfl⟩
  rw [show d = ⟨q.val % 1024, by omega⟩ from Fin.ext (h1.trans (congrArg (· % 1024) hq.symm)), show (x 1 : Fin 2048) = q from Fin.ext hq.symm]
  pointwise

set_option maxHeartbeats 1600000 in
/-- What a grid point stores is the reference's value at the place it is stored to. -/
theorem point (R q : Fin 2048) (r : Fin 512) (hR : R.val = t.val * 512 + r.val) :
    k0_pay1 (k0_pay2 (iblk m c 0 t)) (k0_pay3 (View.ld (iblk m c 5 t) r0_7))
      (k0_pay4 (iblk m c 0 t) (View.ld (iblk m c 5 t) r0_1) (iblk m c 1 t) (iblk m c 2 t) (View.ld (iblk m c 5 t) r0_4)
        (View.ld (iblk m c 3 t) r0_5) (View.ld (iblk m c 4 t) r0_6) (View.ld (iblk m c 3 t) r0_8))
      (k0_pay5 (View.ld (iblk m c 4 t) r0_9)) (iblk m c 6 t) (iblk m c 7 t) (ix3 0 r q)
    = val_main_v50 (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) (ix3 0 R q) := by
  rw [ref_at _ _ _ _ _ _ _ _ R q ⟨q.val % 1024, by omega⟩ rfl, pay_at]
  refine congrArg₂ (fun a b : EReal => a * Ideal.exp b) ?_ (congrArg₂ (fun a b : EReal => -a * b) ?_ ?_)
  · refine Net.sum_pad (by decide) (fun i => ?_) (fun i => wo_at m c t _ i q rfl rfl) (fun i hi => wo_zero m c t _ hi)
    refine Net.lay_pad (by decide) (by decide) (fun i => ?_)
      (fun i j => wm_at m c t _ 1 i j rfl (by show _ = 0 + 1 * i.val; omega) (by show _ = 0 + 1 * j.val; omega))
      (fun i j hi => wm_zero m c t _ fun h => hi (by have h : 0 + 1 * i.val < 64 := h; omega))
      (fun j => bm_at m c t _ 1 j rfl (by show _ = 0 + 1 * j.val; omega)) (fun j => fr_at m c t _ 2 j rfl (by show _ = 0 + 1 * j.val; omega)) i
    refine Net.lay_pad (by decide) (by decide) (fun i => ?_)
      (fun i j => wm_at m c t _ 0 i j rfl (by show _ = 0 + 1 * i.val; omega) (by show _ = 0 + 1 * j.val; omega))
      (fun i j hi => wm_zero m c t _ fun h => hi (by have h : 0 + 1 * i.val < 64 := h; omega))
      (fun j => bm_at m c t _ 0 j rfl (by show _ = 0 + 1 * j.val; omega)) (fun j => fr_at m c t _ 1 j rfl (by show _ = 0 + 1 * j.val; omega)) i
    exact Net.lay_pad (by decide) (by decide) (fun i => z_at m c t _ R i hR rfl)
      (fun i j => wi_at m c t _ i j rfl rfl) (fun i j hi => wi_zero m c t _ hi)
      (fun j => bi_at m c t _ j rfl) (fun j => fr_at m c t _ 0 j rfl (by show _ = 0 + 1 * j.val; omega)) i
  · exact z_at m c t _ R 0 hR rfl
  · exact d_at m c t _ _ rfl

end Blocks

theorem final (c : Dev nD) : (dats m 0 c).arrAt 8 (cfgs 0).N
    = val_main_v50 (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t _ y => ?_
  have h0 : (((cfg0.win 8).blk t).view.emb y 0).val = 0 := by
    blk_simp [idx t]
  have h1 : (((cfg0.win 8).blk t).view.emb y 1).val = t.val * 512 + (y 1).val := by
    blk_simp [idx t]
  have h2 : (((cfg0.win 8).blk t).view.emb y 2).val = (y 2).val := by
    blk_simp [idx t]
  obtain ⟨R, q, e, hR, hq⟩ : ∃ R q : Fin 2048, ((cfg0.win 8).blk t).view.emb y = ix3 0 R q
      ∧ R.val = t.val * 512 + (y 1).val ∧ q.val = (y 2).val := ⟨_, _, RopeIdeal.Own.ix3_ext h0 rfl rfl, h1, h2⟩
  obtain ⟨r, hr⟩ : ∃ r : Fin 512, (y 1).val = r.val := ⟨y 1, rfl⟩
  have ey : y = ix3 0 r q := RopeIdeal.Own.ix3_ext (Nat.lt_one_iff.mp (y 0).isLt) hr hq.symm
  blk_simp
  rw [after0_8]; frame_out
  rw [e, ey]
  exact point m c t R q r (by rw [hR, hr])

end Cert.FilterIdeal.Own

end
-- ==== Proof.FilterPair.lean ====
module

public import proofs.«01_k».proof.Defs
public import proofs.«01_k».proof.Proof.Gen.Filter.Frame
public import proofs.«01_k».proof.Proof.Gen.FilterRefIdeal.Run
public import proofs.«01_k».proof.Proof.Gen.FilterRefIdeal.Read
public import proofs.«01_k».proof.Proof.FilterValue
public import Idealize.ShloMosaic.Adequacy
public import Idealize.ShloMosaic.Lib.Claim

@[expose] public section

set_option maxRecDepth 16384

noncomputable section

namespace Cert.Proof

open Idealize.ShloMosaic Idealize.SL.Sem

theorem frame_filter_ref : Cert.quiescent_FilterRefIdeal := by
  intro m g _
  exact (θ_run Cert.FilterRefIdeal.defs _ _).mono (fun r h => ⟨fun c => (h c).2,
      Idealize.ShloMosaic.sem_eq_zero_of_no_sems (by decide) r.2⟩)
    (Cert.FilterRefIdeal.Value.run (F := Ideal) m g)

set_option maxHeartbeats 1600000 in
theorem algebraic_filter : Cert.algebraic_FilterIdeal_FilterRefIdeal := by
  pair_intro
  · run_from Cert.FilterIdeal.Gen.run_main m g
    · exact Cert.FilterIdeal.Gen.V_main_arg0 m c
    · exact Cert.FilterIdeal.Gen.V_main_arg1 m c
    · exact Cert.FilterIdeal.Gen.V_main_arg2 m c
    · exact Cert.FilterIdeal.Gen.V_main_arg3 m c
    · exact Cert.FilterIdeal.Gen.V_main_arg4 m c
    · exact Cert.FilterIdeal.Gen.V_main_arg5 m c
    · exact Cert.FilterIdeal.Gen.V_main_arg6 m c
    · exact Cert.FilterIdeal.Gen.V_main_arg7 m c
  · run_from Cert.FilterRefIdeal.Value.run m' g'
    exact (Cert.FilterRefIdeal.Read.val_main_v50_eq _ _ _ _ _ _ _ _).trans (Cert.FilterIdeal.Own.final m c).symm

end Cert.Proof

end
-- ==== Proof.RouterMath.lean ====
module

public import proofs.«01_k».proof.Proof.AttnMath

@[expose] public section

noncomputable section

open Idealize.ShloMosaic

/-! The softmax over 16 experts, computed over 128 lanes of which the last 112 hold a constant. -/

namespace Cert.Route

open Cert.Heads (Fin' neg neg_fin start start_ne_top sel_one sel_zero sum_coe)

/-- Exponentials of the differences to `μ`, divided by their sum. -/
def soft (s : Fin 16 → EReal) (μ : EReal) (j : Fin 16) : EReal :=
  Ideal.div (Ideal.exp (s j - μ)) (∑ i, Ideal.exp (s i - μ))

/-- The exponentials of finite differences and their sum, as real numbers. -/
theorem exps {s : Fin 16 → EReal} {μ : EReal} (hs : ∀ j, Fin' (s j)) (hμ : Fin' μ) :
    ∃ (a : Fin 16 → ℝ) (u : ℝ), (∀ j, s j = a j) ∧ μ = u ∧ (∀ j, Ideal.exp (s j - μ) = (Real.exp (a j - u) : EReal))
      ∧ ∑ i, Ideal.exp (s i - μ) = ((∑ i, Real.exp (a i - u) : ℝ) : EReal) := by
  choose a ha using fun j => (hs j).real
  obtain ⟨u, hu⟩ := hμ.real
  have e : ∀ j, Ideal.exp (s j - μ) = (Real.exp (a j - u) : EReal) := fun j => by
    rw [ha j, hu, ← EReal.coe_sub]
    rfl
  exact ⟨a, u, ha, hu, e, by rw [← sum_coe]; exact Finset.sum_congr rfl fun i _ => e i⟩

theorem sum_exp_pos (a : Fin 16 → ℝ) (u : ℝ) : 0 < ∑ i, Real.exp (a i - u) :=
  Finset.sum_pos (fun _ _ => Real.exp_pos _) ⟨0, Finset.mem_univ _⟩

/-- What is subtracted before the exponential does not matter. -/
theorem soft_shift {s : Fin 16 → EReal} {μ ν : EReal} (hs : ∀ j, Fin' (s j)) (hμ : Fin' μ) (hν : Fin' ν) (j : Fin 16) :
    soft s μ j = soft s ν j := by
  obtain ⟨a, u, ha, rfl, eu, su⟩ := exps hs hμ
  obtain ⟨b, v, hb, rfl, ev, sv⟩ := exps hs hν
  obtain rfl : a = b := funext fun i => EReal.coe_injective ((ha i).symm.trans (hb i))
  unfold soft
  rw [su, sv, eu, ev, Ideal.div_coe (sum_exp_pos a u).ne', Ideal.div_coe (sum_exp_pos a v).ne', ← EReal.coe_mul,
    ← EReal.coe_mul]
  refine congrArg (fun r : ℝ => (r : EReal)) ?_
  have h : ∀ w : ℝ, ∑ i, Real.exp (a i - w) = (∑ i, Real.exp (a i)) / Real.exp w := fun w => by
    rw [Finset.sum_div]
    exact Finset.sum_congr rfl fun i _ => Real.exp_sub _ _
  have hp : 0 < ∑ i, Real.exp (a i) := Finset.sum_pos (fun _ _ => Real.exp_pos _) ⟨0, Finset.mem_univ _⟩
  rw [h u, h v, Real.exp_sub, Real.exp_sub]
  have := Real.exp_pos u
  have := Real.exp_pos v
  field_simp

/-- Whether a lane holds an expert. -/
def bit (l : Fin 128) : BitVec 1 := IntOp.cmpi .slt (BitVec.ofNat 32 l.val) 16#32

theorem bit_eq : ∀ l : Fin 128, bit l = if l.val < 16 then 1#1 else 0#1 := by
  unfold bit
  decide +kernel

/-- The logits on the experts' lanes and the constant on the others. -/
def masked (z : Fin 128 → EReal) (l : Fin 128) : EReal := Scalar.select (bit l) (z l) neg

/-- The greatest of them. -/
def top (z : Fin 128 → EReal) : EReal := Finset.fold max start (fun l => masked z l) Finset.univ

/-- The exponentials on the experts' lanes and zero on the others. -/
def wt (z : Fin 128 → EReal) (l : Fin 128) : EReal := Scalar.select (bit l) (Ideal.exp (masked z l - top z)) 0

/-- The affinities over 128 lanes. -/
def aff (z : Fin 128 → EReal) (l : Fin 128) : EReal := Ideal.div (wt z l) (∑ k, wt z k)

/-- A maximum of finite numbers, not of none of them, is finite. -/
theorem fold_fin {ι : Type} [Fintype ι] {f : ι → EReal} (i : ι) (h : ∀ i, Fin' (f i)) :
    Fin' (Finset.fold max start f Finset.univ) := by
  constructor
  · exact ne_bot_of_le_ne_bot (h i).1 ((Finset.le_fold_max _).mpr (.inr ⟨i, Finset.mem_univ i, le_rfl⟩))
  · refine ne_of_lt ((Finset.fold_max_lt _).mpr ⟨lt_top_iff_ne_top.mpr start_ne_top, fun k _ => ?_⟩)
    exact lt_top_iff_ne_top.mpr (h k).2

/-- A sum over 128 lanes of which only 16 count. -/
theorem sum_lanes (f : Fin 128 → EReal) (g : Fin 16 → EReal) (hg : ∀ j : Fin 16, f ⟨j.val, by omega⟩ = g j)
    (h0 : ∀ l : Fin 128, ¬ l.val < 16 → f l = 0) : ∑ l, f l = ∑ j, g j := by
  have e : ∑ l, f l = ∑ j : Fin 16, f (Fin.castAdd 112 j) + ∑ j : Fin 112, f (Fin.natAdd 16 j) :=
    Fin.sum_univ_add (a := 16) (b := 112) f
  have h1 : ∑ j : Fin 16, f (Fin.castAdd 112 j) = ∑ j, g j := Finset.sum_congr rfl fun j _ => hg j
  have h2 : ∑ j : Fin 112, f (Fin.natAdd 16 j) = 0 :=
    Finset.sum_eq_zero fun j _ => h0 (Fin.natAdd 16 j) (by simp [Fin.natAdd])
  rw [e, h1, h2, add_zero]

/-- The affinities over 128 lanes are the softmax of the experts' logits, then zeros. -/
theorem aff_eq {z : Fin 128 → EReal} {s : Fin 16 → EReal} {μ : EReal} (hs : ∀ j, Fin' (s j)) (hμ : Fin' μ)
    (hz : ∀ j : Fin 16, z ⟨j.val, by omega⟩ = s j) (l : Fin 128) :
    aff z l = if h : l.val < 16 then soft s μ ⟨l.val, h⟩ else 0 := by
  have hm : ∀ l, Fin' (masked z l) := fun l => by
    unfold masked
    rw [bit_eq]
    by_cases h : l.val < 16
    · rw [if_pos h, sel_one]
      exact (hz ⟨l.val, h⟩) ▸ hs ⟨l.val, h⟩
    · rw [if_neg h, sel_zero]
      exact neg_fin
  have ht : Fin' (top z) := fold_fin 0 hm
  have hin : ∀ j : Fin 16, wt z ⟨j.val, by omega⟩ = Ideal.exp (s j - top z) := fun j => by
    unfold wt masked
    rw [bit_eq, if_pos j.isLt, sel_one, sel_one, hz]
  have hout : ∀ l : Fin 128, ¬ l.val < 16 → wt z l = 0 := fun l h => by
    unfold wt
    rw [bit_eq, if_neg h, sel_zero]
  have hsum : ∑ k, wt z k = ∑ i, Ideal.exp (s i - top z) := sum_lanes _ _ hin hout
  unfold aff
  rw [hsum]
  by_cases h : l.val < 16
  · rw [dif_pos h, soft_shift hs hμ ht ⟨l.val, h⟩]
    exact congrArg (fun x => Ideal.div x (∑ i, Ideal.exp (s i - top z))) (hin ⟨l.val, h⟩)
  · obtain ⟨a, u, _, _, _, su⟩ := exps hs ht
    rw [dif_neg h, hout l h, su, Ideal.div_coe (sum_exp_pos a u).ne', zero_mul]

/-- The factor that scales a row to mean square one is finite where the row is. -/
theorem scale_fin {x : Fin 2048 → EReal} (hx : ∀ k, Fin' (x k)) :
    Fin' (Ideal.rsqrt (Ideal.div (∑ k, x k * x k) (Ideal.ofBits .f32 0x45000000#32) + Ideal.ofBits .f32 0x358637BD#32)) := by
  choose a ha using fun k => (hx k).real
  have hn : ∃ n : ℝ, 0 < n ∧ Ideal.ofBits .f32 0x45000000#32 = (n : EReal) := by
    simp only [Ideal.ofBits, Ideal.ieee]
    norm_num
    rw [if_neg (by decide), if_neg (by decide)]
    refine ⟨_, ?_, rfl⟩
    simp [Ideal.ieee]
    exact zpow_pos two_pos _
  have he : ∃ e : ℝ, 0 < e ∧ Ideal.ofBits .f32 0x358637BD#32 = (e : EReal) := by
    simp only [Ideal.ofBits, Ideal.ieee]
    norm_num
    rw [if_neg (by decide), if_neg (by decide)]
    refine ⟨_, ?_, rfl⟩
    simp [Ideal.ieee]
    exact zpow_pos two_pos _
  obtain ⟨n, n0, hn⟩ := hn
  obtain ⟨e, e0, he⟩ := he
  have hq : ∑ k, x k * x k = ((∑ k, a k * a k : ℝ) : EReal) := by
    rw [← sum_coe]
    exact Finset.sum_congr rfl fun k _ => by rw [ha k, EReal.coe_mul]
  have h0 : 0 ≤ ∑ k, a k * a k := Finset.sum_nonneg fun k _ => mul_self_nonneg _
  rw [hn, he, hq, Ideal.div_coe n0.ne', ← EReal.coe_mul, ← EReal.coe_add]
  generalize ∑ k, a k * a k = q at *
  have hp : 0 < q * n⁻¹ + e := by positivity
  rw [Ideal.rsqrt_coe, if_neg (by simpa using hp.le), if_neg (by simpa using hp.ne')]
  exact Fin'.of_real _

end Cert.Route

end
-- ==== Proof.RouterValue.lean ====
module

public import proofs.«01_k».proof.Proof.Gen.RouterIdeal.Value
public import proofs.«01_k».proof.Proof.Gen.RouterRefIdeal.Read
public import proofs.«01_k».proof.Proof.RouterMath
public import proofs.«01_k».proof.Proof.Cat
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RouterIdeal.Own

open Cert.RouterIdeal Cert.RouterIdeal.Gen
open Cert.Heads (Fin')
open Cert.RouterRefIdeal.Read

/-! ## The reference -/

variable (X : FVec Ideal S16384x2048 .f32) (G : FVec Ideal S2048 .f32) (W : FVec Ideal S2048x16 .f32)

/-- The normalised stream as the reference computes it. -/
abbrev HN : FVec Ideal S16384x2048 .f32 := val_main_v12 (F := Ideal) X G

/-- The logits of a token. -/
abbrev logits (R : Fin 16384) (j : Fin 16) : EReal := val_main_v13 (F := Ideal) X G W (ix2 R j)

theorem logits_eq (R : Fin 16384) (j : Fin 16) : logits X G W R j = ∑ k, HN X G (ix2 R k) * W (ix2 k j) := by
  unfold logits
  rw [val_main_v13_apply]
  exact Finset.sum_congr rfl fun k _ => congrArg₂ (fun y z : EReal => y * z)
    (congrArg (HN X G) (Glue.ix2_ext rfl rfl)) (congrArg W (Glue.ix2_ext rfl rfl))

/-- The normalised stream of finite arrays is finite. -/
theorem hn_fin (hX : ∀ i, Fin' (X i)) (hG : ∀ i, Fin' (G i)) (R : Fin 16384) (k : Fin 2048) : Fin' (HN X G (ix2 R k)) := by
  pointwise [HN, val_main_v12, val_main_v11, val_main_v10, val_main_v9, val_main_v8, val_main_v7,
    val_main_v6, val_main_v5, val_main_v4, val_main_v3, val_main_v2, val_main_v1, val_main_v0, val_main_cst,
    val_main_cst_0, val_main_cst_1]
  exact ((hX _).mul (Route.scale_fin fun k => hX (ix2 R k))).mul (hG _)

theorem logits_fin (hX : ∀ i, Fin' (X i)) (hG : ∀ i, Fin' (G i)) (hW : ∀ i, Fin' (W i)) (R : Fin 16384) (j : Fin 16) :
    Fin' (logits X G W R j) := by
  rw [logits_eq]
  exact Fin'.sum _ _ fun k => (hn_fin X G hX hG R k).mul (hW _)

/-- What the reference subtracts from a token's logits. -/
abbrev shift (R : Fin 16384) : EReal := val_main_v16 (F := Ideal) X G W (ix1 R)

theorem shift_fin (hX : ∀ i, Fin' (X i)) (hG : ∀ i, Fin' (G i)) (hW : ∀ i, Fin' (W i)) (R : Fin 16384) :
    Fin' (shift X G W R) := by
  have h : val_main_v14 (F := Ideal) X G W (ix1 R) = Finset.fold max Heads.start (logits X G W R) Finset.univ := by
    unfold val_main_v14
    refine (Host.reduce_eq_fold_single (α := EReal) max (val_main_v13 (F := Ideal) X G W) (val_main_cst_2 (F := Ideal)) _
      (by decide) _ (ix1 R)).trans ?_
    refine congrArg (fun f => Finset.fold max Heads.start f Finset.univ) (funext fun k => ?_)
    exact congrArg (val_main_v13 (F := Ideal) X G W) (Glue.ix2_ext rfl rfl)
  unfold shift
  rw [val_main_v16_apply, h, val_main_v15_apply, val_main_cst_3_apply]
  have hf := Route.fold_fin 0 (logits_fin X G W hX hG hW R)
  refine ⟨ne_bot_of_le_ne_bot hf.1 (le_max_right _ _), ne_of_lt (max_lt ?_ (lt_top_iff_ne_top.mpr hf.2))⟩
  exact lt_top_iff_ne_top.mpr Heads.start_ne_top

/-- The exponential of a token's logit less what is subtracted. -/
theorem ref_exp (R : Fin 16384) (j : Fin 16) : val_main_v20 (F := Ideal) X G W (ix2 R j)
    = Ideal.exp (logits X G W R j - shift X G W R) := by
  have e : val_main_v18 (F := Ideal) X G W (ix2 R j) = shift X G W R := by
    rw [val_main_v18_apply, val_main_v17_apply]
    exact congrArg (val_main_v16 (F := Ideal) X G W) (funext fun a => match a with | ⟨0, _⟩ => rfl)
  rw [val_main_v20_apply, val_main_v19_apply, e]
  rfl

theorem ref_soft (R : Fin 16384) (j : Fin 16) : val_main_v24 (F := Ideal) X G W (ix2 R j)
    = Route.soft (logits X G W R) (shift X G W R) j := by
  have e : val_main_v23 (F := Ideal) X G W (ix2 R j) = ∑ i, Ideal.exp (logits X G W R i - shift X G W R) := by
    rw [val_main_v23_apply, val_main_v22_apply, val_main_v21_apply]
    refine (congrArg₂ (fun y z : EReal => y + z) Ideal.ofBits_zero_f32 (Finset.sum_congr rfl fun k _ => ?_)).trans (zero_add _)
    exact (congrArg (val_main_v20 (F := Ideal) X G W) (Glue.ix2_ext rfl rfl)).trans (ref_exp X G W R k)
  rw [val_main_v24_apply, ref_exp, e]
  rfl

/-- The reference's affinities over 128 lanes. -/
theorem ref_aff (R : Fin 16384) (l : Fin 128) : val_main_v26 (F := Ideal) X G W (ix2 R l)
    = if h : l.val < 16 then Route.soft (logits X G W R) (shift X G W R) ⟨l.val, h⟩ else 0 := by
  unfold val_main_v26
  by_cases h : l.val < 16
  · rw [dif_pos h, ← ref_soft]
    exact Glue.col _ _ 0 (by simp) _ rfl 0 rfl R l ⟨l.val, h⟩ (Nat.zero_add _)
  · rw [dif_neg h]
    refine (Glue.col _ _ 1 (by simp) (val_main_v25 (F := Ideal)) rfl 16 rfl R l
      ⟨l.val - 16, by omega⟩ (by simp only; omega)).trans ?_
    rw [val_main_v25_apply, val_main_cst_5_apply]
    exact Ideal.ofBits_zero_f32

/-! ## The kernel -/

/-- The affinities that a block's body computes. -/
theorem pay_aff (v0 : Vec Ideal S512x2048 .f32) (v11 : Vec Ideal S1x2048 .f32) (v16 : Vec Ideal S2048x128 .bf16)
    (r : Fin 512) (l : Fin 128) : k0_pay2 v0 v11 v16 (ix2 r l)
    = Route.aff (fun l => ∑ k, k0_pay1 v0 v11 (ix2 r k) * v16 (ix2 k l)) l := by
  pointwise [k0_pay2]
  rfl

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![0, t.val] :=
  (by decide +kernel : ∀ t : Fin grid0.N, _)

/-- The router's weights with zeros to their right. -/
def pack (W : FVec Ideal S2048x16 .f32) : FVec Ideal S2048x128 .bf16 :=
  truncf .bf16 (pad S2048x128 ![0, 0] ![0, 112] ![0, 0] W (sitofp .f32 (constantI S_ 32 0#32))
    pads_S2048x16_S2048x128_000_01120 h_S_) bitsLt_bf16_f32

/-- The matrix that the region reads. -/
theorem w_pack (c : Dev nD) : V m c main_v1 = pack (m ((c : Thread nD τ).loc main_arg2)) := by
  show StableHlo.after ([hostOps0, hostOps0_1, hostOps0_2].flatten) (fun b => m (c, b)) (Proc.devRef .tc main_v1) = _
  simp only [hostOps0, hostOps0_1, hostOps0_2, List.flatten_cons, List.flatten_nil, List.append_nil, List.cons_append, List.nil_append]
  after_results_simp <;> rfl

/-- The gains as the region reads them. -/
theorem g_pack (c : Dev nD) : V m c main_v2 = shapeCast S1x2048 (m ((c : Thread nD τ).loc main_arg1) : FVec Ideal S2048 .f32)
    shapeCasts_S2048_S1x2048 := by
  show StableHlo.after ([hostOps0, hostOps0_1, hostOps0_2].flatten) (fun b => m (c, b)) (Proc.devRef .tc main_v2) = _
  simp only [hostOps0, hostOps0_1, hostOps0_2, List.flatten_cons, List.flatten_nil, List.append_nil, List.cons_append, List.nil_append]
  after_results_simp <;> rfl

theorem g_at (c : Dev nD) (t : Fin cfg0.N) (k : Fin 2048) :
    iblk m c 1 t (ix2 0 k) = m ((c : Thread nD τ).loc main_arg1) (ix1 k) := by
  have e : ((cfg0.win 1).blk t).view.emb (ix2 0 k) = ix2 0 k :=
    Glue.ix2_ext (by blk_simp [idx t]) (by blk_simp [idx t])
  unfold iblk
  refine (congrArg (V m c main_v2) e).trans ?_
  rw [g_pack]
  pointwise

/-- The rows of a block are the reference's normalised rows. -/
theorem row_at (c : Dev nD) (t : Fin cfg0.N) (r : Fin 512) (k : Fin 2048) (R : Fin 16384) (hR : R.val = t.val * 512 + r.val) :
    k0_pay1 (F := Ideal) (iblk m c 0 t) (iblk m c 1 t) (ix2 r k)
    = HN (m ((c : Thread nD τ).loc main_arg0)) (m ((c : Thread nD τ).loc main_arg1)) (ix2 R k) := by
  pointwise [k0_pay1, HN, val_main_v12, val_main_v11, val_main_v10, val_main_v9, val_main_v8, val_main_v7,
    val_main_v6, val_main_v5, val_main_v4, val_main_v3, val_main_v2, val_main_v1, val_main_v0, val_main_cst,
    val_main_cst_0, val_main_cst_1]
  blk_point [iblk, V, idx t]
  exact g_at m c t k

/-- An expert's column of the padded matrix is the expert's. -/
theorem w_at (c : Dev nD) (t : Fin cfg0.N) (k : Fin 2048) (l : Fin 128) (j : Fin 16) (hl : l.val = j.val) :
    iblk m c 2 t (ix2 k l) = m ((c : Thread nD τ).loc main_arg2) (ix2 k j) := by
  have e : ((cfg0.win 2).blk t).view.emb (ix2 k l) = ix2 k l :=
    Glue.ix2_ext (by blk_simp [idx t]) (by blk_simp [idx t])
  unfold iblk
  refine (congrArg (V m c main_v1) e).trans ?_
  rw [w_pack]
  pointwise [pack]
  rw [dif_pos (by omega)]
  exact congrArg (m ((c : Thread nD τ).loc main_arg2)) (Glue.ix2_ext rfl hl)

/-- The affinities of a block are the reference's. -/
theorem aff_at (c : Dev nD) (t : Fin cfg0.N) (hX : ∀ i, Fin' (m ((c : Thread nD τ).loc main_arg0) i))
    (hG : ∀ i, Fin' (m ((c : Thread nD τ).loc main_arg1) i)) (hW : ∀ i, Fin' (m ((c : Thread nD τ).loc main_arg2) i))
    (r : Fin 512) (l : Fin 128) (R : Fin 16384) (hR : R.val = t.val * 512 + r.val) :
    k0_pay2 (F := Ideal) (iblk m c 0 t) (iblk m c 1 t) (iblk m c 2 t) (ix2 r l)
    = val_main_v26 (F := Ideal) (m ((c : Thread nD τ).loc main_arg0)) (m ((c : Thread nD τ).loc main_arg1))
        (m ((c : Thread nD τ).loc main_arg2)) (ix2 R l) := by
  rw [pay_aff, ref_aff]
  refine Route.aff_eq (logits_fin _ _ _ hX hG hW R) (shift_fin _ _ _ hX hG hW R) (fun j => ?_) l
  rw [logits_eq]
  exact Finset.sum_congr rfl fun k _ => congrArg₂ (fun y z : EReal => y * z) (row_at m c t r k R hR) (w_at m c t k _ j rfl)

/-- The transposed affinities. -/
theorem final_t (c : Dev nD) (hX : ∀ i, Fin' (m ((c : Thread nD τ).loc main_arg0) i))
    (hG : ∀ i, Fin' (m ((c : Thread nD τ).loc main_arg1) i)) (hW : ∀ i, Fin' (m ((c : Thread nD τ).loc main_arg2) i)) :
    (dats m 0 c).arrAt 4 (cfgs 0).N
    = val_main_v28 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  have h0 : (((cfg0.win 4).blk t).view.emb y 0).val = (y 0).val := by blk_simp [idx t]
  have h1 : (((cfg0.win 4).blk t).view.emb y 1).val = t.val * 512 + (y 1).val := by blk_simp [idx t]
  obtain ⟨l, R, e, hl, hR⟩ : ∃ (l : Fin 128) (R : Fin 16384), ((cfg0.win 4).blk t).view.emb y = ix2 l R
      ∧ l.val = (y 0).val ∧ R.val = t.val * 512 + (y 1).val := ⟨_, _, Glue.ix2_ext rfl rfl, h0, h1⟩
  obtain ⟨r, hr⟩ : ∃ r : Fin 512, (y 1).val = r.val := ⟨y 1, rfl⟩
  have ey : y = ix2 l r := Glue.ix2_ext hl.symm hr
  blk_simp
  rw [after0_4]
  unfold outsAt0
  frame_out
  rw [e, ey, val_main_v28_apply]
  have p : k0_pay3 (F := Ideal) (iblk m c 0 t) (iblk m c 1 t) (iblk m c 2 t) (ix2 l r)
      = k0_pay2 (F := Ideal) (iblk m c 0 t) (iblk m c 1 t) (iblk m c 2 t) (ix2 r l) := by pointwise [k0_pay3]
  refine (p.trans (aff_at m c t hX hG hW r l R (by rw [hR, hr]))).trans ?_
  exact congrArg (val_main_v26 (F := Ideal) _ _ _) (Glue.ix2_ext rfl rfl).symm

/-- The normalised stream beside the affinities. -/
theorem final_h (c : Dev nD) (hX : ∀ i, Fin' (m ((c : Thread nD τ).loc main_arg0) i))
    (hG : ∀ i, Fin' (m ((c : Thread nD τ).loc main_arg1) i)) (hW : ∀ i, Fin' (m ((c : Thread nD τ).loc main_arg2) i)) :
    (dats m 0 c).arrAt 3 (cfgs 0).N
    = val_main_v27 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  have h0 : (((cfg0.win 3).blk t).view.emb y 0).val = t.val * 512 + (y 0).val := by blk_simp [idx t]
  have h1 : (((cfg0.win 3).blk t).view.emb y 1).val = (y 1).val := by blk_simp [idx t]
  obtain ⟨R, j, e, hR, hj⟩ : ∃ (R : Fin 16384) (j : Fin 2176), ((cfg0.win 3).blk t).view.emb y = ix2 R j
      ∧ R.val = t.val * 512 + (y 0).val ∧ j.val = (y 1).val := ⟨_, _, Glue.ix2_ext rfl rfl, h0, h1⟩
  blk_simp
  rw [after0_3]
  unfold outsAt0
  frame_out
  refine Eq.trans ?_ (congrArg _ e).symm
  canon_tiles x h using (View.cover_of_tiledBy _ ![512, 128] (by sl_kernel_rfl) y)
  · obtain ⟨r, l, rfl⟩ : ∃ (r : Fin 512) (l : Fin 128), x = ix2 r l := ⟨_, _, Glue.ix2_ext rfl rfl⟩
    refine (aff_at m c t hX hG hW r l R (by rw [hR, h0]; rfl)).trans (Eq.symm ?_)
    exact Glue.col _ _ 1 (by simp) _ rfl 2048 rfl R j l (by rw [hj, h1]; rfl)
  · obtain ⟨r, k, rfl⟩ : ∃ (r : Fin 512) (k : Fin 2048), x = ix2 r k := ⟨_, _, Glue.ix2_ext rfl rfl⟩
    refine (row_at m c t r k R (by rw [hR, h0]; rfl)).trans (Eq.symm ?_)
    exact Glue.col _ _ 0 (by simp) _ rfl 0 rfl R j k (by rw [hj, h1]; exact Nat.zero_add _)

end Cert.RouterIdeal.Own

end
-- ==== Proof.RouterPair.lean ====
module

public import proofs.«01_k».proof.Defs
public import proofs.«01_k».proof.Proof.Gen.Pre_finite_router
public import proofs.«01_k».proof.Proof.Gen.RouterRefIdeal.Run
public import proofs.«01_k».proof.Proof.AttnPair
public import proofs.«01_k».proof.Proof.RouterValue
public import Idealize.ShloMosaic.Adequacy
public import Idealize.ShloMosaic.Lib.Claim

@[expose] public section

set_option maxRecDepth 16384

noncomputable section

namespace Cert.Proof

open Idealize.ShloMosaic Idealize.SL.Sem

theorem frame_router_ref : Cert.quiescent_RouterRefIdeal := by
  intro m g _
  exact (θ_run Cert.RouterRefIdeal.defs _ _).mono (fun r h => ⟨fun c => (h c).2.2,
      Idealize.ShloMosaic.sem_eq_zero_of_no_sems (by decide) r.2⟩)
    (Cert.RouterRefIdeal.Value.run (F := Ideal) m g)

theorem frame_router_ref_finite : Cert.quiescent_RouterRefIdeal_pre_finite_router := by
  intro m g _
  exact frame_router_ref m g trivial

set_option maxHeartbeats 1600000 in
theorem algebraic_router : Cert.algebraic_RouterIdeal_RouterRefIdeal_pre_finite_router := by
  pair_intro
  · run_from Cert.RouterIdeal.Gen.run_main m g
    · exact Cert.RouterIdeal.Gen.V_main_arg1 m c
    · exact Cert.RouterIdeal.Gen.V_main_arg2 m c
  · run_from Cert.RouterRefIdeal.Value.run m' g'
    all_goals have hp := hpre c
    · rw [Cert.RouterRefIdeal.Read.val_main_v27_eq m' c, (hagree c).1, (hagree c).2.1, (hagree c).2.2]
      exact (Cert.RouterIdeal.Own.final_h m c (fun i => finite_of_abs_lt _ (congrFun hp.1 i))
        (fun i => finite_of_abs_lt _ (congrFun hp.2.1 i)) (fun i => finite_of_abs_lt _ (congrFun hp.2.2 i))).symm
    · rw [Cert.RouterRefIdeal.Read.val_main_v28_eq m' c, (hagree c).1, (hagree c).2.1, (hagree c).2.2]
      exact (Cert.RouterIdeal.Own.final_t m c (fun i => finite_of_abs_lt _ (congrFun hp.1 i))
        (fun i => finite_of_abs_lt _ (congrFun hp.2.1 i)) (fun i => finite_of_abs_lt _ (congrFun hp.2.2 i))).symm

end Cert.Proof

end
-- ==== Proof.lean ====
module

public import proofs.«01_k».proof.Proof.Gen.Router.Frame
public import proofs.«01_k».proof.Proof.Gen.RouterIdeal.Value
public import proofs.«01_k».proof.Proof.Gen.RouterIdeal.Frame
public import proofs.«01_k».proof.Proof.Gen.RouterRefIdeal.Run
public import proofs.«01_k».proof.Proof.Gen.RouterRefIdeal.Read
public import proofs.«01_k».proof.Proof.Gen.Filter.Frame
public import proofs.«01_k».proof.Proof.Gen.FilterIdeal.Value
public import proofs.«01_k».proof.Proof.Gen.FilterIdeal.Frame
public import proofs.«01_k».proof.Proof.Gen.FilterRefIdeal.Run
public import proofs.«01_k».proof.Proof.Gen.FilterRefIdeal.Read
public import proofs.«01_k».proof.Proof.Gen.SsdPre.Frame
public import proofs.«01_k».proof.Proof.Gen.SsdPreIdeal.Value
public import proofs.«01_k».proof.Proof.Gen.SsdPreIdeal.Frame
public import proofs.«01_k».proof.Proof.Gen.SsdPreRefIdeal.Run
public import proofs.«01_k».proof.Proof.Gen.SsdPreRefIdeal.Read
public import proofs.«01_k».proof.Proof.Gen.HyenaPre.Frame
public import proofs.«01_k».proof.Proof.Gen.HyenaPreIdeal.Value
public import proofs.«01_k».proof.Proof.Gen.HyenaPreIdeal.Frame
public import proofs.«01_k».proof.Proof.Gen.HyenaPreRefIdeal.Run
public import proofs.«01_k».proof.Proof.Gen.HyenaPreRefIdeal.Read
public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.Pre_finite_scores
public import proofs.«01_k».proof.Proof.Gen.Pre_finite_router
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.RopeIdeal.Value
public import proofs.«01_k».proof.Proof.Gen.RopeRefIdeal.Run
public import proofs.«01_k».proof.Proof.Gen.RopeRefIdeal.Read
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.OutIdeal.Value
public import proofs.«01_k».proof.Proof.Gen.OutRefIdeal.Run
public import proofs.«01_k».proof.Proof.Gen.OutRefIdeal.Read
public import proofs.«01_k».proof.Proof.Gen.FinalIdeal.Value
public import proofs.«01_k».proof.Proof.Gen.FinalRefIdeal.Run
public import proofs.«01_k».proof.Proof.Gen.FinalRefIdeal.Read
public import proofs.«01_k».proof.Proof.AttnPair
public import proofs.«01_k».proof.Proof.Pairs
public import proofs.«01_k».proof.Proof.ConvPairs
public import proofs.«01_k».proof.Proof.FilterPair
public import proofs.«01_k».proof.Proof.RouterPair
public import Idealize.ShloMosaic.Adequacy
public import Idealize.ShloMosaic.Init

@[expose] public section

noncomputable section

namespace Cert.Proof

open Idealize.ShloMosaic Idealize.SL.Sem Cert.Attn

theorem claim : Cert.Claim := ⟨Cert.Attn.Gen.facts, Cert.AttnIdeal.Gen.facts, Cert.AttnRefIdeal.Gen.facts, Cert.Rope.Gen.facts, Cert.RopeIdeal.Gen.facts, Cert.RopeRefIdeal.Gen.facts, Cert.Proj.Gen.facts, Cert.ProjIdeal.Gen.facts, Cert.ProjRefIdeal.Gen.facts, Cert.Merge.Gen.facts, Cert.MergeIdeal.Gen.facts, Cert.MergeRefIdeal.Gen.facts, Cert.Out.Gen.facts, Cert.OutIdeal.Gen.facts, Cert.OutRefIdeal.Gen.facts, Cert.Final.Gen.facts, Cert.FinalIdeal.Gen.facts, Cert.FinalRefIdeal.Gen.facts, Cert.Router.Gen.facts, Cert.RouterIdeal.Gen.facts, Cert.RouterRefIdeal.Gen.facts, Cert.SsdPre.Gen.facts, Cert.SsdPreIdeal.Gen.facts, Cert.SsdPreRefIdeal.Gen.facts, Cert.HyenaPre.Gen.facts, Cert.HyenaPreIdeal.Gen.facts, Cert.HyenaPreRefIdeal.Gen.facts, Cert.Filter.Gen.facts, Cert.FilterIdeal.Gen.facts, Cert.FilterRefIdeal.Gen.facts, Cert.Pre_finite_scores.Gen.facts, Cert.Pre_finite_router.Gen.facts,
  fun m ρ _ => Cert.Attn.Gen.frame m ρ,
  fun m ρ _ => Cert.AttnIdeal.Gen.frame m ρ,
  fun m ρ _ => Cert.AttnIdeal.Gen.frame m ρ,
  frame_attn_ref,
  frame_attn_ref_finite,
  fun m ρ _ => Cert.Rope.Gen.frame m ρ,
  fun m ρ _ => Cert.RopeIdeal.Gen.frame m ρ,
  frame_rope_ref,
  fun m ρ _ => Cert.Proj.Gen.frame m ρ,
  fun m ρ _ => Cert.ProjIdeal.Gen.frame m ρ,
  frame_proj_ref,
  fun m ρ _ => Cert.Merge.Gen.frame m ρ,
  fun m ρ _ => Cert.MergeIdeal.Gen.frame m ρ,
  frame_merge_ref,
  fun m ρ _ => Cert.Out.Gen.frame m ρ,
  fun m ρ _ => Cert.OutIdeal.Gen.frame m ρ,
  frame_out_ref,
  fun m ρ _ => Cert.Final.Gen.frame m ρ,
  fun m ρ _ => Cert.FinalIdeal.Gen.frame m ρ,
  frame_final_ref,
  fun m ρ _ => Cert.Router.Gen.frame m ρ,
  fun m ρ _ => Cert.RouterIdeal.Gen.frame m ρ,
  fun m ρ _ => Cert.RouterIdeal.Gen.frame m ρ,
  frame_router_ref,
  frame_router_ref_finite,
  fun m ρ _ => Cert.SsdPre.Gen.frame m ρ,
  fun m ρ _ => Cert.SsdPreIdeal.Gen.frame m ρ,
  frame_ssd_pre_ref,
  fun m ρ _ => Cert.HyenaPre.Gen.frame m ρ,
  fun m ρ _ => Cert.HyenaPreIdeal.Gen.frame m ρ,
  frame_hyena_pre_ref,
  fun m ρ _ => Cert.Filter.Gen.frame m ρ,
  fun m ρ _ => Cert.FilterIdeal.Gen.frame m ρ,
  frame_filter_ref,
  trivial,
  algebraic_attn,
  trivial,
  algebraic_rope,
  trivial,
  algebraic_proj,
  trivial,
  algebraic_merge,
  trivial,
  algebraic_out,
  trivial,
  algebraic_final,
  trivial,
  algebraic_router,
  trivial,
  algebraic_ssd_pre,
  trivial,
  algebraic_hyena_pre,
  trivial,
  algebraic_filter⟩

end Cert.Proof

end
